-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_temperature_finite [hPre_temperature_finite : Cert.Pre_temperature_finite.Facts] (m : (ℓ : Loc Cert.KernelIdeal.nD Cert.KernelIdeal.τ Cert.KernelIdeal.sig) → Buf (Elt Ideal) ℓ) : Prop :=
  ∀ c : Dev Cert.KernelIdeal.nD,
    (Cert.Pre_temperature_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_temperature_finite [hPre_temperature_finite : Cert.Pre_temperature_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_temperature_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_temperature_finite [hKernelIdeal : Cert.KernelIdeal.Facts] [hPre_temperature_finite : Cert.Pre_temperature_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_temperature_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_temperature_finite [hReferenceIdeal : Cert.ReferenceIdeal.Facts] [hPre_temperature_finite : Cert.Pre_temperature_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_temperature_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_temperature_finite [hKernelIdeal : Cert.KernelIdeal.Facts] [hReferenceIdeal : Cert.ReferenceIdeal.Facts] [hPre_temperature_finite : Cert.Pre_temperature_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_temperature_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v484) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_temperature_finite : Cert.Pre_temperature_finite.Facts),
    quiescent_Kernel (hKernel := hKernel)
    ∧ quiescent_KernelIdeal (hKernelIdeal := hKernelIdeal)
    ∧ quiescent_KernelIdeal_pre_temperature_finite (hKernelIdeal := hKernelIdeal) (hPre_temperature_finite := hPre_temperature_finite)
    ∧ quiescent_ReferenceIdeal (hReferenceIdeal := hReferenceIdeal)
    ∧ quiescent_ReferenceIdeal_pre_temperature_finite (hReferenceIdeal := hReferenceIdeal) (hPre_temperature_finite := hPre_temperature_finite)
    ∧ preserves_Kernel_KernelIdeal
    ∧ algebraic_KernelIdeal_ReferenceIdeal_pre_temperature_finite (hKernelIdeal := hKernelIdeal) (hReferenceIdeal := hReferenceIdeal) (hPre_temperature_finite := hPre_temperature_finite)
-- ==== Pre_temperature_finite.lean ====
abbrev S1x96x384x384 : Shape := ⟨4, ![1, 96, 384, 384]⟩
abbrev S288x96x1x1 : Shape := ⟨4, ![288, 96, 1, 1]⟩
abbrev S288x1x3x3 : Shape := ⟨4, ![288, 1, 3, 3]⟩
abbrev S96x96x1x1 : Shape := ⟨4, ![96, 96, 1, 1]⟩
abbrev S4x1x1 : Shape := ⟨3, ![4, 1, 1]⟩
abbrev S4 : Shape := ⟨1, ![4]⟩
abbrev S96 : Shape := ⟨1, ![96]⟩
abbrev S192x96x1x1 : Shape := ⟨4, ![192, 96, 1, 1]⟩
abbrev S96x1x3x3 : Shape := ⟨4, ![96, 1, 3, 3]⟩
abbrev S_ : Shape := ⟨0, ![]⟩

class Facts : Prop where
  bcast_S_S4x1x1 : S_.BroadcastsInDim S4x1x1 (![] : Fin 0 → Fin S4x1x1.rank)

variable [Facts]

def fn {F : FTy → Type} [FloatOps F] (main_arg0 : FVec F S1x96x384x384 .f32) (main_arg1 : FVec F S288x96x1x1 .f32) (main_arg2 : FVec F S288x1x3x3 .f32) (main_arg3 : FVec F S96x96x1x1 .f32) (main_arg4 : FVec F S4x1x1 .f32) (main_arg5 : FVec F S4 .f32) (main_arg6 : FVec F S96 .f32) (main_arg7 : FVec F S96 .f32) (main_arg8 : FVec F S192x96x1x1 .f32) (main_arg9 : FVec F S96x96x1x1 .f32) (main_arg10 : FVec F S96x1x3x3 .f32) (main_arg11 : FVec F S96x96x1x1 .f32) (main_arg12 : FVec F S96x1x3x3 .f32) (main_arg13 : FVec F S96x96x1x1 .f32) (main_arg14 : FVec F S96x1x3x3 .f32) : IVec S4x1x1 1 :=
  let main_cst : FVec F S_ .f32 := constant S_ .f32 0x7F800000#32
  let main_v0 : FVec F S4x1x1 .f32 := broadcastInDim S4x1x1 ![] bcast_S_S4x1x1 main_cst
  let main_v1 : IVec S4x1x1 1 := cmpf .olt main_arg4 main_v0
  let main_cst_0 : FVec F S_ .f32 := constant S_ .f32 0xFF800000#32
  let main_v2 : FVec F S4x1x1 .f32 := broadcastInDim S4x1x1 ![] bcast_S_S4x1x1 main_cst_0
  let main_v3 : IVec S4x1x1 1 := cmpf .ogt main_arg4 main_v2
  let main_v4 : IVec S4x1x1 1 := andi main_v1 main_v3
  main_v4
-- ==== Kernel.lean ====
abbrev S1x96x384x384 : Shape := ⟨4, ![1, 96, 384, 384]⟩
abbrev S288x96x1x1 : Shape := ⟨4, ![288, 96, 1, 1]⟩
abbrev S288x1x3x3 : Shape := ⟨4, ![288, 1, 3, 3]⟩
abbrev S96x96x1x1 : Shape := ⟨4, ![96, 96, 1, 1]⟩
abbrev S4x1x1 : Shape := ⟨3, ![4, 1, 1]⟩
abbrev S4 : Shape := ⟨1, ![4]⟩
abbrev S96 : Shape := ⟨1, ![96]⟩
abbrev S192x96x1x1 : Shape := ⟨4, ![192, 96, 1, 1]⟩
abbrev S96x1x3x3 : Shape := ⟨4, ![96, 1, 3, 3]⟩
abbrev S96x147456 : Shape := ⟨2, ![96, 147456]⟩
abbrev S288x96 : Shape := ⟨2, ![288, 96]⟩
abbrev S288x9 : Shape := ⟨2, ![288, 9]⟩
abbrev S9x288 : Shape := ⟨2, ![9, 288]⟩
abbrev S9x288x1 : Shape := ⟨3, ![9, 288, 1]⟩
abbrev S96x96 : Shape := ⟨2, ![96, 96]⟩
abbrev S192x96 : Shape := ⟨2, ![192, 96]⟩
abbrev S96x9 : Shape := ⟨2, ![96, 9]⟩
abbrev S9x96 : Shape := ⟨2, ![9, 96]⟩
abbrev S9x96x1 : Shape := ⟨3, ![9, 96, 1]⟩
abbrev S96x1 : Shape := ⟨2, ![96, 1]⟩
abbrev S4x1 : Shape := ⟨2, ![4, 1]⟩
abbrev S96x128 : Shape := ⟨2, ![96, 128]⟩
abbrev S96x384 : Shape := ⟨2, ![96, 384]⟩
abbrev S96x6144 : Shape := ⟨2, ![96, 6144]⟩
abbrev S96x6912 : Shape := ⟨2, ![96, 6912]⟩
abbrev S8x6912 : Shape := ⟨2, ![8, 6912]⟩
abbrev S1x6912 : Shape := ⟨2, ![1, 6912]⟩
abbrev S288x6912 : Shape := ⟨2, ![288, 6912]⟩
abbrev S96x6911 : Shape := ⟨2, ![96, 6911]⟩
abbrev S96x6528 : Shape := ⟨2, ![96, 6528]⟩
abbrev S1x96x1 : Shape := ⟨3, ![1, 96, 1]⟩
abbrev S24x24 : Shape := ⟨2, ![24, 24]⟩
abbrev S24x1 : Shape := ⟨2, ![24, 1]⟩
abbrev S1x1 : Shape := ⟨2, ![1, 1]⟩
abbrev S1x1x24x24 : Shape := ⟨4, ![1, 1, 24, 24]⟩
abbrev S24x24x1x1 : Shape := ⟨4, ![24, 24, 1, 1]⟩
abbrev S24x24x24x24 : Shape := ⟨4, ![24, 24, 24, 24]⟩
abbrev S1x24x24 : Shape := ⟨3, ![1, 24, 24]⟩
abbrev S1 : Shape := ⟨1, ![1]⟩
abbrev S1x1x1 : Shape := ⟨3, ![1, 1, 1]⟩
abbrev S24x72 : Shape := ⟨2, ![24, 72]⟩
abbrev S24x96 : Shape := ⟨2, ![24, 96]⟩
abbrev S24x48 : Shape := ⟨2, ![24, 48]⟩
abbrev S96x1536 : Shape := ⟨2, ![96, 1536]⟩
abbrev S96x9216 : Shape := ⟨2, ![96, 9216]⟩
abbrev S8x9216 : Shape := ⟨2, ![8, 9216]⟩
abbrev S1x9216 : Shape := ⟨2, ![1, 9216]⟩
abbrev S9216 : Shape := ⟨1, ![9216]⟩
abbrev S192x9216 : Shape := ⟨2, ![192, 9216]⟩
abbrev S96x9215 : Shape := ⟨2, ![96, 9215]⟩
abbrev S96x8832 : Shape := ⟨2, ![96, 8832]⟩
abbrev S96x2 : Shape := ⟨2, ![96, 2]⟩
abbrev S96x9214 : Shape := ⟨2, ![96, 9214]⟩
abbrev S96x3 : Shape := ⟨2, ![96, 3]⟩
abbrev S96x9213 : Shape := ⟨2, ![96, 9213]⟩
abbrev S96x768 : Shape := ⟨2, ![96, 768]⟩
abbrev S96x8448 : Shape := ⟨2, ![96, 8448]⟩
abbrev S96x1152 : Shape := ⟨2, ![96, 1152]⟩
abbrev S96x8064 : Shape := ⟨2, ![96, 8064]⟩

abbrev nBuf : Space → Nat
  | .hbm => 51
  | .vmem => 44
  | .smem => 0
  | _ => 0

abbrev bufTy : (tb : Table) → Fin (tcTables nBuf tb) → BufTy
  | .hbm, ⟨0, _⟩ => ⟨S1x96x384x384, .f32⟩
  | .hbm, ⟨1, _⟩ => ⟨S288x96x1x1, .f32⟩
  | .hbm, ⟨2, _⟩ => ⟨S288x1x3x3, .f32⟩
  | .hbm, ⟨3, _⟩ => ⟨S96x96x1x1, .f32⟩
  | .hbm, ⟨4, _⟩ => ⟨S4x1x1, .f32⟩
  | .hbm, ⟨5, _⟩ => ⟨S4, .f32⟩
  | .hbm, ⟨6, _⟩ => ⟨S96, .f32⟩
  | .hbm, ⟨7, _⟩ => ⟨S96, .f32⟩
  | .hbm, ⟨8, _⟩ => ⟨S192x96x1x1, .f32⟩
  | .hbm, ⟨9, _⟩ => ⟨S96x96x1x1, .f32⟩
  | .hbm, ⟨10, _⟩ => ⟨S96x1x3x3, .f32⟩
  | .hbm, ⟨11, _⟩ => ⟨S96x96x1x1, .f32⟩
  | .hbm, ⟨12, _⟩ => ⟨S96x1x3x3, .f32⟩
  | .hbm, ⟨13, _⟩ => ⟨S96x96x1x1, .f32⟩
  | .hbm, ⟨14, _⟩ => ⟨S96x1x3x3, .f32⟩
  | .hbm, ⟨15, _⟩ => ⟨S96x147456, .f32⟩
  | .hbm, ⟨16, _⟩ => ⟨S288x96, .f32⟩
  | .hbm, ⟨17, _⟩ => ⟨S288x96, .bf16⟩
  | .hbm, ⟨18, _⟩ => ⟨S288x9, .f32⟩
  | .hbm, ⟨19, _⟩ => ⟨S9x288, .f32⟩
  | .hbm, ⟨20, _⟩ => ⟨S9x288x1, .f32⟩
  | .hbm, ⟨21, _⟩ => ⟨S96x96, .f32⟩
  | .hbm, ⟨22, _⟩ => ⟨S96x96, .bf16⟩
  | .hbm, ⟨23, _⟩ => ⟨S192x96, .f32⟩
  | .hbm, ⟨24, _⟩ => ⟨S192x96, .bf16⟩
  | .hbm, ⟨25, _⟩ => ⟨S96x96, .f32⟩
  | .hbm, ⟨26, _⟩ => ⟨S96x96, .bf16⟩
  | .hbm, ⟨27, _⟩ => ⟨S96x96, .f32⟩
  | .hbm, ⟨28, _⟩ => ⟨S96x96, .bf16⟩
  | .hbm, ⟨29, _⟩ => ⟨S96x96, .f32⟩
  | .hbm, ⟨30, _⟩ => ⟨S96x96, .bf16⟩
  | .hbm, ⟨31, _⟩ => ⟨S96x9, .f32⟩
  | .hbm, ⟨32, _⟩ => ⟨S9x96, .f32⟩
  | .hbm, ⟨33, _⟩ => ⟨S9x96x1, .f32⟩
  | .hbm, ⟨34, _⟩ => ⟨S96x9, .f32⟩
  | .hbm, ⟨35, _⟩ => ⟨S9x96, .f32⟩
  | .hbm, ⟨36, _⟩ => ⟨S9x96x1, .f32⟩
  | .hbm, ⟨37, _⟩ => ⟨S96x9, .f32⟩
  | .hbm, ⟨38, _⟩ => ⟨S9x96, .f32⟩
  | .hbm, ⟨39, _⟩ => ⟨S9x96x1, .f32⟩
  | .hbm, ⟨40, _⟩ => ⟨S96x1, .f32⟩
  | .hbm, ⟨41, _⟩ => ⟨S96x1, .f32⟩
  | .hbm, ⟨42, _⟩ => ⟨S4x1, .f32⟩
  | .hbm, ⟨43, _⟩ => ⟨S4x1, .f32⟩
  | .hbm, ⟨44, _⟩ => ⟨S96x147456, .f32⟩
  | .hbm, ⟨45, _⟩ => ⟨S96x96, .f32⟩
  | .hbm, ⟨46, _⟩ => ⟨S96x128, .f32⟩
  | .hbm, ⟨47, _⟩ => ⟨S96x128, .f32⟩
  | .hbm, ⟨48, _⟩ => ⟨S96x96, .f32⟩
  | .hbm, ⟨49, _⟩ => ⟨S96x147456, .f32⟩
  | .hbm, ⟨50, _⟩ => ⟨S1x96x384x384, .f32⟩
  | .local _ .vmem, ⟨0, _⟩ => ⟨S96x384, .f32⟩
  | .local _ .vmem, ⟨1, _⟩ => ⟨S96x384, .f32⟩
  | .local _ .vmem, ⟨2, _⟩ => ⟨S96x6144, .f32⟩
  | .local _ .vmem, ⟨3, _⟩ => ⟨S96x6144, .f32⟩
  | .local _ .vmem, ⟨4, _⟩ => ⟨S96x384, .f32⟩
  | .local _ .vmem, ⟨5, _⟩ => ⟨S96x384, .f32⟩
  | .local _ .vmem, ⟨6, _⟩ => ⟨S288x96, .bf16⟩
  | .local _ .vmem, ⟨7, _⟩ => ⟨S9x288x1, .f32⟩
  | .local _ .vmem, ⟨8, _⟩ => ⟨S96x6144, .f32⟩
  | .local _ .vmem, ⟨9, _⟩ => ⟨S96x6144, .f32⟩
  | .local _ .vmem, ⟨10, _⟩ => ⟨S96x96, .f32⟩
  | .local _ .vmem, ⟨11, _⟩ => ⟨S96x128, .f32⟩
  | .local _ .vmem, ⟨12, _⟩ => ⟨S96x128, .f32⟩
  | .local _ .vmem, ⟨13, _⟩ => ⟨S96x96, .f32⟩
  | .local _ .vmem, ⟨14, _⟩ => ⟨S96x128, .f32⟩
  | .local _ .vmem, ⟨15, _⟩ => ⟨S96x128, .f32⟩
  | .local _ .vmem, ⟨16, _⟩ => ⟨S4x1, .f32⟩
  | .local _ .vmem, ⟨17, _⟩ => ⟨S4x1, .f32⟩
  | .local _ .vmem, ⟨18, _⟩ => ⟨S96x96, .f32⟩
  | .local _ .vmem, ⟨19, _⟩ => ⟨S96x1536, .f32⟩
  | .local _ .vmem, ⟨20, _⟩ => ⟨S96x1536, .f32⟩
  | .local _ .vmem, ⟨21, _⟩ => ⟨S96x6144, .f32⟩
  | .local _ .vmem, ⟨22, _⟩ => ⟨S96x6144, .f32⟩
  | .local _ .vmem, ⟨23, _⟩ => ⟨S96x1536, .f32⟩
  | .local _ .vmem, ⟨24, _⟩ => ⟨S96x1536, .f32⟩
  | .local _ .vmem, ⟨25, _⟩ => ⟨S96x1536, .f32⟩
  | .local _ .vmem, ⟨26, _⟩ => ⟨S96x1536, .f32⟩
  | .local _ .vmem, ⟨27, _⟩ => ⟨S96x6144, .f32⟩
  | .local _ .vmem, ⟨28, _⟩ => ⟨S96x6144, .f32⟩
  | .local _ .vmem, ⟨29, _⟩ => ⟨S96x1536, .f32⟩
  | .local _ .vmem, ⟨30, _⟩ => ⟨S96x1536, .f32⟩
  | .local _ .vmem, ⟨31, _⟩ => ⟨S96x96, .f32⟩
  | .local _ .vmem, ⟨32, _⟩ => ⟨S96x96, .bf16⟩
  | .local _ .vmem, ⟨33, _⟩ => ⟨S96x1, .f32⟩
  | .local _ .vmem, ⟨34, _⟩ => ⟨S96x1, .f32⟩
  | .local _ .vmem, ⟨35, _⟩ => ⟨S192x96, .bf16⟩
  | .local _ .vmem, ⟨36, _⟩ => ⟨S96x96, .bf16⟩
  | .local _ .vmem, ⟨37, _⟩ => ⟨S9x96x1, .f32⟩
  | .local _ .vmem, ⟨38, _⟩ => ⟨S96x96, .bf16⟩
  | .local _ .vmem, ⟨39, _⟩ => ⟨S9x96x1, .f32⟩
  | .local _ .vmem, ⟨40, _⟩ => ⟨S96x96, .bf16⟩
  | .local _ .vmem, ⟨41, _⟩ => ⟨S9x96x1, .f32⟩
  | .local _ .vmem, ⟨42, _⟩ => ⟨S96x6144, .f32⟩
  | .local _ .vmem, ⟨43, _⟩ => ⟨S96x6144, .f32⟩
  | _, _ => ⟨S1x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_v29_2 : Ref sig .tc := ⟨.hbm, 46, rfl⟩
abbrev main_v29_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg13_0 : Ref sig .tc := ⟨.vmem, 38, rfl⟩
abbrev cc2_stg14_0 : Ref sig .tc := ⟨.vmem, 39, rfl⟩
abbrev cc2_stg15_0 : Ref sig .tc := ⟨.vmem, 40, rfl⟩
abbrev cc2_stg16_0 : Ref sig .tc := ⟨.vmem, 41, rfl⟩
abbrev cc2_stg17_0 : Ref sig .tc := ⟨.vmem, 42, rfl⟩
abbrev cc2_stg17_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem13_0 : DmaSem sig := 38
abbrev cc2_sem14_0 : DmaSem sig := 39
abbrev cc2_sem15_0 : DmaSem sig := 40
abbrev cc2_sem16_0 : DmaSem sig := 41
abbrev cc2_sem17_0 : DmaSem sig := 42
abbrev cc2_sem17_1 : DmaSem sig := 43

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.addi v0 c16_i32_0
  let c383_i32 : BitVec 32 := 383#32
  let v2 : BitVec 32 := Scalar.minsi v1 c383_i32
  let c0_i32 : BitVec 32 := 0#32
  let c0_i32_1 : BitVec 32 := 0#32
  ![c0_i32.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S96x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S288x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x288x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S96x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S96x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S96x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S96x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![24], ![false]⟩

def cc2_transform_0 (i : grid2.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.addi v0 c4_i32_0
  let c95_i32 : BitVec 32 := 95#32
  let v2 : BitVec 32 := Scalar.minsi v1 c95_i32
  let c0_i32 : BitVec 32 := 0#32
  let c0_i32_1 : BitVec 32 := 0#32
  ![c0_i32.toNat, v2.toNat]

def cc2_transform_3 (i : grid2.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.addi v0 c4_i32_0
  let c95_i32 : BitVec 32 := 95#32
  let v2 : BitVec 32 := Scalar.minsi v1 c95_i32
  let c0_i32 : BitVec 32 := 0#32
  let c0_i32_1 : BitVec 32 := 0#32
  ![c0_i32.toNat, v2.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_17 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S96x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S96x6144 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S96x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S96x1536 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S96x6144 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S96x1536 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S96x96 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S96x96 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S96x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S96x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S192x96 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S96x96 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S9x96x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S96x96 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S9x96x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S96x96 .bf16 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S9x96x1 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 2 → Memref sig .tc .vmem S96x6144 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]
-- ==== ReferenceIdeal.lean ====
abbrev S1x96x384x384 : Shape := ⟨4, ![1, 96, 384, 384]⟩
abbrev S288x96x1x1 : Shape := ⟨4, ![288, 96, 1, 1]⟩
abbrev S288x1x3x3 : Shape := ⟨4, ![288, 1, 3, 3]⟩
abbrev S96x96x1x1 : Shape := ⟨4, ![96, 96, 1, 1]⟩
abbrev S4x1x1 : Shape := ⟨3, ![4, 1, 1]⟩
abbrev S4 : Shape := ⟨1, ![4]⟩
abbrev S96 : Shape := ⟨1, ![96]⟩
abbrev S192x96x1x1 : Shape := ⟨4, ![192, 96, 1, 1]⟩
abbrev S96x1x3x3 : Shape := ⟨4, ![96, 1, 3, 3]⟩
abbrev S96x384x384 : Shape := ⟨3, ![96, 384, 384]⟩
abbrev S288x96 : Shape := ⟨2, ![288, 96]⟩
abbrev S96x147456 : Shape := ⟨2, ![96, 147456]⟩
abbrev S288x147456 : Shape := ⟨2, ![288, 147456]⟩
abbrev S288x384x384 : Shape := ⟨3, ![288, 384, 384]⟩
abbrev S_ : Shape := ⟨0, ![]⟩
abbrev S288x386x386 : Shape := ⟨3, ![288, 386, 386]⟩
abbrev S288x1x1x1 : Shape := ⟨4, ![288, 1, 1, 1]⟩
abbrev S288 : Shape := ⟨1, ![288]⟩
abbrev S288x1x1 : Shape := ⟨3, ![288, 1, 1]⟩
abbrev S4x24x147456 : Shape := ⟨3, ![4, 24, 147456]⟩
abbrev S4x24 : Shape := ⟨2, ![4, 24]⟩
abbrev S4x24x1 : Shape := ⟨3, ![4, 24, 1]⟩
abbrev S4x24x24 : Shape := ⟨3, ![4, 24, 24]⟩
abbrev S4x576 : Shape := ⟨2, ![4, 576]⟩
abbrev S4x1 : Shape := ⟨2, ![4, 1]⟩
abbrev S4x288 : Shape := ⟨2, ![4, 288]⟩
abbrev S4x288x1 : Shape := ⟨3, ![4, 288, 1]⟩
abbrev S4x288x2 : Shape := ⟨3, ![4, 288, 2]⟩
abbrev S4x384 : Shape := ⟨2, ![4, 384]⟩
abbrev S4x384x1 : Shape := ⟨3, ![4, 384, 1]⟩
abbrev S4x384x2 : Shape := ⟨3, ![4, 384, 2]⟩
abbrev S4x432 : Shape := ⟨2, ![4, 432]⟩
abbrev S4x432x1 : Shape := ⟨3, ![4, 432, 1]⟩
abbrev S4x432x2 : Shape := ⟨3, ![4, 432, 2]⟩
abbrev S4x460 : Shape := ⟨2, ![4, 460]⟩
abbrev S4x460x1 : Shape := ⟨3, ![4, 460, 1]⟩
abbrev S4x460x2 : Shape := ⟨3, ![4, 460, 2]⟩
abbrev S1 : Shape := ⟨1, ![1]⟩
abbrev S96x96 : Shape := ⟨2, ![96, 96]⟩
abbrev S384x384 : Shape := ⟨2, ![384, 384]⟩
abbrev S1x384x384 : Shape := ⟨3, ![1, 384, 384]⟩
abbrev S96x1x1 : Shape := ⟨3, ![96, 1, 1]⟩
abbrev S192x96 : Shape := ⟨2, ![192, 96]⟩
abbrev S192x147456 : Shape := ⟨2, ![192, 147456]⟩
abbrev S192x384x384 : Shape := ⟨3, ![192, 384, 384]⟩
abbrev S96x386x386 : Shape := ⟨3, ![96, 386, 386]⟩
abbrev S96x1x1x1 : Shape := ⟨4, ![96, 1, 1, 1]⟩
abbrev S96x192x2x192x2 : Shape := ⟨5, ![96, 192, 2, 192, 2]⟩
abbrev S96x192x192 : Shape := ⟨3, ![96, 192, 192]⟩
abbrev S96x36864 : Shape := ⟨2, ![96, 36864]⟩
abbrev S96x194x194 : Shape := ⟨3, ![96, 194, 194]⟩
abbrev S96x192x2x192 : Shape := ⟨4, ![96, 192, 2, 192]⟩
abbrev S96x384x192 : Shape := ⟨3, ![96, 384, 192]⟩
abbrev S96x384x192x2 : Shape := ⟨4, ![96, 384, 192, 2]⟩

abbrev nBuf : Space → Nat
  | .hbm => 571
  | .vmem => 0
  | .smem => 0
  | _ => 0

abbrev hbmTy0_0 (i : Nat) : BufTy := match i % 128 with
  | 0 => ⟨S1x96x384x384, .f32⟩
  | 1 => ⟨S288x96x1x1, .f32⟩
  | 2 => ⟨S288x1x3x3, .f32⟩
  | 3 => ⟨S96x96x1x1, .f32⟩
  | 4 => ⟨S4x1x1, .f32⟩
  | 5 => ⟨S4, .f32⟩
  | 6 => ⟨S96, .f32⟩
  | 7 => ⟨S96, .f32⟩
  | 8 => ⟨S192x96x1x1, .f32⟩
  | 9 => ⟨S96x96x1x1, .f32⟩
  | 10 => ⟨S96x1x3x3, .f32⟩
  | 11 => ⟨S96x96x1x1, .f32⟩
  | 12 => ⟨S96x1x3x3, .f32⟩
  | 13 => ⟨S96x96x1x1, .f32⟩
  | 14 => ⟨S96x1x3x3, .f32⟩
  | 15 => ⟨S96x384x384, .f32⟩
  | 16 => ⟨S288x96, .f32⟩
  | 17 => ⟨S96x147456, .f32⟩
  | 18 => ⟨S288x147456, .f32⟩
  | 19 => ⟨S288x384x384, .f32⟩
  | 20 => ⟨S_, .i32⟩
  | 21 => ⟨S_, .f32⟩
  | 22 => ⟨S288x386x386, .f32⟩
  | 23 => ⟨S_, .f32⟩
  | 24 => ⟨S288x384x384, .f32⟩
  | 25 => ⟨S288x384x384, .f32⟩
  | 26 => ⟨S288x1x1x1, .f32⟩
  | 27 => ⟨S288, .f32⟩
  | 28 => ⟨S288x1x1, .f32⟩
  | 29 => ⟨S288x384x384, .f32⟩
  | 30 => ⟨S288x384x384, .f32⟩
  | 31 => ⟨S288x384x384, .f32⟩
  | 32 => ⟨S288x384x384, .f32⟩
  | 33 => ⟨S288x1x1x1, .f32⟩
  | 34 => ⟨S288, .f32⟩
  | 35 => ⟨S288x1x1, .f32⟩
  | 36 => ⟨S288x384x384, .f32⟩
  | 37 => ⟨S288x384x384, .f32⟩
  | 38 => ⟨S288x384x384, .f32⟩
  | 39 => ⟨S288x384x384, .f32⟩
  | 40 => ⟨S288x1x1x1, .f32⟩
  | 41 => ⟨S288, .f32⟩
  | 42 => ⟨S288x1x1, .f32⟩
  | 43 => ⟨S288x384x384, .f32⟩
  | 44 => ⟨S288x384x384, .f32⟩
  | 45 => ⟨S288x384x384, .f32⟩
  | 46 => ⟨S288x384x384, .f32⟩
  | 47 => ⟨S288x1x1x1, .f32⟩
  | 48 => ⟨S288, .f32⟩
  | 49 => ⟨S288x1x1, .f32⟩
  | 50 => ⟨S288x384x384, .f32⟩
  | 51 => ⟨S288x384x384, .f32⟩
  | 52 => ⟨S288x384x384, .f32⟩
  | 53 => ⟨S288x384x384, .f32⟩
  | 54 => ⟨S288x1x1x1, .f32⟩
  | 55 => ⟨S288, .f32⟩
  | 56 => ⟨S288x1x1, .f32⟩
  | 57 => ⟨S288x384x384, .f32⟩
  | 58 => ⟨S288x384x384, .f32⟩
  | 59 => ⟨S288x384x384, .f32⟩
  | 60 => ⟨S288x384x384, .f32⟩
  | 61 => ⟨S288x1x1x1, .f32⟩
  | 62 => ⟨S288, .f32⟩
  | 63 => ⟨S288x1x1, .f32⟩
  | 64 => ⟨S288x384x384, .f32⟩
  | 65 => ⟨S288x384x384, .f32⟩
  | 66 => ⟨S288x384x384, .f32⟩
  | 67 => ⟨S288x384x384, .f32⟩
  | 68 => ⟨S288x1x1x1, .f32⟩
  | 69 => ⟨S288, .f32⟩
  | 70 => ⟨S288x1x1, .f32⟩
  | 71 => ⟨S288x384x384, .f32⟩
  | 72 => ⟨S288x384x384, .f32⟩
  | 73 => ⟨S288x384x384, .f32⟩
  | 74 => ⟨S288x384x384, .f32⟩
  | 75 => ⟨S288x1x1x1, .f32⟩
  | 76 => ⟨S288, .f32⟩
  | 77 => ⟨S288x1x1, .f32⟩
  | 78 => ⟨S288x384x384, .f32⟩
  | 79 => ⟨S288x384x384, .f32⟩
  | 80 => ⟨S288x384x384, .f32⟩
  | 81 => ⟨S288x384x384, .f32⟩
  | 82 => ⟨S288x1x1x1, .f32⟩
  | 83 => ⟨S288, .f32⟩
  | 84 => ⟨S288x1x1, .f32⟩
  | 85 => ⟨S288x384x384, .f32⟩
  | 86 => ⟨S288x384x384, .f32⟩
  | 87 => ⟨S288x384x384, .f32⟩
  | 88 => ⟨S96x384x384, .f32⟩
  | 89 => ⟨S96x384x384, .f32⟩
  | 90 => ⟨S96x384x384, .f32⟩
  | 91 => ⟨S4x24x147456, .f32⟩
  | 92 => ⟨S4x24x147456, .f32⟩
  | 93 => ⟨S4x24x147456, .f32⟩
  | 94 => ⟨S4x24x147456, .f32⟩
  | 95 => ⟨S_, .f32⟩
  | 96 => ⟨S4x24, .f32⟩
  | 97 => ⟨S4x24x1, .f32⟩
  | 98 => ⟨S4x24x1, .f32⟩
  | 99 => ⟨S_, .f32⟩
  | 100 => ⟨S4x24x1, .f32⟩
  | 101 => ⟨S4x24x1, .f32⟩
  | 102 => ⟨S4x24x147456, .f32⟩
  | 103 => ⟨S4x24x147456, .f32⟩
  | 104 => ⟨S4x24x147456, .f32⟩
  | 105 => ⟨S_, .f32⟩
  | 106 => ⟨S4x24, .f32⟩
  | 107 => ⟨S4x24x1, .f32⟩
  | 108 => ⟨S4x24x1, .f32⟩
  | 109 => ⟨S_, .f32⟩
  | 110 => ⟨S4x24x1, .f32⟩
  | 111 => ⟨S4x24x1, .f32⟩
  | 112 => ⟨S4x24x147456, .f32⟩
  | 113 => ⟨S4x24x147456, .f32⟩
  | 114 => ⟨S4x24x24, .f32⟩
  | 115 => ⟨S4x24x24, .f32⟩
  | 116 => ⟨S4x24x24, .f32⟩
  | 117 => ⟨S4x576, .f32⟩
  | 118 => ⟨S4, .i32⟩
  | 119 => ⟨S4x1, .i32⟩
  | 120 => ⟨S4x288, .f32⟩
  | 121 => ⟨S4x288, .i32⟩
  | 122 => ⟨S_, .f32⟩
  | 123 => ⟨S4x576, .f32⟩
  | 124 => ⟨S_, .i32⟩
  | 125 => ⟨S4x1, .i32⟩
  | 126 => ⟨S4x1, .i1⟩
  | 127 => ⟨S_, .i32⟩
  | _ => ⟨S1x96x384x384, .f32⟩

abbrev hbmTy0_1 (i : Nat) : BufTy := match i % 128 with
  | 0 => ⟨S4x1, .i32⟩
  | 1 => ⟨S4x1, .i32⟩
  | 2 => ⟨S4x1, .i32⟩
  | 3 => ⟨S_, .i32⟩
  | 4 => ⟨S4x288, .i32⟩
  | 5 => ⟨S4x288, .i1⟩
  | 6 => ⟨S_, .i32⟩
  | 7 => ⟨S4x288, .i32⟩
  | 8 => ⟨S4x288, .i32⟩
  | 9 => ⟨S4x288, .i32⟩
  | 10 => ⟨S4x288, .i32⟩
  | 11 => ⟨S4x288x1, .i32⟩
  | 12 => ⟨S4x288x1, .i32⟩
  | 13 => ⟨S4x288x2, .i32⟩
  | 14 => ⟨S4x576, .f32⟩
  | 15 => ⟨S_, .f32⟩
  | 16 => ⟨S4, .f32⟩
  | 17 => ⟨S_, .f32⟩
  | 18 => ⟨S4, .f32⟩
  | 19 => ⟨S4, .f32⟩
  | 20 => ⟨S4x1, .f32⟩
  | 21 => ⟨S4x576, .f32⟩
  | 22 => ⟨S4x576, .f32⟩
  | 23 => ⟨S4x576, .f32⟩
  | 24 => ⟨S_, .f32⟩
  | 25 => ⟨S4, .f32⟩
  | 26 => ⟨S4x1, .f32⟩
  | 27 => ⟨S4x576, .f32⟩
  | 28 => ⟨S4x576, .f32⟩
  | 29 => ⟨S4x24x24, .f32⟩
  | 30 => ⟨S4x384, .f32⟩
  | 31 => ⟨S4x384, .i32⟩
  | 32 => ⟨S_, .f32⟩
  | 33 => ⟨S4x576, .f32⟩
  | 34 => ⟨S_, .i32⟩
  | 35 => ⟨S4x1, .i32⟩
  | 36 => ⟨S4x1, .i1⟩
  | 37 => ⟨S_, .i32⟩
  | 38 => ⟨S4x1, .i32⟩
  | 39 => ⟨S4x1, .i32⟩
  | 40 => ⟨S4x1, .i32⟩
  | 41 => ⟨S_, .i32⟩
  | 42 => ⟨S4x384, .i32⟩
  | 43 => ⟨S4x384, .i1⟩
  | 44 => ⟨S_, .i32⟩
  | 45 => ⟨S4x384, .i32⟩
  | 46 => ⟨S4x384, .i32⟩
  | 47 => ⟨S4x384, .i32⟩
  | 48 => ⟨S4x384, .i32⟩
  | 49 => ⟨S4x384x1, .i32⟩
  | 50 => ⟨S4x384x1, .i32⟩
  | 51 => ⟨S4x384x2, .i32⟩
  | 52 => ⟨S4x576, .f32⟩
  | 53 => ⟨S_, .f32⟩
  | 54 => ⟨S4, .f32⟩
  | 55 => ⟨S_, .f32⟩
  | 56 => ⟨S4, .f32⟩
  | 57 => ⟨S4, .f32⟩
  | 58 => ⟨S4x1, .f32⟩
  | 59 => ⟨S4x576, .f32⟩
  | 60 => ⟨S4x576, .f32⟩
  | 61 => ⟨S4x576, .f32⟩
  | 62 => ⟨S_, .f32⟩
  | 63 => ⟨S4, .f32⟩
  | 64 => ⟨S4x1, .f32⟩
  | 65 => ⟨S4x576, .f32⟩
  | 66 => ⟨S4x576, .f32⟩
  | 67 => ⟨S4x24x24, .f32⟩
  | 68 => ⟨S4x432, .f32⟩
  | 69 => ⟨S4x432, .i32⟩
  | 70 => ⟨S_, .f32⟩
  | 71 => ⟨S4x576, .f32⟩
  | 72 => ⟨S_, .i32⟩
  | 73 => ⟨S4x1, .i32⟩
  | 74 => ⟨S4x1, .i1⟩
  | 75 => ⟨S_, .i32⟩
  | 76 => ⟨S4x1, .i32⟩
  | 77 => ⟨S4x1, .i32⟩
  | 78 => ⟨S4x1, .i32⟩
  | 79 => ⟨S_, .i32⟩
  | 80 => ⟨S4x432, .i32⟩
  | 81 => ⟨S4x432, .i1⟩
  | 82 => ⟨S_, .i32⟩
  | 83 => ⟨S4x432, .i32⟩
  | 84 => ⟨S4x432, .i32⟩
  | 85 => ⟨S4x432, .i32⟩
  | 86 => ⟨S4x432, .i32⟩
  | 87 => ⟨S4x432x1, .i32⟩
  | 88 => ⟨S4x432x1, .i32⟩
  | 89 => ⟨S4x432x2, .i32⟩
  | 90 => ⟨S4x576, .f32⟩
  | 91 => ⟨S_, .f32⟩
  | 92 => ⟨S4, .f32⟩
  | 93 => ⟨S_, .f32⟩
  | 94 => ⟨S4, .f32⟩
  | 95 => ⟨S4, .f32⟩
  | 96 => ⟨S4x1, .f32⟩
  | 97 => ⟨S4x576, .f32⟩
  | 98 => ⟨S4x576, .f32⟩
  | 99 => ⟨S4x576, .f32⟩
  | 100 => ⟨S_, .f32⟩
  | 101 => ⟨S4, .f32⟩
  | 102 => ⟨S4x1, .f32⟩
  | 103 => ⟨S4x576, .f32⟩
  | 104 => ⟨S4x576, .f32⟩
  | 105 => ⟨S4x24x24, .f32⟩
  | 106 => ⟨S4x460, .f32⟩
  | 107 => ⟨S4x460, .i32⟩
  | 108 => ⟨S_, .f32⟩
  | 109 => ⟨S4x576, .f32⟩
  | 110 => ⟨S_, .i32⟩
  | 111 => ⟨S4x1, .i32⟩
  | 112 => ⟨S4x1, .i1⟩
  | 113 => ⟨S_, .i32⟩
  | 114 => ⟨S4x1, .i32⟩
  | 115 => ⟨S4x1, .i32⟩
  | 116 => ⟨S4x1, .i32⟩
  | 117 => ⟨S_, .i32⟩
  | 118 => ⟨S4x460, .i32⟩
  | 119 => ⟨S4x460, .i1⟩
  | 120 => ⟨S_, .i32⟩
  | 121 => ⟨S4x460, .i32⟩
  | 122 => ⟨S4x460, .i32⟩
  | 123 => ⟨S4x460, .i32⟩
  | 124 => ⟨S4x460, .i32⟩
  | 125 => ⟨S4x460x1, .i32⟩
  | 126 => ⟨S4x460x1, .i32⟩
  | 127 => ⟨S4x460x2, .i32⟩
  | _ => ⟨S1x96x384x384, .f32⟩

abbrev hbmTy0_2 (i : Nat) : BufTy := match i % 128 with
  | 0 => ⟨S4x576, .f32⟩
  | 1 => ⟨S_, .f32⟩
  | 2 => ⟨S4, .f32⟩
  | 3 => ⟨S_, .f32⟩
  | 4 => ⟨S4, .f32⟩
  | 5 => ⟨S4, .f32⟩
  | 6 => ⟨S4x1, .f32⟩
  | 7 => ⟨S4x576, .f32⟩
  | 8 => ⟨S4x576, .f32⟩
  | 9 => ⟨S4x576, .f32⟩
  | 10 => ⟨S_, .f32⟩
  | 11 => ⟨S4, .f32⟩
  | 12 => ⟨S4x1, .f32⟩
  | 13 => ⟨S4x576, .f32⟩
  | 14 => ⟨S4x576, .f32⟩
  | 15 => ⟨S4x24x24, .f32⟩
  | 16 => ⟨S1, .f32⟩
  | 17 => ⟨S_, .f32⟩
  | 18 => ⟨S4x24x24, .f32⟩
  | 19 => ⟨S4x24x24, .f32⟩
  | 20 => ⟨S1, .f32⟩
  | 21 => ⟨S_, .f32⟩
  | 22 => ⟨S4x24x24, .f32⟩
  | 23 => ⟨S4x24x24, .f32⟩
  | 24 => ⟨S4x24x24, .f32⟩
  | 25 => ⟨S1, .f32⟩
  | 26 => ⟨S_, .f32⟩
  | 27 => ⟨S4x24x24, .f32⟩
  | 28 => ⟨S4x24x24, .f32⟩
  | 29 => ⟨S4x24x24, .f32⟩
  | 30 => ⟨S1, .f32⟩
  | 31 => ⟨S_, .f32⟩
  | 32 => ⟨S4x24x24, .f32⟩
  | 33 => ⟨S4x24x24, .f32⟩
  | 34 => ⟨S4x24x24, .f32⟩
  | 35 => ⟨S4x24x147456, .f32⟩
  | 36 => ⟨S96x384x384, .f32⟩
  | 37 => ⟨S96x96, .f32⟩
  | 38 => ⟨S96x147456, .f32⟩
  | 39 => ⟨S96x147456, .f32⟩
  | 40 => ⟨S96x384x384, .f32⟩
  | 41 => ⟨S96x384x384, .f32⟩
  | 42 => ⟨S_, .f32⟩
  | 43 => ⟨S384x384, .f32⟩
  | 44 => ⟨S1x384x384, .f32⟩
  | 45 => ⟨S_, .f32⟩
  | 46 => ⟨S1x384x384, .f32⟩
  | 47 => ⟨S1x384x384, .f32⟩
  | 48 => ⟨S96x384x384, .f32⟩
  | 49 => ⟨S96x384x384, .f32⟩
  | 50 => ⟨S96x384x384, .f32⟩
  | 51 => ⟨S_, .f32⟩
  | 52 => ⟨S384x384, .f32⟩
  | 53 => ⟨S1x384x384, .f32⟩
  | 54 => ⟨S_, .f32⟩
  | 55 => ⟨S1x384x384, .f32⟩
  | 56 => ⟨S1x384x384, .f32⟩
  | 57 => ⟨S96x384x384, .f32⟩
  | 58 => ⟨S96x384x384, .f32⟩
  | 59 => ⟨S_, .f32⟩
  | 60 => ⟨S1x384x384, .f32⟩
  | 61 => ⟨S1x384x384, .f32⟩
  | 62 => ⟨S1x384x384, .f32⟩
  | 63 => ⟨S96x384x384, .f32⟩
  | 64 => ⟨S96x384x384, .f32⟩
  | 65 => ⟨S96x1x1, .f32⟩
  | 66 => ⟨S96x384x384, .f32⟩
  | 67 => ⟨S96x384x384, .f32⟩
  | 68 => ⟨S96x1x1, .f32⟩
  | 69 => ⟨S96x384x384, .f32⟩
  | 70 => ⟨S96x384x384, .f32⟩
  | 71 => ⟨S192x96, .f32⟩
  | 72 => ⟨S96x147456, .f32⟩
  | 73 => ⟨S192x147456, .f32⟩
  | 74 => ⟨S192x384x384, .f32⟩
  | 75 => ⟨S_, .f32⟩
  | 76 => ⟨S192x384x384, .f32⟩
  | 77 => ⟨S192x384x384, .f32⟩
  | 78 => ⟨S192x384x384, .f32⟩
  | 79 => ⟨S_, .f32⟩
  | 80 => ⟨S192x384x384, .f32⟩
  | 81 => ⟨S192x384x384, .f32⟩
  | 82 => ⟨S192x384x384, .f32⟩
  | 83 => ⟨S192x384x384, .f32⟩
  | 84 => ⟨S96x384x384, .f32⟩
  | 85 => ⟨S96x384x384, .f32⟩
  | 86 => ⟨S96x96, .f32⟩
  | 87 => ⟨S96x147456, .f32⟩
  | 88 => ⟨S96x147456, .f32⟩
  | 89 => ⟨S96x384x384, .f32⟩
  | 90 => ⟨S_, .i32⟩
  | 91 => ⟨S_, .f32⟩
  | 92 => ⟨S96x386x386, .f32⟩
  | 93 => ⟨S_, .f32⟩
  | 94 => ⟨S96x384x384, .f32⟩
  | 95 => ⟨S96x384x384, .f32⟩
  | 96 => ⟨S96x1x1x1, .f32⟩
  | 97 => ⟨S96, .f32⟩
  | 98 => ⟨S96x1x1, .f32⟩
  | 99 => ⟨S96x384x384, .f32⟩
  | 100 => ⟨S96x384x384, .f32⟩
  | 101 => ⟨S96x384x384, .f32⟩
  | 102 => ⟨S96x384x384, .f32⟩
  | 103 => ⟨S96x1x1x1, .f32⟩
  | 104 => ⟨S96, .f32⟩
  | 105 => ⟨S96x1x1, .f32⟩
  | 106 => ⟨S96x384x384, .f32⟩
  | 107 => ⟨S96x384x384, .f32⟩
  | 108 => ⟨S96x384x384, .f32⟩
  | 109 => ⟨S96x384x384, .f32⟩
  | 110 => ⟨S96x1x1x1, .f32⟩
  | 111 => ⟨S96, .f32⟩
  | 112 => ⟨S96x1x1, .f32⟩
  | 113 => ⟨S96x384x384, .f32⟩
  | 114 => ⟨S96x384x384, .f32⟩
  | 115 => ⟨S96x384x384, .f32⟩
  | 116 => ⟨S96x384x384, .f32⟩
  | 117 => ⟨S96x1x1x1, .f32⟩
  | 118 => ⟨S96, .f32⟩
  | 119 => ⟨S96x1x1, .f32⟩
  | 120 => ⟨S96x384x384, .f32⟩
  | 121 => ⟨S96x384x384, .f32⟩
  | 122 => ⟨S96x384x384, .f32⟩
  | 123 => ⟨S96x384x384, .f32⟩
  | 124 => ⟨S96x1x1x1, .f32⟩
  | 125 => ⟨S96, .f32⟩
  | 126 => ⟨S96x1x1, .f32⟩
  | 127 => ⟨S96x384x384, .f32⟩
  | _ => ⟨S1x96x384x384, .f32⟩

abbrev hbmTy0_3 (i : Nat) : BufTy := match i % 128 with
  | 0 => ⟨S96x384x384, .f32⟩
  | 1 => ⟨S96x384x384, .f32⟩
  | 2 => ⟨S96x384x384, .f32⟩
  | 3 => ⟨S96x1x1x1, .f32⟩
  | 4 => ⟨S96, .f32⟩
  | 5 => ⟨S96x1x1, .f32⟩
  | 6 => ⟨S96x384x384, .f32⟩
  | 7 => ⟨S96x384x384, .f32⟩
  | 8 => ⟨S96x384x384, .f32⟩
  | 9 => ⟨S96x384x384, .f32⟩
  | 10 => ⟨S96x1x1x1, .f32⟩
  | 11 => ⟨S96, .f32⟩
  | 12 => ⟨S96x1x1, .f32⟩
  | 13 => ⟨S96x384x384, .f32⟩
  | 14 => ⟨S96x384x384, .f32⟩
  | 15 => ⟨S96x384x384, .f32⟩
  | 16 => ⟨S96x384x384, .f32⟩
  | 17 => ⟨S96x1x1x1, .f32⟩
  | 18 => ⟨S96, .f32⟩
  | 19 => ⟨S96x1x1, .f32⟩
  | 20 => ⟨S96x384x384, .f32⟩
  | 21 => ⟨S96x384x384, .f32⟩
  | 22 => ⟨S96x384x384, .f32⟩
  | 23 => ⟨S96x384x384, .f32⟩
  | 24 => ⟨S96x1x1x1, .f32⟩
  | 25 => ⟨S96, .f32⟩
  | 26 => ⟨S96x1x1, .f32⟩
  | 27 => ⟨S96x384x384, .f32⟩
  | 28 => ⟨S96x384x384, .f32⟩
  | 29 => ⟨S96x384x384, .f32⟩
  | 30 => ⟨S96x192x2x192x2, .f32⟩
  | 31 => ⟨S_, .f32⟩
  | 32 => ⟨S96x192x192, .f32⟩
  | 33 => ⟨S_, .f32⟩
  | 34 => ⟨S96x192x192, .f32⟩
  | 35 => ⟨S96x192x192, .f32⟩
  | 36 => ⟨S96x96, .f32⟩
  | 37 => ⟨S96x36864, .f32⟩
  | 38 => ⟨S96x36864, .f32⟩
  | 39 => ⟨S96x192x192, .f32⟩
  | 40 => ⟨S_, .i32⟩
  | 41 => ⟨S_, .f32⟩
  | 42 => ⟨S96x194x194, .f32⟩
  | 43 => ⟨S_, .f32⟩
  | 44 => ⟨S96x192x192, .f32⟩
  | 45 => ⟨S96x192x192, .f32⟩
  | 46 => ⟨S96x1x1x1, .f32⟩
  | 47 => ⟨S96, .f32⟩
  | 48 => ⟨S96x1x1, .f32⟩
  | 49 => ⟨S96x192x192, .f32⟩
  | 50 => ⟨S96x192x192, .f32⟩
  | 51 => ⟨S96x192x192, .f32⟩
  | 52 => ⟨S96x192x192, .f32⟩
  | 53 => ⟨S96x1x1x1, .f32⟩
  | 54 => ⟨S96, .f32⟩
  | 55 => ⟨S96x1x1, .f32⟩
  | 56 => ⟨S96x192x192, .f32⟩
  | 57 => ⟨S96x192x192, .f32⟩
  | 58 => ⟨S96x192x192, .f32⟩
  | 59 => ⟨S96x192x192, .f32⟩
  | 60 => ⟨S96x1x1x1, .f32⟩
  | 61 => ⟨S96, .f32⟩
  | 62 => ⟨S96x1x1, .f32⟩
  | 63 => ⟨S96x192x192, .f32⟩
  | 64 => ⟨S96x192x192, .f32⟩
  | 65 => ⟨S96x192x192, .f32⟩
  | 66 => ⟨S96x192x192, .f32⟩
  | 67 => ⟨S96x1x1x1, .f32⟩
  | 68 => ⟨S96, .f32⟩
  | 69 => ⟨S96x1x1, .f32⟩
  | 70 => ⟨S96x192x192, .f32⟩
  | 71 => ⟨S96x192x192, .f32⟩
  | 72 => ⟨S96x192x192, .f32⟩
  | 73 => ⟨S96x192x192, .f32⟩
  | 74 => ⟨S96x1x1x1, .f32⟩
  | 75 => ⟨S96, .f32⟩
  | 76 => ⟨S96x1x1, .f32⟩
  | 77 => ⟨S96x192x192, .f32⟩
  | 78 => ⟨S96x192x192, .f32⟩
  | 79 => ⟨S96x192x192, .f32⟩
  | 80 => ⟨S96x192x192, .f32⟩
  | 81 => ⟨S96x1x1x1, .f32⟩
  | 82 => ⟨S96, .f32⟩
  | 83 => ⟨S96x1x1, .f32⟩
  | 84 => ⟨S96x192x192, .f32⟩
  | 85 => ⟨S96x192x192, .f32⟩
  | 86 => ⟨S96x192x192, .f32⟩
  | 87 => ⟨S96x192x192, .f32⟩
  | 88 => ⟨S96x1x1x1, .f32⟩
  | 89 => ⟨S96, .f32⟩
  | 90 => ⟨S96x1x1, .f32⟩
  | 91 => ⟨S96x192x192, .f32⟩
  | 92 => ⟨S96x192x192, .f32⟩
  | 93 => ⟨S96x192x192, .f32⟩
  | 94 => ⟨S96x192x192, .f32⟩
  | 95 => ⟨S96x1x1x1, .f32⟩
  | 96 => ⟨S96, .f32⟩
  | 97 => ⟨S96x1x1, .f32⟩
  | 98 => ⟨S96x192x192, .f32⟩
  | 99 => ⟨S96x192x192, .f32⟩
  | 100 => ⟨S96x192x192, .f32⟩
  | 101 => ⟨S96x192x192, .f32⟩
  | 102 => ⟨S96x1x1x1, .f32⟩
  | 103 => ⟨S96, .f32⟩
  | 104 => ⟨S96x1x1, .f32⟩
  | 105 => ⟨S96x192x192, .f32⟩
  | 106 => ⟨S96x192x192, .f32⟩
  | 107 => ⟨S96x192x192, .f32⟩
  | 108 => ⟨S96x192x2x192, .f32⟩
  | 109 => ⟨S96x384x192, .f32⟩
  | 110 => ⟨S96x384x192x2, .f32⟩
  | 111 => ⟨S96x384x384, .f32⟩
  | 112 => ⟨S96x384x384, .f32⟩
  | 113 => ⟨S96x96, .f32⟩
  | 114 => ⟨S96x147456, .f32⟩
  | 115 => ⟨S96x147456, .f32⟩
  | 116 => ⟨S96x384x384, .f32⟩
  | 117 => ⟨S_, .i32⟩
  | 118 => ⟨S_, .f32⟩
  | 119 => ⟨S96x386x386, .f32⟩
  | 120 => ⟨S_, .f32⟩
  | 121 => ⟨S96x384x384, .f32⟩
  | 122 => ⟨S96x384x384, .f32⟩
  | 123 => ⟨S96x1x1x1, .f32⟩
  | 124 => ⟨S96, .f32⟩
  | 125 => ⟨S96x1x1, .f32⟩
  | 126 => ⟨S96x384x384, .f32⟩
  | 127 => ⟨S96x384x384, .f32⟩
  | _ => ⟨S1x96x384x384, .f32⟩

abbrev hbmTy0_4 (i : Nat) : BufTy := match i % 128 with
  | 0 => ⟨S96x384x384, .f32⟩
  | 1 => ⟨S96x384x384, .f32⟩
  | 2 => ⟨S96x1x1x1, .f32⟩
  | 3 => ⟨S96, .f32⟩
  | 4 => ⟨S96x1x1, .f32⟩
  | 5 => ⟨S96x384x384, .f32⟩
  | 6 => ⟨S96x384x384, .f32⟩
  | 7 => ⟨S96x384x384, .f32⟩
  | 8 => ⟨S96x384x384, .f32⟩
  | 9 => ⟨S96x1x1x1, .f32⟩
  | 10 => ⟨S96, .f32⟩
  | 11 => ⟨S96x1x1, .f32⟩
  | 12 => ⟨S96x384x384, .f32⟩
  | 13 => ⟨S96x384x384, .f32⟩
  | 14 => ⟨S96x384x384, .f32⟩
  | 15 => ⟨S96x384x384, .f32⟩
  | 16 => ⟨S96x1x1x1, .f32⟩
  | 17 => ⟨S96, .f32⟩
  | 18 => ⟨S96x1x1, .f32⟩
  | 19 => ⟨S96x384x384, .f32⟩
  | 20 => ⟨S96x384x384, .f32⟩
  | 21 => ⟨S96x384x384, .f32⟩
  | 22 => ⟨S96x384x384, .f32⟩
  | 23 => ⟨S96x1x1x1, .f32⟩
  | 24 => ⟨S96, .f32⟩
  | 25 => ⟨S96x1x1, .f32⟩
  | 26 => ⟨S96x384x384, .f32⟩
  | 27 => ⟨S96x384x384, .f32⟩
  | 28 => ⟨S96x384x384, .f32⟩
  | 29 => ⟨S96x384x384, .f32⟩
  | 30 => ⟨S96x1x1x1, .f32⟩
  | 31 => ⟨S96, .f32⟩
  | 32 => ⟨S96x1x1, .f32⟩
  | 33 => ⟨S96x384x384, .f32⟩
  | 34 => ⟨S96x384x384, .f32⟩
  | 35 => ⟨S96x384x384, .f32⟩
  | 36 => ⟨S96x384x384, .f32⟩
  | 37 => ⟨S96x1x1x1, .f32⟩
  | 38 => ⟨S96, .f32⟩
  | 39 => ⟨S96x1x1, .f32⟩
  | 40 => ⟨S96x384x384, .f32⟩
  | 41 => ⟨S96x384x384, .f32⟩
  | 42 => ⟨S96x384x384, .f32⟩
  | 43 => ⟨S96x384x384, .f32⟩
  | 44 => ⟨S96x1x1x1, .f32⟩
  | 45 => ⟨S96, .f32⟩
  | 46 => ⟨S96x1x1, .f32⟩
  | 47 => ⟨S96x384x384, .f32⟩
  | 48 => ⟨S96x384x384, .f32⟩
  | 49 => ⟨S96x384x384, .f32⟩
  | 50 => ⟨S96x384x384, .f32⟩
  | 51 => ⟨S96x1x1x1, .f32⟩
  | 52 => ⟨S96, .f32⟩
  | 53 => ⟨S96x1x1, .f32⟩
  | 54 => ⟨S96x384x384, .f32⟩
  | 55 => ⟨S96x384x384, .f32⟩
  | 56 => ⟨S96x384x384, .f32⟩
  | 57 => ⟨S96x384x384, .f32⟩
  | 58 => ⟨S1x96x384x384, .f32⟩
  | _ => ⟨S1x96x384x384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x96x384x384, .f32⟩

abbrev bufTy : (tb : Table) → Fin (tcTables nBuf tb) → BufTy
  | .hbm, ⟨i, _⟩ => hbmTy i
  | _, _ => ⟨S1x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_call1_v0 : Ref sig .tc := ⟨.hbm, 94, rfl⟩
abbrev main_call1_cst : Ref sig .tc := ⟨.hbm, 95, rfl⟩
abbrev main_call1_v1 : Ref sig .tc := ⟨.hbm, 96, rfl⟩
abbrev main_call1_v2 : Ref sig .tc := ⟨.hbm, 97, rfl⟩
abbrev main_v76 : Ref sig .tc := ⟨.hbm, 98, rfl⟩
abbrev main_cst_0 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call2_v0 : Ref sig .tc := ⟨.hbm, 104, rfl⟩
abbrev main_call2_cst : Ref sig .tc := ⟨.hbm, 105, rfl⟩
abbrev main_call2_v1 : Ref sig .tc := ⟨.hbm, 106, rfl⟩
abbrev main_call2_v2 : Ref sig .tc := ⟨.hbm, 107, rfl⟩
abbrev main_v81 : Ref sig .tc := ⟨.hbm, 108, rfl⟩
abbrev main_cst_1 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_values : Ref sig .tc := ⟨.hbm, 120, rfl⟩
abbrev main_indices : Ref sig .tc := ⟨.hbm, 121, rfl⟩
abbrev main_cst_2 : Ref sig .tc := ⟨.hbm, 122, rfl⟩
abbrev main_v92 : Ref sig .tc := ⟨.hbm, 123, rfl⟩
abbrev main_c_3 : Ref sig .tc := ⟨.hbm, 124, rfl⟩
abbrev main_v93 : Ref sig .tc := ⟨.hbm, 125, rfl⟩
abbrev main_v94 : Ref sig .tc := ⟨.hbm, 126, rfl⟩
abbrev main_c_4 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_5 : Ref sig .tc := ⟨.hbm, 131, rfl⟩
abbrev main_v98 : Ref sig .tc := ⟨.hbm, 132, rfl⟩
abbrev main_v99 : Ref sig .tc := ⟨.hbm, 133, rfl⟩
abbrev main_c_6 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_7 : Ref sig .tc := ⟨.hbm, 143, rfl⟩
abbrev main_v108 : Ref sig .tc := ⟨.hbm, 144, rfl⟩
abbrev main_cst_8 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_9 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_values_10 : Ref sig .tc := ⟨.hbm, 158, rfl⟩
abbrev main_indices_11 : Ref sig .tc := ⟨.hbm, 159, rfl⟩
abbrev main_cst_12 : Ref sig .tc := ⟨.hbm, 160, rfl⟩
abbrev main_v120 : Ref sig .tc := ⟨.hbm, 161, rfl⟩
abbrev main_c_13 : Ref sig .tc := ⟨.hbm, 162, rfl⟩
abbrev main_v121 : Ref sig .tc := ⟨.hbm, 163, rfl⟩
abbrev main_v122 : Ref sig .tc := ⟨.hbm, 164, rfl⟩
abbrev main_c_14 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_c_15 : Ref sig .tc := ⟨.hbm, 169, rfl⟩
abbrev main_v126 : Ref sig .tc := ⟨.hbm, 170, rfl⟩
abbrev main_v127 : Ref sig .tc := ⟨.hbm, 171, rfl⟩
abbrev main_c_16 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_17 : Ref sig .tc := ⟨.hbm, 181, rfl⟩
abbrev main_v136 : Ref sig .tc := ⟨.hbm, 182, rfl⟩
abbrev main_cst_18 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_19 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_values_20 : Ref sig .tc := ⟨.hbm, 196, rfl⟩
abbrev main_indices_21 : Ref sig .tc := ⟨.hbm, 197, rfl⟩
abbrev main_cst_22 : Ref sig .tc := ⟨.hbm, 198, rfl⟩
abbrev main_v148 : Ref sig .tc := ⟨.hbm, 199, rfl⟩
abbrev main_c_23 : Ref sig .tc := ⟨.hbm, 200, rfl⟩
abbrev main_v149 : Ref sig .tc := ⟨.hbm, 201, rfl⟩
abbrev main_v150 : Ref sig .tc := ⟨.hbm, 202, rfl⟩
abbrev main_c_24 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_c_25 : Ref sig .tc := ⟨.hbm, 207, rfl⟩
abbrev main_v154 : Ref sig .tc := ⟨.hbm, 208, rfl⟩
abbrev main_v155 : Ref sig .tc := ⟨.hbm, 209, rfl⟩
abbrev main_c_26 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_27 : Ref sig .tc := ⟨.hbm, 219, rfl⟩
abbrev main_v164 : Ref sig .tc := ⟨.hbm, 220, rfl⟩
abbrev main_cst_28 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_29 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_values_30 : Ref sig .tc := ⟨.hbm, 234, rfl⟩
abbrev main_indices_31 : Ref sig .tc := ⟨.hbm, 235, rfl⟩
abbrev main_cst_32 : Ref sig .tc := ⟨.hbm, 236, rfl⟩
abbrev main_v176 : Ref sig .tc := ⟨.hbm, 237, rfl⟩
abbrev main_c_33 : Ref sig .tc := ⟨.hbm, 238, rfl⟩
abbrev main_v177 : Ref sig .tc := ⟨.hbm, 239, rfl⟩
abbrev main_v178 : Ref sig .tc := ⟨.hbm, 240, rfl⟩
abbrev main_c_34 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_c_35 : Ref sig .tc := ⟨.hbm, 245, rfl⟩
abbrev main_v182 : Ref sig .tc := ⟨.hbm, 246, rfl⟩
abbrev main_v183 : Ref sig .tc := ⟨.hbm, 247, rfl⟩
abbrev main_c_36 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_cst_37 : Ref sig .tc := ⟨.hbm, 257, rfl⟩
abbrev main_v192 : Ref sig .tc := ⟨.hbm, 258, rfl⟩
abbrev main_cst_38 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_cst_39 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_cst_40 : Ref sig .tc := ⟨.hbm, 298, rfl⟩
abbrev main_v230 : Ref sig .tc := ⟨.hbm, 299, rfl⟩
abbrev main_v231 : Ref sig .tc := ⟨.hbm, 300, rfl⟩
abbrev main_cst_41 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_cst_42 : Ref sig .tc := ⟨.hbm, 307, rfl⟩
abbrev main_v237 : Ref sig .tc := ⟨.hbm, 308, rfl⟩
abbrev main_v238 : Ref sig .tc := ⟨.hbm, 309, rfl⟩
abbrev main_cst_43 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_cst_44 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_cst_45 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_cst_46 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_c_47 : Ref sig .tc := ⟨.hbm, 346, rfl⟩
abbrev main_call3_v0 : Ref sig .tc := ⟨.hbm, 347, rfl⟩
abbrev main_v271 : Ref sig .tc := ⟨.hbm, 348, rfl⟩
abbrev main_cst_48 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_cst_49 : Ref sig .tc := ⟨.hbm, 415, rfl⟩
abbrev main_v337 : Ref sig .tc := ⟨.hbm, 416, rfl⟩
abbrev main_cst_50 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_c_51 : Ref sig .tc := ⟨.hbm, 424, rfl⟩
abbrev main_call4_v0 : Ref sig .tc := ⟨.hbm, 425, rfl⟩
abbrev main_v344 : Ref sig .tc := ⟨.hbm, 426, rfl⟩
abbrev main_cst_52 : Ref sig .tc := ⟨.hbm, 427, rfl⟩
abbrev main_v345 : Ref sig .tc := ⟨.hbm, 428, rfl⟩
abbrev main_v346 : Ref sig .tc := ⟨.hbm, 429, rfl⟩
abbrev main_v347 : Ref sig .tc := ⟨.hbm, 430, rfl⟩
abbrev main_v348 : Ref sig .tc := ⟨.hbm, 431, rfl⟩
abbrev main_v349 : Ref sig .tc := ⟨.hbm, 432, rfl⟩
abbrev main_v350 : Ref sig .tc := ⟨.hbm, 433, rfl⟩
abbrev main_v351 : Ref sig .tc := ⟨.hbm, 434, rfl⟩
abbrev main_v352 : Ref sig .tc := ⟨.hbm, 435, rfl⟩
abbrev main_v353 : Ref sig .tc := ⟨.hbm, 436, rfl⟩
abbrev main_v354 : Ref sig .tc := ⟨.hbm, 437, rfl⟩
abbrev main_v355 : Ref sig .tc := ⟨.hbm, 438, rfl⟩
abbrev main_v356 : Ref sig .tc := ⟨.hbm, 439, rfl⟩
abbrev main_v357 : Ref sig .tc := ⟨.hbm, 440, rfl⟩
abbrev main_v358 : Ref sig .tc := ⟨.hbm, 441, rfl⟩
abbrev main_v359 : Ref sig .tc := ⟨.hbm, 442, rfl⟩
abbrev main_v360 : Ref sig .tc := ⟨.hbm, 443, rfl⟩
abbrev main_v361 : Ref sig .tc := ⟨.hbm, 444, rfl⟩
abbrev main_v362 : Ref sig .tc := ⟨.hbm, 445, rfl⟩
abbrev main_v363 : Ref sig .tc := ⟨.hbm, 446, rfl⟩
abbrev main_v364 : Ref sig .tc := ⟨.hbm, 447, rfl⟩
abbrev main_v365 : Ref sig .tc := ⟨.hbm, 448, rfl⟩
abbrev main_v366 : Ref sig .tc := ⟨.hbm, 449, rfl⟩
abbrev main_v367 : Ref sig .tc := ⟨.hbm, 450, rfl⟩
abbrev main_v368 : Ref sig .tc := ⟨.hbm, 451, rfl⟩
abbrev main_v369 : Ref sig .tc := ⟨.hbm, 452, rfl⟩
abbrev main_v370 : Ref sig .tc := ⟨.hbm, 453, rfl⟩
abbrev main_v371 : Ref sig .tc := ⟨.hbm, 454, rfl⟩
abbrev main_v372 : Ref sig .tc := ⟨.hbm, 455, rfl⟩
abbrev main_v373 : Ref sig .tc := ⟨.hbm, 456, rfl⟩
abbrev main_v374 : Ref sig .tc := ⟨.hbm, 457, rfl⟩
abbrev main_v375 : Ref sig .tc := ⟨.hbm, 458, rfl⟩
abbrev main_v376 : Ref sig .tc := ⟨.hbm, 459, rfl⟩
abbrev main_v377 : Ref sig .tc := ⟨.hbm, 460, rfl⟩
abbrev main_v378 : Ref sig .tc := ⟨.hbm, 461, rfl⟩
abbrev main_v379 : Ref sig .tc := ⟨.hbm, 462, rfl⟩
abbrev main_v380 : Ref sig .tc := ⟨.hbm, 463, rfl⟩
abbrev main_v381 : Ref sig .tc := ⟨.hbm, 464, rfl⟩
abbrev main_v382 : Ref sig .tc := ⟨.hbm, 465, rfl⟩
abbrev main_v383 : Ref sig .tc := ⟨.hbm, 466, rfl⟩
abbrev main_v384 : Ref sig .tc := ⟨.hbm, 467, rfl⟩
abbrev main_v385 : Ref sig .tc := ⟨.hbm, 468, rfl⟩
abbrev main_v386 : Ref sig .tc := ⟨.hbm, 469, rfl⟩
abbrev main_v387 : Ref sig .tc := ⟨.hbm, 470, rfl⟩
abbrev main_v388 : Ref sig .tc := ⟨.hbm, 471, rfl⟩
abbrev main_v389 : Ref sig .tc := ⟨.hbm, 472, rfl⟩
abbrev main_v390 : Ref sig .tc := ⟨.hbm, 473, rfl⟩
abbrev main_v391 : Ref sig .tc := ⟨.hbm, 474, rfl⟩
abbrev main_v392 : Ref sig .tc := ⟨.hbm, 475, rfl⟩
abbrev main_v393 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩
abbrev main_v397 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_v401 : Ref sig .tc := ⟨.hbm, 484, rfl⟩
abbrev main_v402 : Ref sig .tc := ⟨.hbm, 485, rfl⟩
abbrev main_v403 : Ref sig .tc := ⟨.hbm, 486, rfl⟩
abbrev main_v404 : Ref sig .tc := ⟨.hbm, 487, rfl⟩
abbrev main_v405 : Ref sig .tc := ⟨.hbm, 488, rfl⟩
abbrev main_v406 : Ref sig .tc := ⟨.hbm, 489, rfl⟩
abbrev main_v407 : Ref sig .tc := ⟨.hbm, 490, rfl⟩
abbrev main_v408 : Ref sig .tc := ⟨.hbm, 491, rfl⟩
abbrev main_v409 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_c_53 : Ref sig .tc := ⟨.hbm, 501, rfl⟩
abbrev main_call5_v0 : Ref sig .tc := ⟨.hbm, 502, rfl⟩
abbrev main_v418 : Ref sig .tc := ⟨.hbm, 503, rfl⟩
abbrev main_cst_54 : Ref sig .tc := ⟨.hbm, 504, rfl⟩
abbrev main_v419 : Ref sig .tc := ⟨.hbm, 505, rfl⟩
abbrev main_v420 : Ref sig .tc := ⟨.hbm, 506, rfl⟩
abbrev main_v421 : Ref sig .tc := ⟨.hbm, 507, rfl⟩
abbrev main_v422 : Ref sig .tc := ⟨.hbm, 508, rfl⟩
abbrev main_v423 : Ref sig .tc := ⟨.hbm, 509, rfl⟩
abbrev main_v424 : Ref sig .tc := ⟨.hbm, 510, rfl⟩
abbrev main_v425 : Ref sig .tc := ⟨.hbm, 511, rfl⟩
abbrev main_v426 : Ref sig .tc := ⟨.hbm, 512, rfl⟩
abbrev main_v427 : Ref sig .tc := ⟨.hbm, 513, rfl⟩
abbrev main_v428 : Ref sig .tc := ⟨.hbm, 514, rfl⟩
abbrev main_v429 : Ref sig .tc := ⟨.hbm, 515, rfl⟩
abbrev main_v430 : Ref sig .tc := ⟨.hbm, 516, rfl⟩
abbrev main_v431 : Ref sig .tc := ⟨.hbm, 517, rfl⟩
abbrev main_v432 : Ref sig .tc := ⟨.hbm, 518, rfl⟩
abbrev main_v433 : Ref sig .tc := ⟨.hbm, 519, rfl⟩
abbrev main_v434 : Ref sig .tc := ⟨.hbm, 520, rfl⟩
abbrev main_v435 : Ref sig .tc := ⟨.hbm, 521, rfl⟩
abbrev main_v436 : Ref sig .tc := ⟨.hbm, 522, rfl⟩
abbrev main_v437 : Ref sig .tc := ⟨.hbm, 523, rfl⟩
abbrev main_v438 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_v448 : Ref sig .tc := ⟨.hbm, 534, rfl⟩
abbrev main_v449 : Ref sig .tc := ⟨.hbm, 535, rfl⟩
abbrev main_v450 : Ref sig .tc := ⟨.hbm, 536, rfl⟩
abbrev main_v451 : Ref sig .tc := ⟨.hbm, 537, rfl⟩
abbrev main_v452 : Ref sig .tc := ⟨.hbm, 538, rfl⟩
abbrev main_v453 : Ref sig .tc := ⟨.hbm, 539, rfl⟩
abbrev main_v454 : Ref sig .tc := ⟨.hbm, 540, rfl⟩
abbrev main_v455 : Ref sig .tc := ⟨.hbm, 541, rfl⟩
abbrev main_v456 : Ref sig .tc := ⟨.hbm, 542, rfl⟩
abbrev main_v457 : Ref sig .tc := ⟨.hbm, 543, rfl⟩
abbrev main_v458 : Ref sig .tc := ⟨.hbm, 544, rfl⟩
abbrev main_v459 : Ref sig .tc := ⟨.hbm, 545, rfl⟩
abbrev main_v460 : Ref sig .tc := ⟨.hbm, 546, rfl⟩
abbrev main_v461 : Ref sig .tc := ⟨.hbm, 547, rfl⟩
abbrev main_v462 : Ref sig .tc := ⟨.hbm, 548, rfl⟩
abbrev main_v463 : Ref sig .tc := ⟨.hbm, 549, rfl⟩
abbrev main_v464 : Ref sig .tc := ⟨.hbm, 550, rfl⟩
abbrev main_v465 : Ref sig .tc := ⟨.hbm, 551, rfl⟩
abbrev main_v466 : Ref sig .tc := ⟨.hbm, 552, rfl⟩
abbrev main_v467 : Ref sig .tc := ⟨.hbm, 553, rfl⟩
abbrev main_v468 : Ref sig .tc := ⟨.hbm, 554, rfl⟩
abbrev main_v469 : Ref sig .tc := ⟨.hbm, 555, rfl⟩
abbrev main_v470 : Ref sig .tc := ⟨.hbm, 556, rfl⟩
abbrev main_v471 : Ref sig .tc := ⟨.hbm, 557, rfl⟩
abbrev main_v472 : Ref sig .tc := ⟨.hbm, 558, rfl⟩
abbrev main_v473 : Ref sig .tc := ⟨.hbm, 559, rfl⟩
abbrev main_v474 : Ref sig .tc := ⟨.hbm, 560, rfl⟩
abbrev main_v475 : Ref sig .tc := ⟨.hbm, 561, rfl⟩
abbrev main_v476 : Ref sig .tc := ⟨.hbm, 562, rfl⟩
abbrev main_v477 : Ref sig .tc := ⟨.hbm, 563, rfl⟩
abbrev main_v478 : Ref sig .tc := ⟨.hbm, 564, rfl⟩
abbrev main_v479 : Ref sig .tc := ⟨.hbm, 565, rfl⟩
abbrev main_v480 : Ref sig .tc := ⟨.hbm, 566, rfl⟩
abbrev main_v481 : Ref sig .tc := ⟨.hbm, 567, rfl⟩
abbrev main_v482 : Ref sig .tc := ⟨.hbm, 568, rfl⟩
abbrev main_v483 : Ref sig .tc := ⟨.hbm, 569, rfl⟩
abbrev main_v484 : Ref sig .tc := ⟨.hbm, 570, rfl⟩

abbrev nD : Nat := 1
abbrev τ : Topo := Topo.v7x

variable {F : FTy → Type} [FloatOps F]
-- ==== Proof.Run.lean ====
module

public import proofs.«01_k».proof.Proof.Gen.KernelIdeal.Frame
public import Idealize.ShloMosaic.Lib.Pipeline.ValueKit

/-! # The kernel's run: what the result array ends holding -/

@[expose] public section
set_option maxRecDepth 16384
namespace Cert.Own
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency.types false in
/-- From any memory with zero counters every execution of the kernel terminates, and the result array holds what the
    chain of host operations and calls leaves there. -/
theorem run (m : (ℓ : Loc nD τ sig) → Buf (Elt Ideal) ℓ) (ρ : Dev nD → PrngReg) :
     θ_run defs (onTc (τ := τ) (main (F := Ideal))) ⟨m, fun _ => 0, ρ⟩ (fun r => ∀ c : Dev nD,
      r.2.mem ((c.tc : Thread nD τ).loc main_v32) = W5 m ρ c (Proc.devRef .tc main_v32)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c => h c _ (mem_uc main_v32 (by decide)))

end Cert.Own
end
-- ==== Proof.Base.lean ====
module

public import Idealize.ShloMosaic.Lib.Pointwise

/-! # Images indexed by integers, and strips read at an integer position

    The kernel works on strips of whole image rows, 384 pixels a row, and shifts them with zeros moving in.  Both sides are
    compared here through images `row → column → value` on all integers: a strip or a flat picture is read at an
    integer position and is zero outside, so that a shift is a plain change of the position. -/

@[expose] public section
noncomputable section
namespace Cert.Own
open Idealize.ShloMosaic

/-- A two-axis array read at row `i` and integer position `l`: zero outside its length. -/
def rd {a b : ℕ} (v : Shape.Idx ⟨2, ![a, b]⟩ → EReal) (i : Fin a) (l : ℤ) : EReal :=
  if h : 0 ≤ l ∧ l < b then v (ix2 i ⟨l.toNat, by omega⟩) else 0

/-- Inside its length the reading is the array's entry. -/
theorem rd_at {a b : ℕ} (v : Shape.Idx ⟨2, ![a, b]⟩ → EReal) (i : Fin a) (l : ℤ) (h0 : 0 ≤ l) (h1 : l < b) :
    rd v i l = v (ix2 i ⟨l.toNat, by omega⟩) := dif_pos ⟨h0, h1⟩

/-- An entry is the reading at its position. -/
theorem rd_coe {a b : ℕ} (v : Shape.Idx ⟨2, ![a, b]⟩ → EReal) (i : Fin a) (l : Fin b) :
    v (ix2 i l) = rd v i (l : ℤ) := by
  have := l.2
  rw [rd_at v i l (by omega) (by omega)]
  rfl

/-- Outside its length the reading is zero. -/
theorem rd_out {a b : ℕ} (v : Shape.Idx ⟨2, ![a, b]⟩ → EReal) (i : Fin a) (l : ℤ) (h : ¬ (0 ≤ l ∧ l < b)) :
    rd v i l = 0 := dif_neg h

/-- A strip moved to the left by `k`, zeros moving in on the right. -/
theorem rdL {a b : ℕ} (v : Shape.Idx ⟨2, ![a, b]⟩ → EReal) (o : Fin a) (l : Fin b) (n k : ℕ)
    (pf : (l : ℕ) < n → k + (l : ℕ) < b) (hkn : n + k = b) :
    (if h : (l : ℕ) < n then v (ix2 o ⟨k + l, pf h⟩) else 0) = rd v o ((l : ℤ) + k) := by
  split_ifs with h
  · rw [rd_coe v]; congr 1; push_cast; ring
  · rw [rd_out]; omega

/-- A strip moved to the right by `k`, zeros moving in on the left. -/
theorem rdR {a b : ℕ} (v : Shape.Idx ⟨2, ![a, b]⟩ → EReal) (o : Fin a) (l : Fin b) (k : ℕ)
    (pf : ¬ (l : ℕ) < k → (l : ℕ) - k < b) :
    (if h : (l : ℕ) < k then 0 else v (ix2 o ⟨l - k, pf h⟩)) = rd v o ((l : ℤ) - k) := by
  split_ifs with h
  · rw [rd_out]; omega
  · rw [rd_coe v]; congr 1; push_cast [Nat.cast_sub (not_lt.mp h)]; ring

/-- An image on all integers, zero outside the square of side `n`. -/
def msk (n : ℤ) (f : ℤ → ℤ → EReal) (r c : ℤ) : EReal :=
  if 0 ≤ r ∧ r < n ∧ 0 ≤ c ∧ c < n then f r c else 0

/-- A pixelwise linear map of channels. -/
def conv1 {m k : ℕ} (w : Fin m → Fin k → EReal) (f : Fin k → ℤ → ℤ → EReal) (o : Fin m) (r c : ℤ) : EReal :=
  ∑ i, w o i * f i r c

/-- A depthwise 3×3 convolution of one channel with zero padding, in an image of side `n`. -/
def dw9 (n : ℤ) (w : Fin 9 → EReal) (f : ℤ → ℤ → EReal) (r c : ℤ) : EReal :=
  msk n f (r - 1) (c - 1) * w 0 + msk n f (r - 1) c * w 1 + msk n f (r - 1) (c + 1) * w 2
  + msk n f r (c - 1) * w 3 + msk n f r c * w 4 + msk n f r (c + 1) * w 5
  + msk n f (r + 1) (c - 1) * w 6 + msk n f (r + 1) c * w 7 + msk n f (r + 1) (c + 1) * w 8

/-- The mean of the 2×2 square of pixels whose corner is `(2 r, 2 c)`: their sum times a quarter. -/
def pool (q : EReal) (f : ℤ → ℤ → EReal) (r c : ℤ) : EReal :=
  (f (2 * r) (2 * c) + f (2 * r) (2 * c + 1) + (f (2 * r + 1) (2 * c) + f (2 * r + 1) (2 * c + 1))) * q

/-- A flat picture of 384 pixels a row, as an image. -/
def img {a b : ℕ} (v : Shape.Idx ⟨2, ![a, b]⟩ → EReal) (i : Fin a) (r c : ℤ) : EReal := rd v i (384 * r + c)

/-- Inside the image the masked image is the image. -/
theorem msk_in (n : ℤ) (f : ℤ → ℤ → EReal) (r c : ℤ) (h : 0 ≤ r ∧ r < n ∧ 0 ≤ c ∧ c < n) : msk n f r c = f r c := if_pos h
/-- Outside the image the masked image is zero. -/
theorem msk_out (n : ℤ) (f : ℤ → ℤ → EReal) (r c : ℤ) (h : ¬ (0 ≤ r ∧ r < n ∧ 0 ≤ c ∧ c < n)) : msk n f r c = 0 := if_neg h

/-- The depthwise convolution only looks at pixels of the image. -/
theorem dw9_congr (n : ℤ) (w : Fin 9 → EReal) (f g : ℤ → ℤ → EReal)
    (h : ∀ r c, 0 ≤ r → r < n → 0 ≤ c → c < n → f r c = g r c) (r c : ℤ) : dw9 n w f r c = dw9 n w g r c := by
  have e : ∀ r c, msk n f r c = msk n g r c := fun r c => by
    unfold msk; split_ifs with hh
    · exact h r c hh.1 hh.2.1 hh.2.2.1 hh.2.2.2
    · rfl
  simp only [dw9, e]

end Cert.Own
-- ==== Proof.Words.lean ====
module

public import proofs.«01_k».proof.Proof.Gen.KernelIdeal.Skeleton
public import proofs.«01_k».proof.Proof.Base
public import Idealize.ShloMosaic.Lib.Routing.Words

/-! # The kernel's row and column words

    The bodies of the first and of the third call compute, for every position of their strip, the image row and column it is
    and the masks made of them.  Each is read here as arithmetic on integers. -/

@[expose] public section
set_option maxRecDepth 16384
noncomputable section
namespace Cert.Own
open Idealize.ShloMosaic Cert.KernelIdeal Cert.KernelIdeal.Gen

/-- A word below `2^31` is not below zero. -/
theorem slt0 {a : ℕ} (ha : a < 2^31) : IntOp.cmpi .slt (BitVec.ofNat 32 a) 0#32 = 0#1 := by
  have : (BitVec.ofNat 32 a).slt 0#32 = false := by
    rw [BitVec.slt_eq_decide, BitVec.toInt_eq_toNat_of_lt (by simp; omega)]; simp; omega
  simp [IntOp.cmpi, this]

/-- The conjunction of a zero bit with any bit is zero. -/
theorem andi0 (x : BitVec 1) : IntOp.andi 0#1 x = 0#1 := by revert x; decide

/-- The printed remainder of a small natural. -/
theorem remW {a b : ℕ} (ha : a < 2^31) (h0 : 0 < b) (hb : b < 2^31) (z : BitVec 1) (hz : z = 0#1) (y : BitVec 1) (d : BitVec 32) :
    Scalar.select (IntOp.andi (IntOp.xori (IntOp.cmpi .slt (IntOp.remsi .vector (BitVec.ofNat 32 a) (BitVec.ofNat 32 b)) 0#32) z) y) d
      (IntOp.remsi .vector (BitVec.ofNat 32 a) (BitVec.ofNat 32 b)) = BitVec.ofNat 32 (a % b) := by
  have := Nat.mod_lt a h0
  rw [Routing.remsi_word _ ha h0 hb, slt0 (by omega), hz, show IntOp.xori 0#1 0#1 = 0#1 by decide, andi0]; rfl

/-- The printed floor division of a small natural. -/
theorem divW {a b : ℕ} (ha : a < 2^31) (h0 : 0 < b) (hb : b < 2^31) (s : BitVec 32) (hs : s = 1#32) :
    Scalar.select (IntOp.andi (IntOp.cmpi .ne (IntOp.subi (BitVec.setWidth 32 (IntOp.cmpi .sgt (BitVec.ofNat 32 a) 0#32))
        (BitVec.setWidth 32 (IntOp.cmpi .slt (BitVec.ofNat 32 a) 0#32))) s)
        (IntOp.cmpi .ne (IntOp.remsi .vector (BitVec.ofNat 32 a) (BitVec.ofNat 32 b)) 0#32))
      (IntOp.subi (IntOp.divsi .vector (BitVec.ofNat 32 a) (BitVec.ofNat 32 b)) 1#32)
      (IntOp.divsi .vector (BitVec.ofNat 32 a) (BitVec.ofNat 32 b)) = BitVec.ofNat 32 (a / b) := by
  rw [Routing.remsi_word _ ha h0 hb, Routing.divsi_word _ ha h0 hb, slt0 ha, hs]
  rcases Nat.eq_zero_or_pos a with rfl | h
  · simp; rfl
  · have h1 : IntOp.cmpi .sgt (BitVec.ofNat 32 a) 0#32 = 1#1 := by
      have : (0#32 : BitVec 32).slt (BitVec.ofNat 32 a) = true := by
        rw [BitVec.slt_eq_decide, BitVec.toInt_eq_toNat_of_lt (x := BitVec.ofNat 32 a) (by simp; omega)]; simp; omega
      simp [IntOp.cmpi, this]
    rw [h1, show IntOp.cmpi .ne (IntOp.subi (BitVec.setWidth 32 1#1) (BitVec.setWidth 32 0#1)) 1#32 = 0#1 by decide, andi0]; rfl

/-- A one-bit word made a float. -/
theorem fl1 (p : Prop) [Decidable p] (x : BitVec 32) (h : x = if p then 1#32 else 0#32) :
    FloatOps.sitofp (F := Ideal) FTy.f32 x = if p then (1 : EReal) else 0 := by
  rw [h]
  split_ifs
  · show (((1#32).toInt : ℝ) : EReal) = 1
    norm_num
  · show (((0#32).toInt : ℝ) : EReal) = 0
    norm_num

/-- A selection by a one-bit word that says whether `p` holds. -/
theorem sel1 {α : Type} (p : Prop) [Decidable p] (x : BitVec 1) (h : x = if p then 1#1 else 0#1) (a b : α) :
    Scalar.select x a b = if p then a else b := by
  rw [h]; split_ifs <;> rfl

/-! ## The third call: strips of 24 rows, the first being the image row `16 t - 4` -/

/-- The word of the first row of the strip of block `t`. -/
abbrev base2 (t : Fin 24) : BitVec 32 := Scalar.subi (Scalar.muli (BitVec.ofNat 32 t.val) 16#32) 4#32

/-- The column word of a strip position is its place in its row. -/
theorem col2 (o : Fin 1) (l : Fin 9216) : k2_pay8 k2_pay4 (ix2 o l) = BitVec.ofNat 32 (l % 384) := by
  pointwise [k2_pay8, k2_pay4]
  exact remW (by omega) (by decide) (by decide) _ (by decide) _ _

/-- The row word of a strip position is the strip's base plus the number of the row in the strip. -/
theorem row2 (b : BitVec 32) (o : Fin 1) (l : Fin 9216) : k2_pay7 b k2_pay5 k2_pay6 (ix2 o l) = IntOp.addi b (BitVec.ofNat 32 (l / 384)) := by
  pointwise [k2_pay7, k2_pay5, k2_pay6, k2_pay4]
  rw [divW (by omega) (by decide) (by decide) _ (by decide)]

/-- The row mask's word is one exactly on the rows of the image, for each block and row of the strip. -/
theorem rvW2 : ∀ t r : Fin 24, BitVec.setWidth 32 (IntOp.andi
    (IntOp.cmpi .sge (IntOp.addi (base2 t) (BitVec.ofNat 32 r)) 0#32)
    (IntOp.cmpi .slt (IntOp.addi (base2 t) (BitVec.ofNat 32 r)) 384#32))
      = if 4 ≤ 16 * t.val + r.val ∧ 16 * t.val + r.val < 388 then 1#32 else 0#32 := by decide

/-- The row mask: one on the rows of the image. -/
theorem rv2 (t : Fin 24) (o : Fin 1) (l : Fin 9216) : k2_pay9 (F := Ideal) (base2 t) k2_pay5 k2_pay6 (ix2 o l)
    = if 4 ≤ 16 * t.val + l.val / 384 ∧ 16 * t.val + l.val / 384 < 388 then (1 : EReal) else 0 := by
  pointwise [k2_pay9]
  rw [row2]
  exact fl1 _ _ (rvW2 t ⟨l / 384, by omega⟩)

/-- The word of the mask of the left neighbours is one from the second column on. -/
theorem clW : ∀ c : Fin 384, BitVec.setWidth 32 (IntOp.cmpi .sge (BitVec.ofNat 32 c) 1#32) = if 1 ≤ c.val then 1#32 else 0#32 := by decide
/-- The word of the mask of the right neighbours is one up to the last column but one. -/
theorem crW : ∀ c : Fin 384, BitVec.setWidth 32 (IntOp.cmpi .sle (BitVec.ofNat 32 c) 382#32) = if c.val ≤ 382 then 1#32 else 0#32 := by decide

/-- The mask that drops the first column. -/
theorem cl2 (o : Fin 1) (l : Fin 9216) : k2_pay10 (F := Ideal) k2_pay4 (ix2 o l) = if 1 ≤ l.val % 384 then (1 : EReal) else 0 := by
  pointwise [k2_pay10]
  rw [col2]
  exact fl1 _ _ (clW ⟨l % 384, by omega⟩)

/-- The mask that drops the last column. -/
theorem cr2 (o : Fin 1) (l : Fin 9216) : k2_pay11 (F := Ideal) k2_pay4 (ix2 o l) = if l.val % 384 ≤ 382 then (1 : EReal) else 0 := by
  pointwise [k2_pay11]
  rw [col2]
  exact fl1 _ _ (crW ⟨l % 384, by omega⟩)

/-- Column halves. -/
theorem hcol2 (o : Fin 1) (l : Fin 9216) : k2_pay29 (k2_pay8 k2_pay4) (ix2 o l) = BitVec.ofNat 32 (l % 384 / 2) := by
  pointwise [k2_pay29]
  rw [col2]
  exact divW (by omega) (by decide) (by decide) _ (by decide)

/-- The same for the left neighbours of the half-resolution columns. -/
theorem clhW : ∀ c : Fin 192, BitVec.setWidth 32 (IntOp.cmpi .sge (BitVec.ofNat 32 c) 1#32) = if 1 ≤ c.val then 1#32 else 0#32 := by decide
/-- The same for the right neighbours of the half-resolution columns. -/
theorem crhW : ∀ c : Fin 192, BitVec.setWidth 32 (IntOp.cmpi .sle (BitVec.ofNat 32 c) 190#32) = if c.val ≤ 190 then 1#32 else 0#32 := by decide

/-- The mask of the left half-resolution neighbours at a position. -/
theorem clh2 (o : Fin 1) (l : Fin 9216) : k2_pay34 (F := Ideal) (k2_pay29 (k2_pay8 k2_pay4)) (ix2 o l)
    = if 1 ≤ l.val % 384 / 2 then (1 : EReal) else 0 := by
  pointwise [k2_pay34]
  rw [hcol2]
  exact fl1 _ _ (clhW ⟨l % 384 / 2, by omega⟩)

/-- The mask of the right half-resolution neighbours at a position. -/
theorem crh2 (o : Fin 1) (l : Fin 9216) : k2_pay35 (F := Ideal) (k2_pay29 (k2_pay8 k2_pay4)) (ix2 o l)
    = if l.val % 384 / 2 ≤ 190 then (1 : EReal) else 0 := by
  pointwise [k2_pay35]
  rw [hcol2]
  exact fl1 _ _ (crhW ⟨l % 384 / 2, by omega⟩)

/-- The parity flag of a remainder by two is one exactly for zero. -/
theorem evW : ∀ c : Fin 2, IntOp.cmpi .eq (BitVec.ofNat 32 c) 0#32 = if c.val = 0 then 1#1 else 0#1 := by decide

/-- The column is even. -/
theorem ce2 (o : Fin 1) (l : Fin 9216) : k2_pay32 (Scalar.select (Scalar.cmpi .eq 2#32 0#32) 1#32 2#32) (k2_pay30 (k2_pay8 k2_pay4)) k2_pay31 (ix2 o l)
    = if l.val % 384 % 2 = 0 then 1#1 else 0#1 := by
  pointwise [k2_pay32, k2_pay30, k2_pay31]
  rw [col2]
  have := remW (a := l % 384) (b := 2) (by omega) (by decide) (by decide) _ (by decide : Scalar.cmpi .slt 2#32 0#32 = 0#1)
  erw [this]
  exact evW ⟨l % 384 % 2, by omega⟩

/-- The row parity flag, computed on words, is one exactly on the even rows of the strip. -/
theorem reW : ∀ t r : Fin 24, IntOp.cmpi .eq
      (Scalar.select (IntOp.andi (IntOp.xori (IntOp.cmpi .slt (IntOp.remsi .vector (IntOp.addi (base2 t) (BitVec.ofNat 32 r)) 2#32) 0#32)
        (Scalar.cmpi .slt 2#32 0#32)) (IntOp.cmpi .ne (IntOp.remsi .vector (IntOp.addi (base2 t) (BitVec.ofNat 32 r)) 2#32) 0#32))
        (IntOp.addi (IntOp.remsi .vector (IntOp.addi (base2 t) (BitVec.ofNat 32 r)) 2#32) 2#32)
        (IntOp.remsi .vector (IntOp.addi (base2 t) (BitVec.ofNat 32 r)) 2#32)) 0#32 = if r.val % 2 = 0 then 1#1 else 0#1 := by decide

/-- The row is even (two printed forms of the same flag). -/
theorem re2 (t : Fin 24) (o : Fin 1) (l : Fin 9216) : k2_pay33 (k2_pay7 (base2 t) k2_pay5 k2_pay6) (ix2 o l)
    = if l.val / 384 % 2 = 0 then 1#1 else 0#1 := by
  pointwise [k2_pay33]
  rw [row2]
  exact reW t ⟨l / 384, by omega⟩

/-- The row parity flag that the pooling uses, at a position. -/
theorem re2' (t : Fin 24) (o : Fin 1) (l : Fin 9216) : k2_pay26 (k2_pay7 (base2 t) k2_pay5 k2_pay6) (ix2 o l)
    = if l.val / 384 % 2 = 0 then 1#1 else 0#1 := by
  pointwise [k2_pay26]
  rw [row2]
  exact reW t ⟨l / 384, by omega⟩

end Cert.Own
-- ==== Proof.Strip.lean ====
module

public import proofs.«01_k».proof.Proof.Base

/-! # Strips of whole rows that hold an image

    A strip of 384-pixel rows whose first row is the image row `R0` holds an image on the rows `lo ≤ r < hi` of the strip.  The
    masked shifts and the nine taps of a depthwise convolution keep this, at the price of one row on either side. -/

@[expose] public section
noncomputable section
namespace Cert.Own
open Idealize.ShloMosaic

/-- The rows `lo ≤ r < hi` of the strip `v` are the rows `R0 + r` of the images `A`. -/
def Str {a b : ℕ} (R0 lo hi : ℤ) (v : Shape.Idx ⟨2, ![a, b]⟩ → EReal) (A : Fin a → ℤ → ℤ → EReal) : Prop :=
  ∀ o r c, lo ≤ r → r < hi → 0 ≤ c → c < 384 → rd v o (384 * r + c) = A o (R0 + r) c

/-- The same, said of the entries. -/
theorem Str.of {a b : ℕ} {R0 lo hi : ℤ} {v : Shape.Idx ⟨2, ![a, b]⟩ → EReal} {A : Fin a → ℤ → ℤ → EReal}
    (h0 : 0 ≤ lo) (hb : 384 * hi ≤ b)
    (h : ∀ o (l : Fin b) (r c : ℤ), lo ≤ r → r < hi → 0 ≤ c → c < 384 → (l : ℤ) = 384 * r + c → v (ix2 o l) = A o (R0 + r) c) :
    Str R0 lo hi v A := by
  intro o r c h1 h2 h3 h4
  rw [rd_at v o _ (by omega) (by omega)]
  exact h o _ r c h1 h2 h3 h4 (by simp; omega)

/-- Fewer rows. -/
theorem Str.mono {a b : ℕ} {R0 lo hi lo' hi' : ℤ} {v : Shape.Idx ⟨2, ![a, b]⟩ → EReal} {A : Fin a → ℤ → ℤ → EReal}
    (h : Str R0 lo hi v A) (h1 : lo ≤ lo') (h2 : hi' ≤ hi) : Str R0 lo' hi' v A :=
  fun o r c a b => h o r c (by omega) (by omega)

/-- A reading at a position given by another row and column. -/
theorem Str.at {a b : ℕ} {R0 lo hi : ℤ} {v : Shape.Idx ⟨2, ![a, b]⟩ → EReal} {A : Fin a → ℤ → ℤ → EReal}
    (h : Str R0 lo hi v A) (o : Fin a) (l r c : ℤ) (e : l = 384 * r + c) (h1 : lo ≤ r) (h2 : r < hi) (h3 : 0 ≤ c) (h4 : c < 384) :
    rd v o l = A o (R0 + r) c := by rw [e]; exact h o r c h1 h2 h3 h4

/-- The strip moved one pixel to the right with the first column masked: the left neighbour. -/
theorem Str.left {a b : ℕ} {R0 lo hi : ℤ} {v w : Shape.Idx ⟨2, ![a, b]⟩ → EReal} {A : Fin a → ℤ → ℤ → EReal}
    (h0 : 0 ≤ lo) (hb : 384 * hi ≤ b) (h : Str R0 lo hi v (fun o => msk 384 (A o)))
    (hw : ∀ o l, w (ix2 o l) = rd v o ((l : ℤ) - 1) * if 1 ≤ l.val % 384 then (1 : EReal) else 0) :
    Str R0 lo hi w (fun o r c => msk 384 (A o) r (c - 1)) := by
  refine Str.of h0 hb fun o l r c h1 h2 h3 h4 e => ?_
  rw [hw]
  split_ifs with hc
  · rw [mul_one, h.at o _ r (c - 1) (by omega) h1 h2 (by omega) (by omega)]
  · rw [mul_zero, msk_out]; omega

/-- The strip moved one pixel to the left with the last column masked: the right neighbour. -/
theorem Str.right {a b : ℕ} {R0 lo hi : ℤ} {v w : Shape.Idx ⟨2, ![a, b]⟩ → EReal} {A : Fin a → ℤ → ℤ → EReal}
    (h0 : 0 ≤ lo) (hb : 384 * hi ≤ b) (h : Str R0 lo hi v (fun o => msk 384 (A o)))
    (hw : ∀ o l, w (ix2 o l) = rd v o ((l : ℤ) + 1) * if l.val % 384 ≤ 382 then (1 : EReal) else 0) :
    Str R0 lo hi w (fun o r c => msk 384 (A o) r (c + 1)) := by
  refine Str.of h0 hb fun o l r c h1 h2 h3 h4 e => ?_
  rw [hw]
  split_ifs with hc
  · rw [mul_one, h.at o _ r (c + 1) (by omega) h1 h2 (by omega) (by omega)]
  · rw [mul_zero, msk_out]; omega

/-- The nine taps over a strip and its two masked shifts are the depthwise convolution, one row less on either side. -/
theorem Str.dw {a b : ℕ} {R0 lo hi : ℤ} {L M R w : Shape.Idx ⟨2, ![a, b]⟩ → EReal} {A : Fin a → ℤ → ℤ → EReal}
    {k : Fin a → Fin 9 → EReal} (h0 : 0 ≤ lo) (hb : 384 * hi ≤ b)
    (hL : Str R0 lo hi L (fun o r c => msk 384 (A o) r (c - 1))) (hM : Str R0 lo hi M (fun o => msk 384 (A o)))
    (hR : Str R0 lo hi R (fun o r c => msk 384 (A o) r (c + 1)))
    (hw : ∀ o l, w (ix2 o l) = rd L o ((l : ℤ) - 384) * k o 0 + rd M o ((l : ℤ) - 384) * k o 1 + rd R o ((l : ℤ) - 384) * k o 2
      + L (ix2 o l) * k o 3 + M (ix2 o l) * k o 4 + R (ix2 o l) * k o 5
      + rd L o ((l : ℤ) + 384) * k o 6 + rd M o ((l : ℤ) + 384) * k o 7 + rd R o ((l : ℤ) + 384) * k o 8) :
    Str R0 (lo + 1) (hi - 1) w (fun o => dw9 384 (k o) (A o)) := by
  refine Str.of (by omega) (by omega) fun o l r c h1 h2 h3 h4 e => ?_
  rw [hw, rd_coe L, rd_coe M, rd_coe R]
  rw [hL.at o _ (r - 1) c (by omega) (by omega) (by omega) h3 h4, hM.at o _ (r - 1) c (by omega) (by omega) (by omega) h3 h4,
    hR.at o _ (r - 1) c (by omega) (by omega) (by omega) h3 h4, hL.at o _ r c e (by omega) (by omega) h3 h4,
    hM.at o _ r c e (by omega) (by omega) h3 h4, hR.at o _ r c e (by omega) (by omega) h3 h4,
    hL.at o _ (r + 1) c (by omega) (by omega) (by omega) h3 h4, hM.at o _ (r + 1) c (by omega) (by omega) (by omega) h3 h4,
    hR.at o _ (r + 1) c (by omega) (by omega) (by omega) h3 h4]
  simp only [dw9, show R0 + (r - 1) = R0 + r - 1 by ring, show R0 + (r + 1) = R0 + r + 1 by ring]

end Cert.Own
-- ==== Proof.K1.lean ====
module

public import proofs.«01_k».proof.Proof.Words
public import proofs.«01_k».proof.Proof.Strip

/-! # The first call's body, value by value

    The body maps a strip of 18 rows to queries, keys and values by a 1x1 convolution and a 3x3 depthwise one, keeps the 16
    rows in the middle, and adds the products of queries and keys and the squares of both to the running sums. -/

@[expose] public section
set_option maxRecDepth 16384
noncomputable section
namespace Cert.Own
open Idealize.ShloMosaic Cert.KernelIdeal Cert.KernelIdeal.Gen

/-! ## The masks -/

/-- The word of the first row of the strip of block `t`. -/
abbrev base1 (t : Fin 24) : BitVec 32 := Scalar.subi (Scalar.muli (BitVec.ofNat 32 t.val) 16#32) 1#32
/-- The row width's word, as the body computes it. -/
abbrev wid : BitVec 32 := Scalar.select (Scalar.cmpi .eq 384#32 0#32) 1#32 384#32

/-- The column word of a strip position is its place in its row. -/
theorem col1 (o : Fin 1) (l : Fin 6912) : k0_pay5 wid k0_pay4 (ix2 o l) = BitVec.ofNat 32 (l % 384) := by
  pointwise [k0_pay5, k0_pay4, k0_pay2]
  exact remW (by omega) (by decide) (by decide) _ (by decide) _ _

/-- The row word of a strip position is the strip's base plus the number of the row in the strip. -/
theorem row1 (i : grid0.Coords) (t : Fin 24) (hi : (i 0).val = t.val) (o : Fin 1) (l : Fin 6912) :
    k0_pay3 i (ix2 o l) = IntOp.addi (base1 t) (BitVec.ofNat 32 (l / 384)) := by
  pointwise [k0_pay3, k0_pay2]
  rw [divW (by omega) (by decide) (by decide) _ (by decide), hi]

/-- The row mask's word is one exactly on the rows of the image, for each block and row of the strip. -/
theorem rvW1 : ∀ (t : Fin 24) (r : Fin 18), BitVec.setWidth 32 (IntOp.andi
    (IntOp.cmpi .sge (IntOp.addi (base1 t) (BitVec.ofNat 32 r)) 0#32)
    (IntOp.cmpi .slt (IntOp.addi (base1 t) (BitVec.ofNat 32 r)) 384#32))
      = if 1 ≤ 16 * t.val + r.val ∧ 16 * t.val + r.val < 385 then 1#32 else 0#32 := by decide

/-- The mask that drops the first column. -/
theorem cl1 (o : Fin 1) (l : Fin 6912) : k0_pay6 (F := Ideal) wid k0_pay4 (ix2 o l) = if 1 ≤ l.val % 384 then (1 : EReal) else 0 := by
  pointwise [k0_pay6]
  rw [col1]
  exact fl1 _ _ (clW ⟨l % 384, by omega⟩)

/-- The mask that drops the last column. -/
theorem cr1 (o : Fin 1) (l : Fin 6912) : k0_pay7 (F := Ideal) wid k0_pay4 (ix2 o l) = if l.val % 384 ≤ 382 then (1 : EReal) else 0 := by
  pointwise [k0_pay7]
  rw [col1]
  exact fl1 _ _ (crW ⟨l % 384, by omega⟩)

/-! ## The values at a position -/

/-- The 1x1 convolution, on the rows of the image. -/
theorem q8 (t : Fin 24) (i : grid0.Coords) (hi : (i 0).val = t.val) (x : FVec Ideal S96x6912 .f32) (w : Vec Ideal S288x96 .bf16)
    (o : Fin 288) (l : Fin 6912) :
    k0_pay8 x (k0_pay3 i) w (ix2 o l) = (∑ j, w (ix2 o j) * x (ix2 j l))
      * if 1 ≤ 16 * t.val + l.val / 384 ∧ 16 * t.val + l.val / 384 < 385 then (1 : EReal) else 0 := by
  pointwise [k0_pay8]
  rw [row1 i t hi]
  congr 1
  exact fl1 _ _ (rvW1 t ⟨l / 384, by omega⟩)

section
variable (x : FVec Ideal S96x6912 .f32) (rw' : IVec S1x6912 32) (W : Vec Ideal S288x96 .bf16) (z : FVec Ideal S288x6912 .f32)
  (cl cr : FVec Ideal S1x6912 .f32) (m l' r s b : FVec Ideal S96x6912 .f32) (w0 w1 w2 w3 w4 : Vec Ideal S1x96x1 .f32)
  (o : Fin 96) (l : Fin 6912) (n : Fin 6144)

/-- The strip is the row above, the 16 rows of the block and the row below, side by side. -/
theorem q1 (x0 : Vec Ideal S96x384 .f32) (x1 : Vec Ideal S96x6144 .f32) (x2 : Vec Ideal S96x384 .f32) :
    k0_pay1 x0 x1 x2 (ix2 o l) = if h : l.val < 384 then x0 (ix2 o ⟨l.val, h⟩)
      else if h : l.val - 384 < 6144 then x1 (ix2 o ⟨l.val - 384, h⟩) else x2 (ix2 o ⟨l.val - 384 - 6144, by omega⟩) := by
  pointwise [k0_pay1]

/-- The first 96 channels of the 1x1 convolution: the queries before the depthwise convolution. -/
theorem q9 : k0_pay9 x rw' W (ix2 o l) = k0_pay8 x rw' W (ix2 ⟨o.val, by omega⟩ l) := by
  pointwise [k0_pay9]

/-- Their left neighbours, masked. -/
theorem q10 : k0_pay10 x rw' wid k0_pay4 W (ix2 o l) = rd (k0_pay9 x rw' W) o ((l : ℤ) - 1) * k0_pay6 (F := Ideal) wid k0_pay4 (ix2 0 l) := by
  pointwise [k0_pay10]
  simp (disch := decide) only [rdL, rdR, Nat.cast_ofNat, Nat.cast_one]

/-- Their right neighbours, masked. -/
theorem q11 : k0_pay11 x rw' wid k0_pay4 W (ix2 o l) = rd (k0_pay9 x rw' W) o ((l : ℤ) + 1) * k0_pay7 (F := Ideal) wid k0_pay4 (ix2 0 l) := by
  pointwise [k0_pay11]
  simp (disch := decide) only [rdL, rdR, Nat.cast_ofNat, Nat.cast_one]

/-- The left neighbours one row up. -/
theorem q12 : k0_pay12 x rw' wid k0_pay4 W (ix2 o l) = rd (k0_pay10 x rw' wid k0_pay4 W) o ((l : ℤ) - 384) := by
  pointwise [k0_pay12]
  simp (disch := decide) only [rdL, rdR, Nat.cast_ofNat, Nat.cast_one]

/-- The sum of the taps one row up and of the first tap of the same row. -/
theorem q13 : k0_pay13 m l' r s w0 w1 w2 w3 (ix2 o l) = s (ix2 o l) * w0 (ix3 0 o 0) + rd m o ((l : ℤ) - 384) * w1 (ix3 0 o 0)
    + rd r o ((l : ℤ) - 384) * w2 (ix3 0 o 0) + l' (ix2 o l) * w3 (ix3 0 o 0) := by
  pointwise [k0_pay13]
  simp (disch := decide) only [rdL, rdR, Nat.cast_ofNat, Nat.cast_one]

/-- The sum after the remaining taps of the same row and the first two of the row below. -/
theorem q14 : k0_pay14 m l' r s w0 w1 w2 w3 (ix2 o l) = s (ix2 o l) + m (ix2 o l) * w0 (ix3 0 o 0) + r (ix2 o l) * w1 (ix3 0 o 0)
    + rd l' o ((l : ℤ) + 384) * w2 (ix3 0 o 0) + rd m o ((l : ℤ) + 384) * w3 (ix3 0 o 0) := by
  pointwise [k0_pay14]
  simp (disch := decide) only [rdL, rdR, Nat.cast_ofNat, Nat.cast_one]

/-- The right neighbours one row down. -/
theorem q15 : k0_pay15 r (ix2 o l) = rd r o ((l : ℤ) + 384) := by
  pointwise [k0_pay15]
  simp (disch := decide) only [rdL, rdR, Nat.cast_ofNat, Nat.cast_one]

/-- The last tap added, on the 16 middle rows: the block's queries. -/
theorem q16 : k0_pay16 s b w0 (ix2 o n) = s (ix2 o ⟨384 + n.val, by omega⟩) + b (ix2 o ⟨384 + n.val, by omega⟩) * w0 (ix3 0 o 0) := by
  pointwise [k0_pay16]

/-- The middle 96 channels of the 1x1 convolution: the keys before the depthwise convolution. -/
theorem q17 : k0_pay17 z (ix2 o l) = z (ix2 ⟨96 + o.val, by omega⟩ l) := by
  pointwise [k0_pay17]

/-- Their left neighbours, masked. -/
theorem q18 : k0_pay18 cl z (ix2 o l) = rd (k0_pay17 z) o ((l : ℤ) - 1) * cl (ix2 0 l) := by
  pointwise [k0_pay18]
  simp (disch := decide) only [rdL, rdR, Nat.cast_ofNat, Nat.cast_one]

/-- Their right neighbours, masked. -/
theorem q19 : k0_pay19 cr z (ix2 o l) = rd (k0_pay17 z) o ((l : ℤ) + 1) * cr (ix2 0 l) := by
  pointwise [k0_pay19]
  simp (disch := decide) only [rdL, rdR, Nat.cast_ofNat, Nat.cast_one]

/-- The sum of the first two taps of the keys. -/
theorem q20 : k0_pay20 cl z w0 w1 (ix2 o l) = rd (k0_pay18 cl z) o ((l : ℤ) - 384) * w0 (ix3 0 o 0) + rd (k0_pay17 z) o ((l : ℤ) - 384) * w1 (ix3 0 o 0) := by
  pointwise [k0_pay20]
  simp (disch := decide) only [rdL, rdR, Nat.cast_ofNat, Nat.cast_one]

/-- The keys' right neighbours one row up. -/
theorem q21 : k0_pay21 cr z (ix2 o l) = rd (k0_pay19 cr z) o ((l : ℤ) - 384) := by
  pointwise [k0_pay21]
  simp (disch := decide) only [rdL, rdR, Nat.cast_ofNat, Nat.cast_one]

/-- The keys' sum after the third tap, the taps of the same row and the first of the row below. -/
theorem q22 : k0_pay22 m l' r s b w0 w1 w2 w3 w4 (ix2 o l) = s (ix2 o l) + b (ix2 o l) * w0 (ix3 0 o 0) + l' (ix2 o l) * w1 (ix3 0 o 0)
    + m (ix2 o l) * w2 (ix3 0 o 0) + r (ix2 o l) * w3 (ix3 0 o 0) + rd l' o ((l : ℤ) + 384) * w4 (ix3 0 o 0) := by
  pointwise [k0_pay22]
  simp (disch := decide) only [rdL, rdR, Nat.cast_ofNat, Nat.cast_one]

/-- A move to the left by a row, read in the middle rows. -/
theorem rdM (v : FVec Ideal S96x6912 .f32) (pf : 384 + n.val < 6528 → 384 + (384 + n.val) < 6912) :
    (if h : 384 + n.val < 6528 then v (ix2 o ⟨384 + (384 + n.val), pf h⟩) else 0) = rd v o (((384 + n.val : ℕ) : ℤ) + 384) :=
  rdL v o ⟨384 + n.val, by omega⟩ 6528 384 pf rfl

/-- The last two taps added, on the 16 middle rows: the block's keys. -/
theorem q23 : k0_pay23 m r s w0 w1 (ix2 o n) = s (ix2 o ⟨384 + n.val, by omega⟩) + rd m o (((384 + n.val : ℕ) : ℤ) + 384) * w0 (ix3 0 o 0)
    + rd r o (((384 + n.val : ℕ) : ℤ) + 384) * w1 (ix3 0 o 0) := by
  pointwise [k0_pay23]
  rw [← rdM o n m (by omega), ← rdM o n r (by omega)]

/-- The last 96 channels of the 1x1 convolution: the values before the depthwise convolution. -/
theorem q24 : k0_pay24 z (ix2 o l) = z (ix2 ⟨192 + o.val, by omega⟩ l) := by
  pointwise [k0_pay24]

/-- Their left neighbours, masked. -/
theorem q25 : k0_pay25 cl z (ix2 o l) = rd (k0_pay24 z) o ((l : ℤ) - 1) * cl (ix2 0 l) := by
  pointwise [k0_pay25]
  simp (disch := decide) only [rdL, rdR, Nat.cast_ofNat, Nat.cast_one]

/-- Their right neighbours, masked. -/
theorem q26 : k0_pay26 cr z (ix2 o l) = rd (k0_pay24 z) o ((l : ℤ) + 1) * cr (ix2 0 l) := by
  pointwise [k0_pay26]
  simp (disch := decide) only [rdL, rdR, Nat.cast_ofNat, Nat.cast_one]

/-- The values' left neighbours one row up. -/
theorem q27 : k0_pay27 cl z (ix2 o l) = rd (k0_pay25 cl z) o ((l : ℤ) - 384) := by
  pointwise [k0_pay27]
  simp (disch := decide) only [rdL, rdR, Nat.cast_ofNat, Nat.cast_one]

/-- The values' sum of the first five taps. -/
theorem q29 : k0_pay29 m l' r s (k0_pay28 w0) w1 w2 w3 w4 (ix2 o l) = s (ix2 o l) * w0 (ix3 0 o 0) + rd m o ((l : ℤ) - 384) * w1 (ix3 0 o 0)
    + rd r o ((l : ℤ) - 384) * w2 (ix3 0 o 0) + l' (ix2 o l) * w3 (ix3 0 o 0) + m (ix2 o l) * w4 (ix3 0 o 0) := by
  pointwise [k0_pay29, k0_pay28]
  simp (disch := decide) only [rdL, rdR, Nat.cast_ofNat, Nat.cast_one]

/-- The remaining taps added, on the 16 middle rows: the block's values. -/
theorem q30 : k0_pay30 m l' r s w0 w1 w2 w3 (ix2 o n) = s (ix2 o ⟨384 + n.val, by omega⟩) + r (ix2 o ⟨384 + n.val, by omega⟩) * w0 (ix3 0 o 0)
    + rd l' o (((384 + n.val : ℕ) : ℤ) + 384) * w1 (ix3 0 o 0) + rd m o (((384 + n.val : ℕ) : ℤ) + 384) * w2 (ix3 0 o 0)
    + rd r o (((384 + n.val : ℕ) : ℤ) + 384) * w3 (ix3 0 o 0) := by
  pointwise [k0_pay30]
  rw [← rdM o n m (by omega), ← rdM o n r (by omega), ← rdM o n l' (by omega)]

end

/-! ## The running sums -/

/-- A step adds the products of the block's queries and keys to the running Gram matrix. -/
theorem q34 (q k : FVec Ideal S96x6144 .f32) (S : Vec Ideal S96x96 .f32) (a b : Fin 96) :
    k0_pay34 q k S (ix2 a b) = S (ix2 a b) + ∑ n, q (ix2 a n) * k (ix2 b n) := by
  pointwise [k0_pay34]

/-- A step adds the squares of the block's queries to their running sums, in every lane. -/
theorem q35 (q : FVec Ideal S96x6144 .f32) (S : Vec Ideal S96x128 .f32) (a : Fin 96) (b : Fin 128) :
    k0_pay35 q S (ix2 a b) = S (ix2 a b) + ∑ n, q (ix2 a n) * q (ix2 a n) := by
  pointwise [k0_pay35]

/-- A step adds the squares of the block's keys to their running sums, in every lane. -/
theorem q36 (q : FVec Ideal S96x6144 .f32) (S : Vec Ideal S96x128 .f32) (a : Fin 96) (b : Fin 128) :
    k0_pay36 q S (ix2 a b) = S (ix2 a b) + ∑ n, q (ix2 a n) * q (ix2 a n) := by
  pointwise [k0_pay36]

end Cert.Own
-- ==== Proof.K3.lean ====
module

public import proofs.«01_k».proof.Proof.Words
public import proofs.«01_k».proof.Proof.Strip

/-! # The third call's body, value by value

    Each value the body binds is read at a position of the strip of 24 rows. -/

@[expose] public section
set_option maxRecDepth 16384
noncomputable section
namespace Cert.Own
open Idealize.ShloMosaic Cert.KernelIdeal Cert.KernelIdeal.Gen

/-! ## The values at a position -/

/-- The attention matrix times the values. -/
theorem p13 (v : FVec Ideal S96x9216 .f32) (s : Vec Ideal S96x96 .f32) (o : Fin 96) (l : Fin 9216) :
    k2_pay13 v s (ix2 o l) = ∑ j, s (ix2 o j) * v (ix2 j l) := by
  pointwise [k2_pay13]

/-- The projection's weight, unchanged. -/
theorem p12 (w : Vec Ideal S96x96 .bf16) (o i : Fin 96) : k2_pay12 w (ix2 o i) = w (ix2 o i) := by
  pointwise [k2_pay12]

/-- The projection plus the input. -/
theorem p14 (x : FVec Ideal S96x9216 .f32) (w : FVec Ideal S96x96 .bf16) (u : FVec Ideal S96x9216 .bf16) (o : Fin 96) (l : Fin 9216) :
    k2_pay14 x w u (ix2 o l) = (∑ i, w (ix2 o i) * u (ix2 i l)) + x (ix2 o l) := by
  pointwise [k2_pay14]

/-- One channel of the gated feed-forward, at a pixel: layer norm over the 96 channels `y`, the expansion and the
    exact GELU. -/
def ffn (lw lb : Fin 96 → EReal) (w : Fin 192 → Fin 96 → EReal) (y : Fin 96 → EReal) (o : Fin 192) : EReal :=
  let mu := Ideal.div (∑ i, y i) (Ideal.ofBits FTy.f32 1119879168#32)
  let va := Ideal.div (∑ i, (y i - mu) * (y i - mu)) (Ideal.ofBits FTy.f32 1119879168#32)
  let t := ∑ i, w o i * (lw i * ((y i - mu) * Ideal.rsqrt (va + Ideal.ofBits FTy.f32 897988541#32)) + lb i)
  (Ideal.ofBits FTy.f32 1056964608#32 * t) * (1 + FloatOps.erf (F := Ideal) (φ := .f32) (t * Ideal.ofBits FTy.f32 1060439283#32))

/-- The layer norm, the expansion and the exact GELU. -/
theorem p15 (x : FVec Ideal S96x9216 .f32) (w : FVec Ideal S96x96 .bf16) (u : FVec Ideal S96x9216 .bf16) (lw lb : Vec Ideal S96x1 .f32)
    (f : Vec Ideal S192x96 .bf16) (o : Fin 192) (l : Fin 9216) :
    k2_pay15 x w u lw lb f (ix2 o l)
      = ffn (fun i => lw (ix2 i 0)) (fun i => lb (ix2 i 0)) (fun o i => f (ix2 o i)) (fun i => k2_pay14 x w u (ix2 i l)) o := by
  pointwise [k2_pay15]
  rfl

/-- The lower 96 of the expanded channels. -/
theorem p16 (x : FVec Ideal S96x9216 .f32) (w : FVec Ideal S96x96 .bf16) (u : FVec Ideal S96x9216 .bf16) (lw lb : Vec Ideal S96x1 .f32)
    (f : Vec Ideal S192x96 .bf16) (o : Fin 96) (l : Fin 9216) :
    k2_pay16 x w u lw lb f (ix2 o l) = k2_pay15 x w u lw lb f (ix2 ⟨o.val, by omega⟩ l) := by
  pointwise [k2_pay16]

/-- The upper 96 of the expanded channels. -/
theorem p17 (x : FVec Ideal S96x9216 .f32) (w : FVec Ideal S96x96 .bf16) (u : FVec Ideal S96x9216 .bf16) (lw lb : Vec Ideal S96x1 .f32)
    (f : Vec Ideal S192x96 .bf16) (o : Fin 96) (l : Fin 9216) :
    k2_pay17 x w u lw lb f (ix2 o l) = k2_pay15 x w u lw lb f (ix2 ⟨96 + o.val, by omega⟩ l) := by
  pointwise [k2_pay17]

/-- The lower channels mapped by the first gate's 1x1 convolution, masked to the rows of the image. -/
theorem p18 (rv : FVec Ideal S1x9216 .f32) (x : FVec Ideal S96x9216 .f32) (g : Vec Ideal S96x96 .bf16) (o : Fin 96) (l : Fin 9216) :
    k2_pay18 rv x g (ix2 o l) = (∑ i, g (ix2 o i) * x (ix2 i l)) * rv (ix2 0 l) := by
  pointwise [k2_pay18]

/-- Its left neighbours, masked. -/
theorem p19 (rv cl : FVec Ideal S1x9216 .f32) (x : FVec Ideal S96x9216 .f32) (g : Vec Ideal S96x96 .bf16) (o : Fin 96) (l : Fin 9216) :
    k2_pay19 rv cl x g (ix2 o l) = rd (k2_pay18 rv x g) o ((l : ℤ) - 1) * cl (ix2 0 l) := by
  pointwise [k2_pay19]
  simp (disch := decide) only [rdL, rdR, Nat.cast_ofNat, Nat.cast_one]

/-- Its right neighbours, masked. -/
theorem p20 (rv cr : FVec Ideal S1x9216 .f32) (x : FVec Ideal S96x9216 .f32) (g : Vec Ideal S96x96 .bf16) (o : Fin 96) (l : Fin 9216) :
    k2_pay20 rv cr x g (ix2 o l) = rd (k2_pay18 rv x g) o ((l : ℤ) + 1) * cr (ix2 0 l) := by
  pointwise [k2_pay20]
  simp (disch := decide) only [rdL, rdR, Nat.cast_ofNat, Nat.cast_one]

/-- The sum of the three taps one row up. -/
theorem p21 (rv cl cr : FVec Ideal S1x9216 .f32) (x : FVec Ideal S96x9216 .f32) (g : Vec Ideal S96x96 .bf16) (w0 w1 w2 : Vec Ideal S1x96x1 .f32)
    (o : Fin 96) (l : Fin 9216) :
    k2_pay21 rv cl cr x g w0 w1 w2 (ix2 o l) = rd (k2_pay19 rv cl x g) o ((l : ℤ) - 384) * w0 (ix3 0 o 0)
      + rd (k2_pay18 rv x g) o ((l : ℤ) - 384) * w1 (ix3 0 o 0) + rd (k2_pay20 rv cr x g) o ((l : ℤ) - 384) * w2 (ix3 0 o 0) := by
  pointwise [k2_pay21]
  simp (disch := decide) only [rdL, rdR, Nat.cast_ofNat, Nat.cast_one]

/-- The sum after the remaining taps: the first gate. -/
theorem p23 (a L R s : FVec Ideal S96x9216 .f32) (w3 w4 w5 w6 w7 w8 : Vec Ideal S1x96x1 .f32) (o : Fin 96) (l : Fin 9216) :
    k2_pay23 a L R s (k2_pay22 w3) w4 w5 w6 w7 w8 (ix2 o l) = s (ix2 o l) + L (ix2 o l) * w3 (ix3 0 o 0) + a (ix2 o l) * w4 (ix3 0 o 0)
      + R (ix2 o l) * w5 (ix3 0 o 0) + rd L o ((l : ℤ) + 384) * w6 (ix3 0 o 0) + rd a o ((l : ℤ) + 384) * w7 (ix3 0 o 0)
      + rd R o ((l : ℤ) + 384) * w8 (ix3 0 o 0) := by
  pointwise [k2_pay23, k2_pay22]
  simp (disch := decide) only [rdL, rdR, Nat.cast_ofNat, Nat.cast_one]

/-- The pixel plus its neighbour in the pair of columns. -/
theorem p25 (x : FVec Ideal S96x9216 .f32) (o : Fin 96) (l : Fin 9216) :
    k2_pay25 (k2_pay8 k2_pay4) x (Scalar.select (Scalar.cmpi .eq 2#32 0#32) 1#32 2#32) k2_pay24 (ix2 o l)
      = x (ix2 o l) + if l.val % 384 % 2 = 0 then rd x o ((l : ℤ) + 1) else rd x o ((l : ℤ) - 1) := by
  have hc := ce2 0 l
  pointwise [k2_pay32, k2_pay30, k2_pay31] at hc
  pointwise [k2_pay25, k2_pay24]
  simp (disch := decide) only [rdL, rdR, Nat.cast_ofNat, Nat.cast_one]
  congr 1
  exact sel1 _ _ hc _ _

/-- The sums over pairs of columns, one row down. -/
theorem p27 (c : IVec S1x9216 32) (x : FVec Ideal S96x9216 .f32) (a : BitVec 32) (b : IVec S1x9216 32) (o : Fin 96) (l : Fin 9216) :
    k2_pay27 c x a b (ix2 o l) = rd (k2_pay25 c x a b) o ((l : ℤ) + 384) := by
  pointwise [k2_pay27]
  simp (disch := decide) only [rdL, rdR, Nat.cast_ofNat, Nat.cast_one]

/-- The pooled pixel mapped by the second gate. -/
theorem p28 (t : Fin 24) (rv : FVec Ideal S1x9216 .f32) (s u : FVec Ideal S96x9216 .f32) (g : Vec Ideal S96x96 .bf16) (o : Fin 96) (l : Fin 9216) :
    k2_pay28 rv s (k2_pay26 (k2_pay7 (base2 t) k2_pay5 k2_pay6)) u g (ix2 o l)
      = (∑ i, g (ix2 o i) * ((s (ix2 i l) + if l.val / 384 % 2 = 0 then u (ix2 i l) else rd s i ((l : ℤ) - 384))
          * Ideal.ofBits FTy.f32 1048576000#32)) * rv (ix2 0 l) := by
  pointwise [k2_pay28]
  simp (disch := decide) only [rdL, rdR, Nat.cast_ofNat, Nat.cast_one]
  simp only [sel1 _ _ (re2' t 0 l)]

/-! ## The half-resolution neighbours -/

/-- The values two columns to the left. -/
theorem p36 (a : FVec Ideal S96x9216 .f32) (o : Fin 96) (l : Fin 9216) : k2_pay36 a (ix2 o l) = rd a o ((l : ℤ) - 2) := by
  pointwise [k2_pay36]
  simp (disch := decide) only [rdL, rdR, Nat.cast_ofNat, Nat.cast_one]

/-- The values three columns to the left. -/
theorem p37 (a : FVec Ideal S96x9216 .f32) (o : Fin 96) (l : Fin 9216) : k2_pay37 a (ix2 o l) = rd a o ((l : ℤ) - 3) := by
  pointwise [k2_pay37]
  simp (disch := decide) only [rdL, rdR, Nat.cast_ofNat, Nat.cast_one]

/-- The column parity flag. -/
abbrev ceF : IVec S1x9216 1 := k2_pay32 (Scalar.select (Scalar.cmpi .eq 2#32 0#32) 1#32 2#32) (k2_pay30 (k2_pay8 k2_pay4)) k2_pay31
/-- The row parity flag of block `t`. -/
abbrev reF (t : Fin 24) : IVec S1x9216 1 := k2_pay33 (k2_pay7 (base2 t) k2_pay5 k2_pay6)

/-- The column parity flag, bound a second time, is the first one. -/
theorem p38 (o : Fin 1) (l : Fin 9216) : k2_pay38 (Scalar.select (Scalar.cmpi .eq 2#32 0#32) 1#32 2#32) (k2_pay30 (k2_pay8 k2_pay4)) k2_pay31 (ix2 o l)
    = ceF (ix2 o l) := by
  pointwise [k2_pay38]

/-- The left half-resolution neighbour, chosen by column parity and masked. -/
theorem p39 (m : FVec Ideal S1x9216 .f32) (a b : FVec Ideal S96x9216 .f32) (f : IVec S1x9216 1) (o : Fin 96) (l : Fin 9216) :
    k2_pay39 m a b f (ix2 o l) = Scalar.select (f (ix2 0 l)) (a (ix2 o l)) (b (ix2 o l)) * m (ix2 0 l) := by
  pointwise [k2_pay39]

/-- The half-resolution column itself, chosen by column parity. -/
theorem p40 (a : FVec Ideal S96x9216 .f32) (f : IVec S1x9216 1) (o : Fin 96) (l : Fin 9216) :
    k2_pay40 a f (ix2 o l) = Scalar.select (f (ix2 0 l)) (a (ix2 o l)) (rd a o ((l : ℤ) - 1)) := by
  pointwise [k2_pay40]
  simp (disch := decide) only [rdL, rdR, Nat.cast_ofNat, Nat.cast_one]

/-- The right half-resolution neighbour, chosen by column parity and masked. -/
theorem p41 (a : FVec Ideal S96x9216 .f32) (f : IVec S1x9216 1) (m : FVec Ideal S1x9216 .f32) (o : Fin 96) (l : Fin 9216) :
    k2_pay41 a f m (ix2 o l) = Scalar.select (f (ix2 0 l)) (rd a o ((l : ℤ) + 2)) (rd a o ((l : ℤ) + 1)) * m (ix2 0 l) := by
  pointwise [k2_pay41]
  simp (disch := decide) only [rdL, rdR, Nat.cast_ofNat, Nat.cast_one]

/-- The first tap: the left neighbour one half-resolution row up. -/
theorem p42 (f : IVec S1x9216 1) (m : FVec Ideal S1x9216 .f32) (a b : FVec Ideal S96x9216 .f32) (g : IVec S1x9216 1) (w : Vec Ideal S1x96x1 .f32)
    (o : Fin 96) (l : Fin 9216) :
    k2_pay42 f m a b g w (ix2 o l)
      = Scalar.select (f (ix2 0 l)) (rd (k2_pay39 m a b g) o ((l : ℤ) - 768)) (rd (k2_pay39 m a b g) o ((l : ℤ) - 1152)) * w (ix3 0 o 0) := by
  pointwise [k2_pay42]
  simp (disch := decide) only [rdL, rdR, Nat.cast_ofNat, Nat.cast_one]

/-- The second tap: the middle column one half-resolution row up. -/
theorem p43 (a : FVec Ideal S96x9216 .f32) (g f : IVec S1x9216 1) (w : Vec Ideal S1x96x1 .f32) (o : Fin 96) (l : Fin 9216) :
    k2_pay43 a g f w (ix2 o l)
      = Scalar.select (f (ix2 0 l)) (rd (k2_pay40 a g) o ((l : ℤ) - 768)) (rd (k2_pay40 a g) o ((l : ℤ) - 1152)) * w (ix3 0 o 0) := by
  pointwise [k2_pay43]
  simp (disch := decide) only [rdL, rdR, Nat.cast_ofNat, Nat.cast_one]

/-- The sum after the third tap and the first two of the same half-resolution row. -/
theorem p44 (f : IVec S1x9216 1) (L M R a b : FVec Ideal S96x9216 .f32) (w2 w3 w4 : Vec Ideal S1x96x1 .f32) (o : Fin 96) (l : Fin 9216) :
    k2_pay44 f L M R a b w2 w3 w4 (ix2 o l)
      = a (ix2 o l) + b (ix2 o l) + Scalar.select (f (ix2 0 l)) (rd R o ((l : ℤ) - 768)) (rd R o ((l : ℤ) - 1152)) * w2 (ix3 0 o 0)
        + Scalar.select (f (ix2 0 l)) (L (ix2 o l)) (rd L o ((l : ℤ) - 384)) * w3 (ix3 0 o 0)
        + Scalar.select (f (ix2 0 l)) (M (ix2 o l)) (rd M o ((l : ℤ) - 384)) * w4 (ix3 0 o 0) := by
  pointwise [k2_pay44]
  simp (disch := decide) only [rdL, rdR, Nat.cast_ofNat, Nat.cast_one]

/-- The right neighbour in the same half-resolution row. -/
theorem p45 (f : IVec S1x9216 1) (R : FVec Ideal S96x9216 .f32) (o : Fin 96) (l : Fin 9216) :
    k2_pay45 f R (ix2 o l) = Scalar.select (f (ix2 0 l)) (R (ix2 o l)) (rd R o ((l : ℤ) - 384)) := by
  pointwise [k2_pay45]
  simp (disch := decide) only [rdL, rdR, Nat.cast_ofNat, Nat.cast_one]

/-- The sum after the sixth tap and the first two of the half-resolution row below. -/
theorem p46 (f : IVec S1x9216 1) (L M a b : FVec Ideal S96x9216 .f32) (w5 w6 w7 : Vec Ideal S1x96x1 .f32) (o : Fin 96) (l : Fin 9216) :
    k2_pay46 f L M a b w5 w6 w7 (ix2 o l)
      = a (ix2 o l) + b (ix2 o l) * w5 (ix3 0 o 0)
        + Scalar.select (f (ix2 0 l)) (rd L o ((l : ℤ) + 768)) (rd L o ((l : ℤ) + 384)) * w6 (ix3 0 o 0)
        + Scalar.select (f (ix2 0 l)) (rd M o ((l : ℤ) + 768)) (rd M o ((l : ℤ) + 384)) * w7 (ix3 0 o 0) := by
  pointwise [k2_pay46]
  simp (disch := decide) only [rdL, rdR, Nat.cast_ofNat, Nat.cast_one]

/-- The right neighbour one half-resolution row down. -/
theorem p47 (f : IVec S1x9216 1) (R : FVec Ideal S96x9216 .f32) (o : Fin 96) (l : Fin 9216) :
    k2_pay47 f R (ix2 o l) = Scalar.select (f (ix2 0 l)) (rd R o ((l : ℤ) + 768)) (rd R o ((l : ℤ) + 384)) := by
  pointwise [k2_pay47]
  simp (disch := decide) only [rdL, rdR, Nat.cast_ofNat, Nat.cast_one]

/-- The product of the two gates mapped by the third. -/
theorem p49 (rv : FVec Ideal S1x9216 .f32) (x a b : FVec Ideal S96x9216 .f32) (w8 : Vec Ideal S1x96x1 .f32) (g : Vec Ideal S96x96 .bf16) (o : Fin 96) (l : Fin 9216) :
    k2_pay49 rv x a b (k2_pay48 w8) g (ix2 o l)
      = (∑ i, g (ix2 o i) * (x (ix2 i l) * (a (ix2 i l) + b (ix2 i l) * w8 (ix3 0 i 0)))) * rv (ix2 0 l) := by
  pointwise [k2_pay49, k2_pay48]

/-- The left neighbours of the third gate's product, masked. -/
theorem p50 (rv cl : FVec Ideal S1x9216 .f32) (x a b w : FVec Ideal S96x9216 .f32) (g : Vec Ideal S96x96 .bf16) (o : Fin 96) (l : Fin 9216) :
    k2_pay50 rv cl x a b w g (ix2 o l) = rd (k2_pay49 rv x a b w g) o ((l : ℤ) - 1) * cl (ix2 0 l) := by
  pointwise [k2_pay50]
  simp (disch := decide) only [rdL, rdR, Nat.cast_ofNat, Nat.cast_one]

/-- The right neighbours of the third gate's product, masked. -/
theorem p51 (rv cr : FVec Ideal S1x9216 .f32) (x a b w : FVec Ideal S96x9216 .f32) (g : Vec Ideal S96x96 .bf16) (o : Fin 96) (l : Fin 9216) :
    k2_pay51 rv cr x a b w g (ix2 o l) = rd (k2_pay49 rv x a b w g) o ((l : ℤ) + 1) * cr (ix2 0 l) := by
  pointwise [k2_pay51]
  simp (disch := decide) only [rdL, rdR, Nat.cast_ofNat, Nat.cast_one]

/-- The sum of the three taps one row up, for the output convolution. -/
theorem p52 (rv cl cr : FVec Ideal S1x9216 .f32) (x a b w : FVec Ideal S96x9216 .f32) (g : Vec Ideal S96x96 .bf16) (w0 w1 w2 : Vec Ideal S1x96x1 .f32)
    (o : Fin 96) (l : Fin 9216) :
    k2_pay52 rv cl cr x a b w g w0 w1 w2 (ix2 o l) = rd (k2_pay50 rv cl x a b w g) o ((l : ℤ) - 384) * w0 (ix3 0 o 0)
      + rd (k2_pay49 rv x a b w g) o ((l : ℤ) - 384) * w1 (ix3 0 o 0) + rd (k2_pay51 rv cr x a b w g) o ((l : ℤ) - 384) * w2 (ix3 0 o 0) := by
  pointwise [k2_pay52]
  simp (disch := decide) only [rdL, rdR, Nat.cast_ofNat, Nat.cast_one]

/-- The output convolution's remaining taps and the residual. -/
theorem p53 (y M L R s : FVec Ideal S96x9216 .f32) (w3 w4 w5 w6 w7 w8 : Vec Ideal S1x96x1 .f32) (o : Fin 96) (l : Fin 9216) :
    k2_pay53 y M L R s w3 w4 w5 w6 w7 w8 (ix2 o l) = s (ix2 o l) + L (ix2 o l) * w3 (ix3 0 o 0) + M (ix2 o l) * w4 (ix3 0 o 0)
      + R (ix2 o l) * w5 (ix3 0 o 0) + rd L o ((l : ℤ) + 384) * w6 (ix3 0 o 0) + rd M o ((l : ℤ) + 384) * w7 (ix3 0 o 0)
      + rd R o ((l : ℤ) + 384) * w8 (ix3 0 o 0) + y (ix2 o l) := by
  pointwise [k2_pay53]
  simp (disch := decide) only [rdL, rdR, Nat.cast_ofNat, Nat.cast_one]

/-- The 16 rows in the middle of the strip. -/
theorem p1 (v : FVec Ideal S96x9216 .f32) (o : Fin 96) (l : Fin 6144) : k2_pay1 v (ix2 o l) = v (ix2 o ⟨1536 + l.val, by omega⟩) := by
  pointwise [k2_pay1]

/-- The three windows side by side. -/
theorem p2 (a : Vec Ideal S96x1536 .f32) (b : Vec Ideal S96x6144 .f32) (c : Vec Ideal S96x1536 .f32) (o : Fin 96) (l : Fin 9216) :
    k2_pay2 a b c (ix2 o l) = if h : l.val < 1536 then a (ix2 o ⟨l, h⟩)
      else if h : l.val - 1536 < 6144 then b (ix2 o ⟨l - 1536, h⟩) else c (ix2 o ⟨l - 1536 - 6144, by omega⟩) := by
  pointwise [k2_pay2]

/-- The three windows of the values side by side. -/
theorem p3 (a : Vec Ideal S96x1536 .f32) (b : Vec Ideal S96x6144 .f32) (c : Vec Ideal S96x1536 .f32) (o : Fin 96) (l : Fin 9216) :
    k2_pay3 a b c (ix2 o l) = if h : l.val < 1536 then a (ix2 o ⟨l, h⟩)
      else if h : l.val - 1536 < 6144 then b (ix2 o ⟨l - 1536, h⟩) else c (ix2 o ⟨l - 1536 - 6144, by omega⟩) := by
  pointwise [k2_pay3]

end Cert.Own
-- ==== Proof.K3Spec.lean ====
module

public import proofs.«01_k».proof.Proof.K3

/-! # The third call's strip holds the gated block of the image

    From strips of the input and of the values that hold their images on the rows of the image, the body's strip holds the
    layer norm, the two gates, their product and the output convolution, on the rows it stores. -/

@[expose] public section
set_option maxRecDepth 16384
noncomputable section
namespace Cert.Own
open Idealize.ShloMosaic Cert.KernelIdeal Cert.KernelIdeal.Gen

/-! ## The images -/

/-- The lower half of the 192 channels. -/
def lo (i : Fin 96) : Fin 192 := ⟨i.val, by omega⟩
/-- The upper half of the 192 channels. -/
def hi (i : Fin 96) : Fin 192 := ⟨96 + i.val, by omega⟩
/-- A quarter, as the kernel's literal. -/
def quarter : EReal := Ideal.ofBits FTy.f32 1048576000#32

/-- The attention's output projected, plus the input. -/
def yS (X V : Fin 96 → ℤ → ℤ → EReal) (spa pw : Fin 96 → Fin 96 → EReal) (o : Fin 96) (r c : ℤ) : EReal :=
  (∑ i, pw o i * ∑ j, spa i j * V j r c) + X o r c

/-- The expanded, gelu'd channels of the image `y`. -/
def uS (lw lb : Fin 96 → EReal) (fw : Fin 192 → Fin 96 → EReal) (y : Fin 96 → ℤ → ℤ → EReal) (o : Fin 192) (r c : ℤ) : EReal :=
  ffn lw lb fw (fun i => y i r c) o

/-- The first gate. -/
def g1S (g1 : Fin 96 → Fin 96 → EReal) (d1 : Fin 96 → Fin 9 → EReal) (u : Fin 192 → ℤ → ℤ → EReal) (o : Fin 96) (r c : ℤ) : EReal :=
  dw9 384 (d1 o) (conv1 g1 (fun i => u (lo i)) o) r c

/-- The second gate, at half resolution. -/
def g2S (g2 : Fin 96 → Fin 96 → EReal) (d2 : Fin 96 → Fin 9 → EReal) (u : Fin 192 → ℤ → ℤ → EReal) (o : Fin 96) (r c : ℤ) : EReal :=
  dw9 192 (d2 o) (conv1 g2 (fun i => pool quarter (u (hi i))) o) r c

/-- The output. -/
def outS (g1 g2 g3 : Fin 96 → Fin 96 → EReal) (d1 d2 d3 : Fin 96 → Fin 9 → EReal) (u : Fin 192 → ℤ → ℤ → EReal)
    (y : Fin 96 → ℤ → ℤ → EReal) (o : Fin 96) (r c : ℤ) : EReal :=
  dw9 384 (d3 o) (conv1 g3 (fun i r c => g1S g1 d1 u i r c * g2S g2 d2 u i (r / 2) (c / 2)) o) r c + y o r c

/-! ## Strips that hold an image on the rows of the image only -/

/-- The rows of the strip of block `t` that lie in the image are those of the images `A`. -/
def StrI {a : ℕ} (t : Fin 24) (v : Shape.Idx ⟨2, ![a, 9216]⟩ → EReal) (A : Fin a → ℤ → ℤ → EReal) : Prop :=
  ∀ o (r c : ℤ), 0 ≤ r → r < 24 → 4 ≤ 16 * t.val + r → 16 * t.val + r < 388 → 0 ≤ c → c < 384 →
    rd v o (384 * r + c) = A o (16 * t.val - 4 + r) c

/-- A strip holds an image if it does at every position, given by its row and column. -/
theorem StrI.of {a : ℕ} {t : Fin 24} {v : Shape.Idx ⟨2, ![a, 9216]⟩ → EReal} {A : Fin a → ℤ → ℤ → EReal}
    (h : ∀ o (l : Fin 9216) (r c : ℤ), 0 ≤ r → r < 24 → 4 ≤ 16 * t.val + r → 16 * t.val + r < 388 → 0 ≤ c → c < 384 →
      (l : ℤ) = 384 * r + c → v (ix2 o l) = A o (16 * t.val - 4 + r) c) : StrI t v A := by
  intro o r c h1 h2 h3 h4 h5 h6
  rw [rd_at v o _ (by omega) (by omega)]
  exact h o _ r c h1 h2 h3 h4 h5 h6 (by simp; omega)

/-- A strip that holds an image, read at a position. -/
theorem StrI.at {a : ℕ} {t : Fin 24} {v : Shape.Idx ⟨2, ![a, 9216]⟩ → EReal} {A : Fin a → ℤ → ℤ → EReal} (h : StrI t v A)
    (o : Fin a) (l r c : ℤ) (e : l = 384 * r + c) (h1 : 0 ≤ r) (h2 : r < 24) (h3 : 4 ≤ 16 * t.val + r) (h4 : 16 * t.val + r < 388)
    (h5 : 0 ≤ c) (h6 : c < 384) : rd v o l = A o (16 * t.val - 4 + r) c := by rw [e]; exact h o r c h1 h2 h3 h4 h5 h6

section
variable {t : Fin 24} {X V : Fin 96 → ℤ → ℤ → EReal} {xs vs : FVec Ideal S96x9216 .f32} {spa : Vec Ideal S96x96 .f32} {pw : Vec Ideal S96x96 .bf16}
  {lw lb : Vec Ideal S96x1 .f32} {fw : Vec Ideal S192x96 .bf16} {g : Vec Ideal S96x96 .bf16}

/-- A matrix's entries. -/
def mt {a b : ℕ} (v : Shape.Idx ⟨2, ![a, b]⟩ → EReal) (i : Fin a) (j : Fin b) : EReal := v (ix2 i j)
/-- A column's entries. -/
def cl {a : ℕ} (v : Shape.Idx ⟨2, ![a, 1]⟩ → EReal) (i : Fin a) : EReal := v (ix2 i 0)

/-- The projected attention plus the input, on the strip. -/
theorem y_str (hx : StrI t xs X) (hv : StrI t vs V) :
    StrI t (k2_pay14 xs (k2_pay12 pw) (k2_pay13 vs spa)) (yS X V (mt spa) (mt pw)) := by
  refine StrI.of fun o l r c h1 h2 h3 h4 h5 h6 e => ?_
  rw [p14, yS, rd_coe xs, hx.at o _ r c e h1 h2 h3 h4 h5 h6]
  congr 1
  refine Finset.sum_congr rfl fun i _ => ?_
  rw [p12, p13]
  congr 1
  refine Finset.sum_congr rfl fun j _ => ?_
  rw [rd_coe vs, hv.at j _ r c e h1 h2 h3 h4 h5 h6]
  rfl

/-- The lower expanded channels, on the strip. -/
theorem u1_str {Y : Fin 96 → ℤ → ℤ → EReal} {us : FVec Ideal S96x9216 .bf16} {pw : FVec Ideal S96x96 .bf16} (hy : StrI t (k2_pay14 xs pw us) Y) :
    StrI t (k2_pay16 xs pw us lw lb fw) (fun o => uS (cl lw) (cl lb) (mt fw) Y (lo o)) := by
  refine StrI.of fun o l r c h1 h2 h3 h4 h5 h6 e => ?_
  rw [p16, p15, uS]
  have : (fun i => k2_pay14 xs pw us (ix2 i l)) = fun i => Y i (16 * t.val - 4 + r) c := by
    funext i
    rw [rd_coe (k2_pay14 xs pw us), hy.at i _ r c e h1 h2 h3 h4 h5 h6]
  rw [this]
  rfl

/-- The upper expanded channels, on the strip. -/
theorem u2_str {Y : Fin 96 → ℤ → ℤ → EReal} {us : FVec Ideal S96x9216 .bf16} {pw : FVec Ideal S96x96 .bf16} (hy : StrI t (k2_pay14 xs pw us) Y) :
    StrI t (k2_pay17 xs pw us lw lb fw) (fun o => uS (cl lw) (cl lb) (mt fw) Y (hi o)) := by
  refine StrI.of fun o l r c h1 h2 h3 h4 h5 h6 e => ?_
  rw [p17, p15, uS]
  have : (fun i => k2_pay14 xs pw us (ix2 i l)) = fun i => Y i (16 * t.val - 4 + r) c := by
    funext i
    rw [rd_coe (k2_pay14 xs pw us), hy.at i _ r c e h1 h2 h3 h4 h5 h6]
  rw [this]
  rfl

/-- The row mask of block `t`. -/
abbrev rvF (t : Fin 24) : FVec Ideal S1x9216 .f32 := k2_pay9 (F := Ideal) (base2 t) k2_pay5 k2_pay6
/-- The mask of the left neighbours. -/
abbrev clF : FVec Ideal S1x9216 .f32 := k2_pay10 (F := Ideal) k2_pay4
/-- The mask of the right neighbours. -/
abbrev crF : FVec Ideal S1x9216 .f32 := k2_pay11 (F := Ideal) k2_pay4

/-- The row mask at a position. -/
theorem rvF_at (t : Fin 24) (l : Fin 9216) :
    rvF t (ix2 0 l) = if 4 ≤ 16 * t.val + l.val / 384 ∧ 16 * t.val + l.val / 384 < 388 then (1 : EReal) else 0 := rv2 t 0 l
/-- The mask of the left neighbours at a position. -/
theorem clF_at (l : Fin 9216) : clF (ix2 0 l) = if 1 ≤ l.val % 384 then (1 : EReal) else 0 := cl2 0 l
/-- The mask of the right neighbours at a position. -/
theorem crF_at (l : Fin 9216) : crF (ix2 0 l) = if l.val % 384 ≤ 382 then (1 : EReal) else 0 := cr2 0 l

/-- A value masked by the rows of the image holds the masked image. -/
theorem masked {w : Shape.Idx ⟨2, ![96, 9216]⟩ → EReal} {A : Fin 96 → ℤ → ℤ → EReal} {v : Fin 96 → Fin 9216 → EReal} {l0 h0 : ℤ} (e0 : 0 ≤ l0) (e1 : h0 ≤ 24)
    (hw : ∀ o l, w (ix2 o l) = v o l * rvF t (ix2 0 l))
    (hv : ∀ o (l : Fin 9216) (r c : ℤ), l0 ≤ r → r < h0 → 4 ≤ 16 * t.val + r → 16 * t.val + r < 388 → 0 ≤ c → c < 384 →
      (l : ℤ) = 384 * r + c → v o l = A o (16 * t.val - 4 + r) c) :
    Str (16 * t.val - 4) l0 h0 w (fun o => msk 384 (A o)) := by
  refine Str.of e0 (by omega) fun o l r c h1 h2 h3 h4 e => ?_
  rw [hw, rvF_at]
  split_ifs with h
  · rw [mul_one, msk_in _ _ _ _ (by omega), hv o l r c h1 h2 (by omega) (by omega) h3 h4 e]
  · rw [mul_zero, msk_out _ _ _ _ (by omega)]

/-- The first gate's 1x1 convolution, masked, on the strip. -/
theorem a1_str {U : Fin 96 → ℤ → ℤ → EReal} {us : FVec Ideal S96x9216 .f32} (hu : StrI t us U) :
    Str (16 * t.val - 4) 0 24 (k2_pay18 (rvF t) us g) (fun o => msk 384 (conv1 (mt g) U o)) := by
  refine masked le_rfl le_rfl (fun o l => p18 _ _ _ o l) fun o l r c h1 h2 h3 h4 h5 h6 e => ?_
  rw [conv1]
  refine Finset.sum_congr rfl fun i _ => ?_
  rw [rd_coe us, hu.at i _ r c e h1 h2 h3 h4 h5 h6]
  rfl

/-- The nine rows of a depthwise weight, as the body loads them. -/
def taps (w : Fin 9 → Vec Ideal S1x96x1 .f32) (o : Fin 96) (d : Fin 9) : EReal := w d (ix3 0 o 0)

/-- The first gate's depthwise convolution, on the strip. -/
theorem x1d_str {A : Fin 96 → ℤ → ℤ → EReal} {us : FVec Ideal S96x9216 .f32} (w : Fin 9 → Vec Ideal S1x96x1 .f32)
    (ha : Str (16 * t.val - 4) 0 24 (k2_pay18 (rvF t) us g) (fun o => msk 384 (A o))) :
    Str (16 * t.val - 4) 1 23 (k2_pay23 (k2_pay18 (rvF t) us g) (k2_pay19 (rvF t) clF us g) (k2_pay20 (rvF t) crF us g)
      (k2_pay21 (rvF t) clF crF us g (w 0) (w 1) (w 2)) (k2_pay22 (w 3)) (w 4) (w 5) (w 6) (w 7) (w 8)) (fun o => dw9 384 (taps w o) (A o)) := by
  have hL := Str.left (w := k2_pay19 (rvF t) clF us g) le_rfl (by norm_num) ha (fun o l => by rw [p19, clF_at])
  have hR := Str.right (w := k2_pay20 (rvF t) crF us g) le_rfl (by norm_num) ha (fun o l => by rw [p20, crF_at])
  exact Str.dw le_rfl (by norm_num) hL ha hR (fun o l => by rw [p23, p21]; rfl)

/-- The pairs of columns. -/
theorem s2_str {U : Fin 96 → ℤ → ℤ → EReal} {us : FVec Ideal S96x9216 .f32} (hu : StrI t us U) :
    StrI t (k2_pay25 (k2_pay8 k2_pay4) us (Scalar.select (Scalar.cmpi .eq 2#32 0#32) 1#32 2#32) k2_pay24)
      (fun o r c => U o r (2 * (c / 2)) + U o r (2 * (c / 2) + 1)) := by
  refine StrI.of fun o l r c h1 h2 h3 h4 h5 h6 e => ?_
  rw [p25, rd_coe us, hu.at o _ r c e h1 h2 h3 h4 h5 h6]
  split_ifs with h
  · rw [hu.at o _ r (c + 1) (by omega) h1 h2 h3 h4 (by omega) (by omega), show 2 * (c / 2) = c by omega]
  · rw [hu.at o _ r (c - 1) (by omega) h1 h2 h3 h4 (by omega) (by omega), add_comm, show 2 * (c / 2) = c - 1 by omega, show c - 1 + 1 = c by ring]

/-- The pooled squares, mapped by the second gate. -/
theorem a2_str {U : Fin 96 → ℤ → ℤ → EReal} {us : FVec Ideal S96x9216 .f32} (hu : StrI t us U) :
    Str (16 * t.val - 4) 0 24 (k2_pay28 (rvF t) (k2_pay25 (k2_pay8 k2_pay4) us (Scalar.select (Scalar.cmpi .eq 2#32 0#32) 1#32 2#32) k2_pay24)
      (k2_pay26 (k2_pay7 (base2 t) k2_pay5 k2_pay6)) (k2_pay27 (k2_pay8 k2_pay4) us (Scalar.select (Scalar.cmpi .eq 2#32 0#32) 1#32 2#32) k2_pay24) g)
      (fun o r c => msk 192 (conv1 (mt g) (fun i => pool quarter (U i)) o) (r / 2) (c / 2)) := by
  have hs := s2_str hu
  have := masked (t := t) (l0 := 0) (h0 := 24) (A := fun o r c => conv1 (mt g) (fun i => pool quarter (U i)) o (r / 2) (c / 2)) le_rfl le_rfl
    (fun o l => p28 t (rvF t) (k2_pay25 (k2_pay8 k2_pay4) us (Scalar.select (Scalar.cmpi .eq 2#32 0#32) 1#32 2#32) k2_pay24)
      (k2_pay27 (k2_pay8 k2_pay4) us (Scalar.select (Scalar.cmpi .eq 2#32 0#32) 1#32 2#32) k2_pay24) g o l)
    (fun o l r c h1 h2 h3 h4 h5 h6 e => by
      simp only [conv1]
      refine Finset.sum_congr rfl fun i _ => ?_
      congr 1
      rw [p27, rd_coe (k2_pay25 (k2_pay8 k2_pay4) us (Scalar.select (Scalar.cmpi .eq 2#32 0#32) 1#32 2#32) k2_pay24), hs.at i _ r c e h1 h2 h3 h4 h5 h6, pool, quarter]
      congr 1
      split_ifs with h
      · rw [hs.at i _ (r + 1) c (by omega) (by omega) (by omega) (by omega) (by omega) h5 h6]
        rw [show 2 * ((16 * (t.val : ℤ) - 4 + r) / 2) = 16 * t.val - 4 + r by omega, show 16 * (t.val : ℤ) - 4 + (r + 1) = 16 * t.val - 4 + r + 1 by ring]
      · rw [hs.at i _ (r - 1) c (by omega) (by omega) (by omega) (by omega) (by omega) h5 h6]
        rw [show 2 * ((16 * (t.val : ℤ) - 4 + r) / 2) = 16 * t.val - 4 + (r - 1) by omega, show 16 * (t.val : ℤ) - 4 + (r - 1) + 1 = 16 * t.val - 4 + r by ring,
          add_comm])
  intro o r c h1 h2 h3 h4
  rw [this o r c h1 h2 h3 h4]
  simp only [msk]
  split_ifs <;> first | rfl | (exfalso; omega)

/-! ## The half-resolution convolution -/

/-- The mask of the left half-resolution neighbours. -/
abbrev clhF : FVec Ideal S1x9216 .f32 := k2_pay34 (F := Ideal) (k2_pay29 (k2_pay8 k2_pay4))
/-- The mask of the right half-resolution neighbours. -/
abbrev crhF : FVec Ideal S1x9216 .f32 := k2_pay35 (F := Ideal) (k2_pay29 (k2_pay8 k2_pay4))
/-- The column parity flag, bound a second time. -/
abbrev ceG : IVec S1x9216 1 := k2_pay38 (Scalar.select (Scalar.cmpi .eq 2#32 0#32) 1#32 2#32) (k2_pay30 (k2_pay8 k2_pay4)) k2_pay31

/-- The mask of the left half-resolution neighbours at a position. -/
theorem clhF_at (l : Fin 9216) : clhF (ix2 0 l) = if 1 ≤ l.val % 384 / 2 then (1 : EReal) else 0 := clh2 0 l
/-- The mask of the right half-resolution neighbours at a position. -/
theorem crhF_at (l : Fin 9216) : crhF (ix2 0 l) = if l.val % 384 / 2 ≤ 190 then (1 : EReal) else 0 := crh2 0 l
/-- The column parity flag at a position. -/
theorem ceG_at (l : Fin 9216) : ceG (ix2 0 l) = if l.val % 384 % 2 = 0 then 1#1 else 0#1 := (p38 0 l).trans (ce2 0 l)

variable {a : FVec Ideal S96x9216 .f32} {A : Fin 96 → ℤ → ℤ → EReal}

/-- The left half-resolution neighbours, on the strip. -/
theorem L2_str (ha : Str (16 * t.val - 4) 0 24 a (fun o r c => msk 192 (A o) (r / 2) (c / 2))) :
    Str (16 * t.val - 4) 0 24 (k2_pay39 clhF (k2_pay36 a) (k2_pay37 a) ceG) (fun o r c => msk 192 (A o) (r / 2) (c / 2 - 1)) := by
  refine Str.of le_rfl (by norm_num) fun o l r c h1 h2 h3 h4 e => ?_
  rw [p39, sel1 _ _ (ceG_at l), clhF_at, p36, p37]
  split_ifs with hc he
  · rw [mul_one, ha.at o _ r (c - 2) (by omega) h1 h2 (by omega) (by omega), show (c - 2) / 2 = c / 2 - 1 by omega]
  · rw [mul_zero, msk_out]; omega
  · rw [mul_one, ha.at o _ r (c - 3) (by omega) h1 h2 (by omega) (by omega), show (c - 3) / 2 = c / 2 - 1 by omega]
  · rw [mul_zero, msk_out]; omega

/-- The half-resolution columns themselves, on the strip. -/
theorem M2_str (ha : Str (16 * t.val - 4) 0 24 a (fun o r c => msk 192 (A o) (r / 2) (c / 2))) :
    Str (16 * t.val - 4) 0 24 (k2_pay40 a ceF) (fun o r c => msk 192 (A o) (r / 2) (c / 2)) := by
  refine Str.of le_rfl (by norm_num) fun o l r c h1 h2 h3 h4 e => ?_
  rw [p40, sel1 _ _ (ce2 0 l), rd_coe a]
  split_ifs with hc
  · rw [ha.at o _ r c e h1 h2 (by omega) (by omega)]
  · rw [ha.at o _ r (c - 1) (by omega) h1 h2 (by omega) (by omega), show (c - 1) / 2 = c / 2 by omega]

/-- The right half-resolution neighbours, on the strip. -/
theorem R2_str (ha : Str (16 * t.val - 4) 0 24 a (fun o r c => msk 192 (A o) (r / 2) (c / 2))) :
    Str (16 * t.val - 4) 0 24 (k2_pay41 a ceF crhF) (fun o r c => msk 192 (A o) (r / 2) (c / 2 + 1)) := by
  refine Str.of le_rfl (by norm_num) fun o l r c h1 h2 h3 h4 e => ?_
  rw [p41, sel1 _ _ (ce2 0 l), crhF_at]
  split_ifs with hc he
  · rw [mul_one, ha.at o _ r (c + 2) (by omega) h1 h2 (by omega) (by omega), show (c + 2) / 2 = c / 2 + 1 by omega]
  · rw [mul_zero, msk_out]; omega
  · rw [mul_one, ha.at o _ r (c + 1) (by omega) h1 h2 (by omega) (by omega), show (c + 1) / 2 = c / 2 + 1 by omega]
  · rw [mul_zero, msk_out]; omega

variable {P : Fin 96 → ℤ → ℤ → EReal} {v : FVec Ideal S96x9216 .f32}

/-- The row of squares above. -/
theorem up_row (h : Str (16 * t.val - 4) 0 24 v (fun o r c => P o (r / 2) c)) (o : Fin 96) (l : Fin 9216) (r c : ℤ)
    (h1 : 2 ≤ r) (h2 : r < 24) (h3 : 0 ≤ c) (h4 : c < 384) (e : (l : ℤ) = 384 * r + c) :
    Scalar.select (reF t (ix2 0 l)) (rd v o ((l : ℤ) - 768)) (rd v o ((l : ℤ) - 1152)) = P o ((16 * t.val - 4 + r) / 2 - 1) c := by
  rw [sel1 _ _ (re2 t 0 l)]
  split_ifs with hc
  · rw [h.at o _ (r - 2) c (by omega) (by omega) (by omega) h3 h4]
    simp only [show (16 * (t.val : ℤ) - 4 + (r - 2)) / 2 = (16 * t.val - 4 + r) / 2 - 1 by omega]
  · rw [h.at o _ (r - 3) c (by omega) (by omega) (by omega) h3 h4]
    simp only [show (16 * (t.val : ℤ) - 4 + (r - 3)) / 2 = (16 * t.val - 4 + r) / 2 - 1 by omega]

/-- The row of squares itself. -/
theorem mid_row (h : Str (16 * t.val - 4) 0 24 v (fun o r c => P o (r / 2) c)) (o : Fin 96) (l : Fin 9216) (r c : ℤ)
    (h1 : 0 ≤ r) (h2 : r < 24) (h3 : 0 ≤ c) (h4 : c < 384) (e : (l : ℤ) = 384 * r + c) :
    Scalar.select (reF t (ix2 0 l)) (v (ix2 o l)) (rd v o ((l : ℤ) - 384)) = P o ((16 * t.val - 4 + r) / 2) c := by
  rw [sel1 _ _ (re2 t 0 l), rd_coe v]
  split_ifs with hc
  · rw [h.at o _ r c (by omega) (by omega) (by omega) h3 h4]
  · rw [h.at o _ (r - 1) c (by omega) (by omega) (by omega) h3 h4]
    simp only [show (16 * (t.val : ℤ) - 4 + (r - 1)) / 2 = (16 * t.val - 4 + r) / 2 by omega]

/-- The row of squares below. -/
theorem down_row (h : Str (16 * t.val - 4) 0 24 v (fun o r c => P o (r / 2) c)) (o : Fin 96) (l : Fin 9216) (r c : ℤ)
    (h1 : 0 ≤ r) (h2 : r < 22) (h3 : 0 ≤ c) (h4 : c < 384) (e : (l : ℤ) = 384 * r + c) :
    Scalar.select (reF t (ix2 0 l)) (rd v o ((l : ℤ) + 768)) (rd v o ((l : ℤ) + 384)) = P o ((16 * t.val - 4 + r) / 2 + 1) c := by
  rw [sel1 _ _ (re2 t 0 l)]
  split_ifs with hc
  · rw [h.at o _ (r + 2) c (by omega) (by omega) (by omega) h3 h4]
    simp only [show (16 * (t.val : ℤ) - 4 + (r + 2)) / 2 = (16 * t.val - 4 + r) / 2 + 1 by omega]
  · rw [h.at o _ (r + 1) c (by omega) (by omega) (by omega) h3 h4]
    simp only [show (16 * (t.val : ℤ) - 4 + (r + 1)) / 2 = (16 * t.val - 4 + r) / 2 + 1 by omega]

/-- The second gate, before its last tap is added. -/
abbrev x2uV (t : Fin 24) (a : FVec Ideal S96x9216 .f32) (w : Fin 9 → Vec Ideal S1x96x1 .f32) : FVec Ideal S96x9216 .f32 :=
  k2_pay46 (reF t) (k2_pay39 clhF (k2_pay36 a) (k2_pay37 a) ceG) (k2_pay40 a ceF)
    (k2_pay44 (reF t) (k2_pay39 clhF (k2_pay36 a) (k2_pay37 a) ceG) (k2_pay40 a ceF) (k2_pay41 a ceF crhF)
      (k2_pay42 (reF t) clhF (k2_pay36 a) (k2_pay37 a) ceG (w 0)) (k2_pay43 a ceF (reF t) (w 1)) (w 2) (w 3) (w 4))
    (k2_pay45 (reF t) (k2_pay41 a ceF crhF)) (w 5) (w 6) (w 7)

/-- The second gate's depthwise convolution at half resolution, read at a position of the strip. -/
theorem x2u_at (ha : Str (16 * t.val - 4) 0 24 a (fun o r c => msk 192 (A o) (r / 2) (c / 2))) (w : Fin 9 → Vec Ideal S1x96x1 .f32)
    (o : Fin 96) (l : Fin 9216) (r c : ℤ) (h1 : 2 ≤ r) (h2 : r < 22) (h3 : 0 ≤ c) (h4 : c < 384) (e : (l : ℤ) = 384 * r + c) :
    x2uV t a w (ix2 o l) + k2_pay47 (reF t) (k2_pay41 a ceF crhF) (ix2 o l) * w 8 (ix3 0 o 0)
      = dw9 192 (taps w o) (A o) ((16 * t.val - 4 + r) / 2) (c / 2) := by
  have hL := L2_str ha
  have hM := M2_str ha
  have hR := R2_str ha
  rw [x2uV, p46, p44, p42, p43, p45, p47]
  rw [up_row (P := fun o r c => msk 192 (A o) r (c / 2 - 1)) hL o l r c h1 (by omega) h3 h4 e,
    up_row (P := fun o r c => msk 192 (A o) r (c / 2)) hM o l r c h1 (by omega) h3 h4 e,
    up_row (P := fun o r c => msk 192 (A o) r (c / 2 + 1)) hR o l r c h1 (by omega) h3 h4 e,
    mid_row (P := fun o r c => msk 192 (A o) r (c / 2 - 1)) hL o l r c (by omega) (by omega) h3 h4 e,
    mid_row (P := fun o r c => msk 192 (A o) r (c / 2)) hM o l r c (by omega) (by omega) h3 h4 e,
    mid_row (P := fun o r c => msk 192 (A o) r (c / 2 + 1)) hR o l r c (by omega) (by omega) h3 h4 e,
    down_row (P := fun o r c => msk 192 (A o) r (c / 2 - 1)) hL o l r c (by omega) h2 h3 h4 e,
    down_row (P := fun o r c => msk 192 (A o) r (c / 2)) hM o l r c (by omega) h2 h3 h4 e,
    down_row (P := fun o r c => msk 192 (A o) r (c / 2 + 1)) hR o l r c (by omega) h2 h3 h4 e]
  rfl

/-- The product of the gates, mapped by the third and masked. -/
theorem a3_str {G : Fin 96 → ℤ → ℤ → EReal} {xd : FVec Ideal S96x9216 .f32} (hd : Str (16 * t.val - 4) 1 23 xd G)
    (ha : Str (16 * t.val - 4) 0 24 a (fun o r c => msk 192 (A o) (r / 2) (c / 2))) (w : Fin 9 → Vec Ideal S1x96x1 .f32) :
    Str (16 * t.val - 4) 2 22 (k2_pay49 (rvF t) xd (x2uV t a w) (k2_pay47 (reF t) (k2_pay41 a ceF crhF)) (k2_pay48 (w 8)) g)
      (fun o => msk 384 (conv1 (mt g) (fun i r c => G i r c * dw9 192 (taps w i) (A i) (r / 2) (c / 2)) o)) := by
  refine masked (by norm_num) (by norm_num) (fun o l => p49 (rvF t) xd _ _ (w 8) g o l) fun o l r c h1 h2 h3 h4 h5 h6 e => ?_
  rw [conv1]
  refine Finset.sum_congr rfl fun i _ => ?_
  rw [x2u_at ha w i l r c h1 h2 h5 h6 e, rd_coe xd, hd.at i _ r c e (by omega) (by omega) h5 h6]
  rfl

/-- The output convolution plus the residual. -/
theorem out_at {Y G : Fin 96 → ℤ → ℤ → EReal} {y xd p q r8 : FVec Ideal S96x9216 .f32} (w : Fin 9 → Vec Ideal S1x96x1 .f32)
    (hy : StrI t y Y) (ha : Str (16 * t.val - 4) 2 22 (k2_pay49 (rvF t) xd p q r8 g) (fun o => msk 384 (G o)))
    (o : Fin 96) (l : Fin 6144) :
    k2_pay1 (k2_pay53 y (k2_pay49 (rvF t) xd p q r8 g) (k2_pay50 (rvF t) clF xd p q r8 g) (k2_pay51 (rvF t) crF xd p q r8 g)
      (k2_pay52 (rvF t) clF crF xd p q r8 g (w 0) (w 1) (w 2)) (w 3) (w 4) (w 5) (w 6) (w 7) (w 8)) (ix2 o l)
      = dw9 384 (taps w o) (G o) (16 * t.val + (l / 384 : ℕ)) (l % 384 : ℕ) + Y o (16 * t.val + (l / 384 : ℕ)) (l % 384 : ℕ) := by
  have hL := Str.left (w := k2_pay50 (rvF t) clF xd p q r8 g) (by norm_num) (by norm_num) ha (fun o l => by rw [p50, clF_at])
  have hR := Str.right (w := k2_pay51 (rvF t) crF xd p q r8 g) (by norm_num) (by norm_num) ha (fun o l => by rw [p51, crF_at])
  set s : FVec Ideal S96x9216 .f32 := k2_pay53 y (k2_pay49 (rvF t) xd p q r8 g) (k2_pay50 (rvF t) clF xd p q r8 g) (k2_pay51 (rvF t) crF xd p q r8 g)
      (k2_pay52 (rvF t) clF crF xd p q r8 g (w 0) (w 1) (w 2)) (w 3) (w 4) (w 5) (w 6) (w 7) (w 8) with hs
  let z : Shape.Idx ⟨2, ![96, 9216]⟩ → EReal := fun j => k2_pay52 (rvF t) clF crF xd p q r8 g (w 0) (w 1) (w 2) j + k2_pay50 (rvF t) clF xd p q r8 g j * taps w (j 0) 3
    + k2_pay49 (rvF t) xd p q r8 g j * taps w (j 0) 4 + k2_pay51 (rvF t) crF xd p q r8 g j * taps w (j 0) 5
    + rd (k2_pay50 (rvF t) clF xd p q r8 g) (j 0) (((j 1).val : ℤ) + 384) * taps w (j 0) 6
    + rd (k2_pay49 (rvF t) xd p q r8 g) (j 0) (((j 1).val : ℤ) + 384) * taps w (j 0) 7
    + rd (k2_pay51 (rvF t) crF xd p q r8 g) (j 0) (((j 1).val : ℤ) + 384) * taps w (j 0) 8
  have hz : Str (16 * t.val - 4) 3 21 z (fun o => dw9 384 (taps w o) (G o)) :=
    Str.dw (k := taps w) (by norm_num) (by norm_num) hL ha hR (fun o l => by
      show k2_pay52 (rvF t) clF crF xd p q r8 g (w 0) (w 1) (w 2) (ix2 o l) + _ + _ + _ + _ + _ + _ = _
      rw [p52]; rfl)
  have e : (((⟨1536 + l.val, by omega⟩ : Fin 9216) : ℕ) : ℤ) = 384 * (4 + (l.val / 384 : ℕ)) + (l.val % 384 : ℕ) := by push_cast; omega
  have hy' := hy.at o _ _ _ e (by omega) (by omega) (by omega) (by omega) (by omega) (by omega)
  have hz' := hz.at o _ _ _ e (by omega) (by omega) (by omega) (by omega)
  rw [← rd_coe] at hy' hz'
  rw [p1, hs, p53]
  refine (congrArg₂ (· + ·) hz' hy').trans ?_
  simp only [show 16 * (t.val : ℤ) - 4 + (4 + ((l.val / 384 : ℕ) : ℤ)) = 16 * t.val + ((l.val / 384 : ℕ) : ℤ) by ring]

/-- **The strip's stored rows hold the output image.** -/
theorem k3_at (hx : StrI t xs X) (hv : StrI t vs V) (g1 g2 g3 : Vec Ideal S96x96 .bf16) (w1 w2 w3 : Fin 9 → Vec Ideal S1x96x1 .f32)
    (o : Fin 96) (l : Fin 6144) :
    let u := k2_pay13 vs spa
    let p := k2_pay12 pw
    let u1 := k2_pay16 xs p u lw lb fw
    let u2 := k2_pay17 xs p u lw lb fw
    let xd := k2_pay23 (k2_pay18 (rvF t) u1 g1) (k2_pay19 (rvF t) clF u1 g1) (k2_pay20 (rvF t) crF u1 g1)
      (k2_pay21 (rvF t) clF crF u1 g1 (w1 0) (w1 1) (w1 2)) (k2_pay22 (w1 3)) (w1 4) (w1 5) (w1 6) (w1 7) (w1 8)
    let a2 := k2_pay28 (rvF t) (k2_pay25 (k2_pay8 k2_pay4) u2 (Scalar.select (Scalar.cmpi .eq 2#32 0#32) 1#32 2#32) k2_pay24)
      (k2_pay26 (k2_pay7 (base2 t) k2_pay5 k2_pay6)) (k2_pay27 (k2_pay8 k2_pay4) u2 (Scalar.select (Scalar.cmpi .eq 2#32 0#32) 1#32 2#32) k2_pay24) g2
    let q := k2_pay47 (reF t) (k2_pay41 a2 ceF crhF)
    let r8 := k2_pay48 (w2 8)
    k2_pay1 (k2_pay53 (k2_pay14 xs p u) (k2_pay49 (rvF t) xd (x2uV t a2 w2) q r8 g3) (k2_pay50 (rvF t) clF xd (x2uV t a2 w2) q r8 g3)
      (k2_pay51 (rvF t) crF xd (x2uV t a2 w2) q r8 g3)
      (k2_pay52 (rvF t) clF crF xd (x2uV t a2 w2) q r8 g3 (w3 0) (w3 1) (w3 2)) (w3 3) (w3 4) (w3 5) (w3 6) (w3 7) (w3 8)) (ix2 o l)
      = outS (mt g1) (mt g2) (mt g3) (taps w1) (taps w2) (taps w3) (uS (cl lw) (cl lb) (mt fw) (yS X V (mt spa) (mt pw)))
          (yS X V (mt spa) (mt pw)) o (16 * t.val + (l / 384 : ℕ)) (l % 384 : ℕ) := by
  intro u p u1 u2 xd a2 q r8
  have hy := y_str (spa := spa) (pw := pw) hx hv
  have h1 := u1_str (lw := lw) (lb := lb) (fw := fw) hy
  have h2 := u2_str (lw := lw) (lb := lb) (fw := fw) hy
  have hd := x1d_str w1 (a1_str (g := g1) h1)
  have ha2 := a2_str (g := g2) h2
  have ha3 := a3_str (g := g3) hd ha2 w2
  exact out_at w3 hy ha3 o l

end

end Cert.Own
-- ==== Proof.K1Spec.lean ====
module

public import proofs.«01_k».proof.Proof.K1
public import proofs.«01_k».proof.Proof.K3Spec

/-! # The first call's strip holds queries, keys and values of the image -/

@[expose] public section
set_option maxRecDepth 16384
noncomputable section
namespace Cert.Own
open Idealize.ShloMosaic Cert.KernelIdeal Cert.KernelIdeal.Gen

/-- Channel `o` of the part `p` (queries, keys, values) of the 288 channels. -/
def part (p : Fin 3) (o : Fin 96) : Fin 288 := ⟨96 * p.val + o.val, by omega⟩

/-- Queries, keys and values: a 1x1 convolution, then a depthwise one. -/
def qkvS (W : Fin 288 → Fin 96 → EReal) (d : Fin 288 → Fin 9 → EReal) (X : Fin 96 → ℤ → ℤ → EReal) (o : Fin 288) (r c : ℤ) : EReal :=
  dw9 384 (d o) (conv1 W X o) r c

/-- The rows of the strip of block `t` that lie in the image are those of the images `A`. -/
def StrJ (t : Fin 24) (v : Shape.Idx ⟨2, ![96, 6912]⟩ → EReal) (A : Fin 96 → ℤ → ℤ → EReal) : Prop :=
  ∀ o (l : Fin 6912) (r c : ℤ), 0 ≤ r → r < 18 → 1 ≤ 16 * t.val + r → 16 * t.val + r < 385 → 0 ≤ c → c < 384 →
    (l : ℤ) = 384 * r + c → v (ix2 o l) = A o (16 * t.val - 1 + r) c

/-- The nine taps at one position. -/
theorem Str.dw_at {a b : ℕ} {R0 lo hi : ℤ} {L M R : Shape.Idx ⟨2, ![a, b]⟩ → EReal} {A : Fin a → ℤ → ℤ → EReal}
    (k : Fin 9 → EReal) (hL : Str R0 lo hi L (fun o r c => msk 384 (A o) r (c - 1))) (hM : Str R0 lo hi M (fun o => msk 384 (A o)))
    (hR : Str R0 lo hi R (fun o r c => msk 384 (A o) r (c + 1))) (o : Fin a) (p r c : ℤ) (e : p = 384 * r + c) (h1 : lo + 1 ≤ r) (h2 : r < hi - 1)
    (h3 : 0 ≤ c) (h4 : c < 384) :
    rd L o (p - 384) * k 0 + rd M o (p - 384) * k 1 + rd R o (p - 384) * k 2 + rd L o p * k 3 + rd M o p * k 4 + rd R o p * k 5
      + rd L o (p + 384) * k 6 + rd M o (p + 384) * k 7 + rd R o (p + 384) * k 8 = dw9 384 k (A o) (R0 + r) c := by
  rw [hL.at o _ (r - 1) c (by omega) (by omega) (by omega) h3 h4, hM.at o _ (r - 1) c (by omega) (by omega) (by omega) h3 h4,
    hR.at o _ (r - 1) c (by omega) (by omega) (by omega) h3 h4, hL.at o _ r c e (by omega) (by omega) h3 h4,
    hM.at o _ r c e (by omega) (by omega) h3 h4, hR.at o _ r c e (by omega) (by omega) h3 h4,
    hL.at o _ (r + 1) c (by omega) (by omega) (by omega) h3 h4, hM.at o _ (r + 1) c (by omega) (by omega) (by omega) h3 h4,
    hR.at o _ (r + 1) c (by omega) (by omega) (by omega) h3 h4]
  simp only [dw9, show R0 + (r - 1) = R0 + r - 1 by ring, show R0 + (r + 1) = R0 + r + 1 by ring]

/-- The mask of the left neighbours. -/
abbrev cl1F : FVec Ideal S1x6912 .f32 := k0_pay6 (F := Ideal) wid k0_pay4
/-- The mask of the right neighbours. -/
abbrev cr1F : FVec Ideal S1x6912 .f32 := k0_pay7 (F := Ideal) wid k0_pay4
/-- The mask of the left neighbours at a position. -/
theorem cl1F_at (l : Fin 6912) : cl1F (ix2 0 l) = if 1 ≤ l.val % 384 then (1 : EReal) else 0 := cl1 0 l
/-- The mask of the right neighbours at a position. -/
theorem cr1F_at (l : Fin 6912) : cr1F (ix2 0 l) = if l.val % 384 ≤ 382 then (1 : EReal) else 0 := cr1 0 l

section
variable {t : Fin 24} {X : Fin 96 → ℤ → ℤ → EReal} {x : FVec Ideal S96x6912 .f32} {W : Vec Ideal S288x96 .bf16} {i : grid0.Coords}

/-- The masked 1x1 convolution. -/
theorem z_str (hi : (i 0).val = t.val) (hx : StrJ t x X) :
    Str (16 * t.val - 1) 0 18 (k0_pay8 x (k0_pay3 i) W) (fun o => msk 384 (conv1 (mt W) X o)) := by
  refine Str.of le_rfl (by norm_num) fun o l r c h1 h2 h3 h4 e => ?_
  rw [q8 t i hi]
  split_ifs with h
  · rw [mul_one, msk_in _ _ _ _ (by omega), conv1]
    refine Finset.sum_congr rfl fun j _ => ?_
    rw [hx j l r c h1 h2 (by omega) (by omega) h3 h4 e]
    rfl
  · rw [mul_zero, msk_out _ _ _ _ (by omega)]

/-- One part of the channels. -/
theorem part_str {Z : Fin 288 → ℤ → ℤ → EReal} {z : FVec Ideal S288x6912 .f32} {v : FVec Ideal S96x6912 .f32} (p : Fin 3)
    (hz : Str (16 * t.val - 1) 0 18 z (fun o => msk 384 (Z o))) (hv : ∀ o l, v (ix2 o l) = z (ix2 (part p o) l)) :
    Str (16 * t.val - 1) 0 18 v (fun o => msk 384 (Z (part p o))) := by
  refine Str.of le_rfl (by norm_num) fun o l r c h1 h2 h3 h4 e => ?_
  rw [hv, rd_coe z, hz.at _ _ r c e h1 h2 h3 h4]

/-- The queries of the block. -/
abbrev qB (x : FVec Ideal S96x6912 .f32) (i : grid0.Coords) (W : Vec Ideal S288x96 .bf16) (w0 w1 w2 w3 w4 w5 w6 w7 w8 : Vec Ideal S1x96x1 .f32) : FVec Ideal S96x6144 .f32 :=
  k0_pay16 (k0_pay14 (k0_pay9 x (k0_pay3 i) W) (k0_pay10 x (k0_pay3 i) wid k0_pay4 W) (k0_pay11 x (k0_pay3 i) wid k0_pay4 W)
    (k0_pay13 (k0_pay9 x (k0_pay3 i) W) (k0_pay10 x (k0_pay3 i) wid k0_pay4 W) (k0_pay11 x (k0_pay3 i) wid k0_pay4 W)
      (k0_pay12 x (k0_pay3 i) wid k0_pay4 W) w0 w1 w2 w3) w4 w5 w6 w7) (k0_pay15 (k0_pay11 x (k0_pay3 i) wid k0_pay4 W)) w8

/-- The keys of the block, from the masked convolution `z`. -/
abbrev kB (z : FVec Ideal S288x6912 .f32) (w0 w1 w2 w3 w4 w5 w6 w7 w8 : Vec Ideal S1x96x1 .f32) : FVec Ideal S96x6144 .f32 :=
  k0_pay23 (k0_pay17 z) (k0_pay19 cr1F z) (k0_pay22 (k0_pay17 z) (k0_pay18 cl1F z) (k0_pay19 cr1F z) (k0_pay20 cl1F z w0 w1) (k0_pay21 cr1F z) w2 w3 w4 w5 w6) w7 w8

/-- The values of the block, from the masked convolution `z`. -/
abbrev vB (z : FVec Ideal S288x6912 .f32) (w0 w1 w2 w3 w4 w5 w6 w7 w8 : Vec Ideal S1x96x1 .f32) : FVec Ideal S96x6144 .f32 :=
  k0_pay30 (k0_pay24 z) (k0_pay25 cl1F z) (k0_pay26 cr1F z)
    (k0_pay29 (k0_pay24 z) (k0_pay25 cl1F z) (k0_pay26 cr1F z) (k0_pay27 cl1F z) (k0_pay28 w0) w1 w2 w3 w4) w5 w6 w7 w8

variable (d : Fin 288 → Fin 9 → EReal) {w0 w1 w2 w3 w4 w5 w6 w7 w8 : Vec Ideal S1x96x1 .f32}

/-- The block's values are the depthwise convolution of the masked image. -/
theorem vB_at {Z : Fin 288 → ℤ → ℤ → EReal} {z : FVec Ideal S288x6912 .f32} (hz : Str (16 * t.val - 1) 0 18 z (fun o => msk 384 (Z o)))
    (hw : ∀ o, d (part 2 o) = ![w0 (ix3 0 o 0), w1 (ix3 0 o 0), w2 (ix3 0 o 0), w3 (ix3 0 o 0), w4 (ix3 0 o 0), w5 (ix3 0 o 0), w6 (ix3 0 o 0), w7 (ix3 0 o 0), w8 (ix3 0 o 0)])
    (o : Fin 96) (n : Fin 6144) :
    vB z w0 w1 w2 w3 w4 w5 w6 w7 w8 (ix2 o n) = dw9 384 (d (part 2 o)) (Z (part 2 o)) (16 * t.val + (n / 384 : ℕ)) (n % 384 : ℕ) := by
  have hM := part_str 2 hz (q24 z)
  have hL := Str.left (w := k0_pay25 cl1F z) le_rfl (by norm_num) hM (fun o l => by rw [q25, cl1F_at])
  have hR := Str.right (w := k0_pay26 cr1F z) le_rfl (by norm_num) hM (fun o l => by rw [q26, cr1F_at])
  have := Str.dw_at (d (part 2 o)) hL hM hR o ((384 + n.val : ℕ) : ℤ) (1 + (n.val / 384 : ℕ)) (n.val % 384 : ℕ) (by push_cast; omega)
    (by omega) (by omega) (by omega) (by omega)
  rw [show 16 * (t.val : ℤ) - 1 + (1 + (n.val / 384 : ℕ)) = 16 * t.val + (n.val / 384 : ℕ) by ring] at this
  rw [← this, vB, q30, q29, q27, rd_coe (k0_pay25 cl1F z), rd_coe (k0_pay24 z) o ⟨_, _⟩, rd_coe (k0_pay26 cr1F z)]
  rw [hw]; rfl

/-- The block's keys are the depthwise convolution of the masked image. -/
theorem kB_at {Z : Fin 288 → ℤ → ℤ → EReal} {z : FVec Ideal S288x6912 .f32} (hz : Str (16 * t.val - 1) 0 18 z (fun o => msk 384 (Z o)))
    (hw : ∀ o, d (part 1 o) = ![w0 (ix3 0 o 0), w1 (ix3 0 o 0), w2 (ix3 0 o 0), w3 (ix3 0 o 0), w4 (ix3 0 o 0), w5 (ix3 0 o 0), w6 (ix3 0 o 0), w7 (ix3 0 o 0), w8 (ix3 0 o 0)])
    (o : Fin 96) (n : Fin 6144) :
    kB z w0 w1 w2 w3 w4 w5 w6 w7 w8 (ix2 o n) = dw9 384 (d (part 1 o)) (Z (part 1 o)) (16 * t.val + (n / 384 : ℕ)) (n % 384 : ℕ) := by
  have hM := part_str 1 hz (q17 z)
  have hL := Str.left (w := k0_pay18 cl1F z) le_rfl (by norm_num) hM (fun o l => by rw [q18, cl1F_at])
  have hR := Str.right (w := k0_pay19 cr1F z) le_rfl (by norm_num) hM (fun o l => by rw [q19, cr1F_at])
  have := Str.dw_at (d (part 1 o)) hL hM hR o ((384 + n.val : ℕ) : ℤ) (1 + (n.val / 384 : ℕ)) (n.val % 384 : ℕ) (by push_cast; omega)
    (by omega) (by omega) (by omega) (by omega)
  rw [show 16 * (t.val : ℤ) - 1 + (1 + (n.val / 384 : ℕ)) = 16 * t.val + (n.val / 384 : ℕ) by ring] at this
  rw [← this, kB, q23, q22, q20, q21, rd_coe (k0_pay18 cl1F z), rd_coe (k0_pay17 z) o ⟨_, _⟩, rd_coe (k0_pay19 cr1F z)]
  rw [hw]; rfl

/-- The block's queries are the depthwise convolution of the masked image. -/
theorem qB_at {Z : Fin 288 → ℤ → ℤ → EReal} (hz : Str (16 * t.val - 1) 0 18 (k0_pay8 x (k0_pay3 i) W) (fun o => msk 384 (Z o)))
    (hw : ∀ o, d (part 0 o) = ![w0 (ix3 0 o 0), w1 (ix3 0 o 0), w2 (ix3 0 o 0), w3 (ix3 0 o 0), w4 (ix3 0 o 0), w5 (ix3 0 o 0), w6 (ix3 0 o 0), w7 (ix3 0 o 0), w8 (ix3 0 o 0)])
    (o : Fin 96) (n : Fin 6144) :
    qB x i W w0 w1 w2 w3 w4 w5 w6 w7 w8 (ix2 o n) = dw9 384 (d (part 0 o)) (Z (part 0 o)) (16 * t.val + (n / 384 : ℕ)) (n % 384 : ℕ) := by
  have hM := part_str (v := k0_pay9 x (k0_pay3 i) W) 0 hz (fun o l => by rw [q9]; congr 2; apply Fin.ext; simp [part])
  have hL := Str.left (w := k0_pay10 x (k0_pay3 i) wid k0_pay4 W) le_rfl (by norm_num) hM (fun o l => by rw [q10, cl1])
  have hR := Str.right (w := k0_pay11 x (k0_pay3 i) wid k0_pay4 W) le_rfl (by norm_num) hM (fun o l => by rw [q11, cr1])
  have := Str.dw_at (d (part 0 o)) hL hM hR o ((384 + n.val : ℕ) : ℤ) (1 + (n.val / 384 : ℕ)) (n.val % 384 : ℕ) (by push_cast; omega)
    (by omega) (by omega) (by omega) (by omega)
  rw [show 16 * (t.val : ℤ) - 1 + (1 + (n.val / 384 : ℕ)) = 16 * t.val + (n.val / 384 : ℕ) by ring] at this
  rw [← this, qB, q16, q14, q13, q12, q15, rd_coe (k0_pay10 x (k0_pay3 i) wid k0_pay4 W), rd_coe (k0_pay9 x (k0_pay3 i) W) o ⟨_, _⟩,
    rd_coe (k0_pay11 x (k0_pay3 i) wid k0_pay4 W)]
  rw [hw]; rfl

end
end Cert.Own
-- ==== Proof.K1Blk.lean ====
module

public import proofs.«01_k».proof.Proof.Gen.KernelIdeal.Frame
public import proofs.«01_k».proof.Proof.K1Spec
public import Idealize.ShloMosaic.Lib.Pipeline.ValueKit
public import Idealize.ShloMosaic.Lib.Pointwise

/-! # The first call, block by block -/

@[expose] public section
set_option maxRecDepth 16384
noncomputable section
namespace Cert.Own
open Idealize.ShloMosaic Idealize.ShloMosaic.TcCoe Cert.KernelIdeal Cert.KernelIdeal.Gen
variable (V : (c : Dev nD) → (b : Ref sig .tc) → Buf (Elt Ideal) ((c : Thread nD τ).loc b)) (c : Dev nD)

/-- A load's value at an index of its rectangle. -/
theorem readAt_fun {sig : RefSig} {κ : Kind} {sp : Space} {s : Shape} {e : EltTy} {Val : EltTy → Type} (v : View sig κ sp s e) (r : LoadRect s) (f : v.ty.Contents Val) :
   v.readAt Val r f = fun x => v.read Val f (r.idx x) := rfl

/-- One row of the depthwise weights, as the body loads it. -/
abbrev wl (x : Vec Ideal S9x288x1 .f32) (a b : ℕ) (h1 : ∀ e, (![0, b, 0] : Fin 3 → ℕ) e + (![9, 96, 1] : Fin 3 → ℕ) e ≤ S9x288x1.size e)
    (h2 : ∀ e, (![a, 0, 0] : Fin 3 → ℕ) e + (![1, 96, 1] : Fin 3 → ℕ) e ≤ S9x96x1.size e) : Vec Ideal S1x96x1 .f32 :=
  fun j => x (((Rect.unit (s := S9x288x1) ![0, b, 0] ![9, 96, 1] h1).withinL
                  (Rect.unit (s := S9x96x1) ![a, 0, 0] ![1, 96, 1] h2).toLoadRect (fun _ => rfl)).idx j)
/-- Its entries. -/
theorem wl_at (x : Vec Ideal S9x288x1 .f32) (a b : ℕ) (h1) (h2) (ha : a < 9) (hb : b + 96 ≤ 288) (o : Fin 96) :
   wl x a b h1 h2 (ix3 0 o 0) = x (ix3 ⟨a, ha⟩ ⟨b + o, by omega⟩ 0) := by
  unfold wl
  congr 1
  funext e
  fin_cases e <;> apply Fin.ext <;> simp [LoadRect.idx, Rect.withinL, Rect.unit, Rect.toLoadRect]

/-- The masked 1x1 convolution of the block. -/
abbrev zB (i : grid0.Coords) (x0 : Vec Ideal S96x384 .f32) (x1 : Vec Ideal S96x6144 .f32) (x2 : Vec Ideal S96x384 .f32) (x3 : Vec Ideal S288x96 .bf16) :=
  k0_pay8 (k0_pay1 x0 x1 x2) (k0_pay3 i) x3
/-- The block's values. -/
abbrev vO (i : grid0.Coords) (x0 : Vec Ideal S96x384 .f32) (x1 : Vec Ideal S96x6144 .f32) (x2 : Vec Ideal S96x384 .f32) (x3 : Vec Ideal S288x96 .bf16) (x4 : Vec Ideal S9x288x1 .f32) : FVec Ideal S96x6144 .f32 :=
  vB (zB i x0 x1 x2 x3) (wl x4 0 192 (by decide) (by decide)) (wl x4 1 192 (by decide) (by decide)) (wl x4 2 192 (by decide) (by decide)) (wl x4 3 192 (by decide) (by decide)) (wl x4 4 192 (by decide) (by decide)) (wl x4 5 192 (by decide) (by decide)) (wl x4 6 192 (by decide) (by decide)) (wl x4 7 192 (by decide) (by decide)) (wl x4 8 192 (by decide) (by decide))
/-- The block's keys. -/
abbrev kO (i : grid0.Coords) (x0 : Vec Ideal S96x384 .f32) (x1 : Vec Ideal S96x6144 .f32) (x2 : Vec Ideal S96x384 .f32) (x3 : Vec Ideal S288x96 .bf16) (x4 : Vec Ideal S9x288x1 .f32) : FVec Ideal S96x6144 .f32 :=
  kB (zB i x0 x1 x2 x3) (wl x4 0 96 (by decide) (by decide)) (wl x4 1 96 (by decide) (by decide)) (wl x4 2 96 (by decide) (by decide)) (wl x4 3 96 (by decide) (by decide)) (wl x4 4 96 (by decide) (by decide)) (wl x4 5 96 (by decide) (by decide)) (wl x4 6 96 (by decide) (by decide)) (wl x4 7 96 (by decide) (by decide)) (wl x4 8 96 (by decide) (by decide))
/-- The block's queries. -/
abbrev qO (i : grid0.Coords) (x0 : Vec Ideal S96x384 .f32) (x1 : Vec Ideal S96x6144 .f32) (x2 : Vec Ideal S96x384 .f32) (x3 : Vec Ideal S288x96 .bf16) (x4 : Vec Ideal S9x288x1 .f32) : FVec Ideal S96x6144 .f32 :=
  qB (k0_pay1 x0 x1 x2) i x3 (wl x4 0 0 (by decide) (by decide)) (wl x4 1 0 (by decide) (by decide)) (wl x4 2 0 (by decide) (by decide)) (wl x4 3 0 (by decide) (by decide)) (wl x4 4 0 (by decide) (by decide)) (wl x4 5 0 (by decide) (by decide)) (wl x4 6 0 (by decide) (by decide)) (wl x4 7 0 (by decide) (by decide)) (wl x4 8 0 (by decide) (by decide))

/-- Whole windows are loaded as they are. -/
theorem pay1_ld (x0 : Vec Ideal S96x384 .f32) (x1 : Vec Ideal S96x6144 .f32) (x2 : Vec Ideal S96x384 .f32) (h0) (h1) (h2) :
    k0_pay1 (View.ld x0 (Rect.unit (s := S96x384) ![0, 0] ![96, 384] h0)) (View.ld x1 (Rect.unit (s := S96x6144) ![0, 0] ![96, 6144] h1))
      (View.ld x2 (Rect.unit (s := S96x384) ![0, 0] ![96, 384] h2)) = k0_pay1 x0 x1 x2 := by
  simp (disch := decide) only [View.ld_unit_lit']

/-- The first block. -/
theorem outs0_A (t : Fin cfg0.N) (h : t.val % 24 = 0) :
   outsAt0 V c t.val t.isLt = let i := grid0.coords t; let x0 := iblk0 V c 0 t; let x1 := iblk0 V c 1 t; let x2 := iblk0 V c 2 t; let x3 := iblk0 V c 3 t; let x4 := iblk0 V c 4 t;
     (vO i x0 x1 x2 x3 x4, k0_pay34 (qO i x0 x1 x2 x3 x4) (kO i x0 x1 x2 x3 x4) (k0_pay31 (F := Ideal)), k0_pay35 (qO i x0 x1 x2 x3 x4) (k0_pay32 (F := Ideal)), k0_pay36 (kO i x0 x1 x2 x3 x4) (k0_pay33 (F := Ideal))) := by
  rw [outsAt0_A V c t h]; frame_out
  dsimp only [readAt_fun]
  generalize e0 : View.read (Elt Ideal) (ms0_0 t).view _ = X0
  generalize e1 : View.read (Elt Ideal) (ms0_1 t).view _ = X1
  generalize e2 : View.read (Elt Ideal) (ms0_2 t).view _ = X2
  generalize e4 : View.read (Elt Ideal) (ms0_4 t).view _ = X4
  rw [Memref.IsWhole.read_unread] at e0 e1 e2 e4
  subst e0 e1 e2 e4
  generalize iblk0 V c 0 t = x0
  generalize iblk0 V c 1 t = x1
  generalize iblk0 V c 2 t = x2
  generalize iblk0 V c 3 t = x3
  generalize iblk0 V c 4 t = x4
  generalize grid0.coords t = i
  generalize hr : addi (s := S1x6912) _ _ = R
  obtain rfl : k0_pay3 i = R := hr
  generalize hx : concatenate S96x6912 1 [⟨S96x384, _⟩, ⟨S96x6144, _⟩, ⟨S96x384, _⟩] _ = XX
  obtain rfl : k0_pay1 x0 x1 x2 = XX := (pay1_ld x0 x1 x2 inb_S96x384_S96x384_0_0 inb_S96x6144_S96x6144_0_0 inb_S96x384_S96x384_0_0).symm.trans hx
  generalize hc : remsi (s := S1x6912) _ _ = C
  obtain rfl : k0_pay4 = C := hc
  rfl
/-- A later block. -/
theorem outs0_B (t : Fin cfg0.N) (h : ¬ t.val % 24 = 0) :
   outsAt0 V c t.val t.isLt = let i := grid0.coords t; let x0 := iblk0 V c 0 t; let x1 := iblk0 V c 1 t; let x2 := iblk0 V c 2 t; let x3 := iblk0 V c 3 t; let x4 := iblk0 V c 4 t;
     (vO i x0 x1 x2 x3 x4, k0_pay34 (qO i x0 x1 x2 x3 x4) (kO i x0 x1 x2 x3 x4) (outsAt0 V c (t.val - 1) (by have := t.isLt; omega)).2.1, k0_pay35 (qO i x0 x1 x2 x3 x4) (outsAt0 V c (t.val - 1) (by have := t.isLt; omega)).2.2.1, k0_pay36 (kO i x0 x1 x2 x3 x4) (outsAt0 V c (t.val - 1) (by have := t.isLt; omega)).2.2.2) := by
  rw [outsAt0_B V c t h]; frame_out
  dsimp only [readAt_fun]
  generalize e0 : View.read (Elt Ideal) (ms0_0 t).view _ = X0
  generalize e1 : View.read (Elt Ideal) (ms0_1 t).view _ = X1
  generalize e2 : View.read (Elt Ideal) (ms0_2 t).view _ = X2
  generalize e4 : View.read (Elt Ideal) (ms0_4 t).view _ = X4
  rw [Memref.IsWhole.read_unread] at e0 e1 e2 e4
  subst e0 e1 e2 e4
  generalize iblk0 V c 0 t = x0
  generalize iblk0 V c 1 t = x1
  generalize iblk0 V c 2 t = x2
  generalize iblk0 V c 3 t = x3
  generalize iblk0 V c 4 t = x4
  generalize grid0.coords t = i
  generalize hr : addi (s := S1x6912) _ _ = R
  obtain rfl : k0_pay3 i = R := hr
  generalize hx : concatenate S96x6912 1 [⟨S96x384, _⟩, ⟨S96x6144, _⟩, ⟨S96x384, _⟩] _ = XX
  obtain rfl : k0_pay1 x0 x1 x2 = XX := (pay1_ld x0 x1 x2 inb_S96x384_S96x384_0_0 inb_S96x6144_S96x6144_0_0 inb_S96x384_S96x384_0_0).symm.trans hx
  generalize hc : remsi (s := S1x6912) _ _ = C
  obtain rfl : k0_pay4 = C := hc
  rfl
end Cert.Own
-- ==== Proof.K1Arr.lean ====
module

public import proofs.«01_k».proof.Proof.K1Blk

/-! # The arrays the first call leaves -/

@[expose] public section
set_option maxRecDepth 16384
noncomputable section
namespace Cert.Own
open Idealize.ShloMosaic Idealize.ShloMosaic.TcCoe Cert.KernelIdeal Cert.KernelIdeal.Gen
variable (V : (c : Dev nD) → (b : Ref sig .tc) → Buf (Elt Ideal) ((c : Thread nD τ).loc b)) (c : Dev nD)

/-- The grid coordinate of step `t` is `t`. -/
theorem coords0 : ∀ t : Fin cfg0.N, ((grid0.coords t) 0).val = t.val := by decide +kernel
/-- The window numbered 0 selects the row above the block, or the first row. -/
theorem idx0_0 : ∀ t : Fin cfg0.N, win0_0.index t = ![0, 16 * t.val - 1] := by decide +kernel
/-- The window numbered 1 selects the block's rows. -/
theorem idx0_1 : ∀ t : Fin cfg0.N, win0_1.index t = ![0, t.val] := by decide +kernel
/-- The window numbered 2 selects the row below the block, or the last row. -/
theorem idx0_2 : ∀ t : Fin cfg0.N, win0_2.index t = ![0, min (16 * t.val + 16) 383] := by decide +kernel
/-- The window numbered 3 selects the whole 1x1 weight. -/
theorem idx0_3 : ∀ t : Fin cfg0.N, win0_3.index t = ![0, 0] := by decide +kernel
/-- The window numbered 4 selects the whole depthwise weight. -/
theorem idx0_4 : ∀ t : Fin cfg0.N, win0_4.index t = ![0, 0, 0] := by decide +kernel
/-- The window numbered 5 selects the block's rows of the values. -/
theorem idx0_5 : ∀ t : Fin cfg0.N, win0_5.index t = ![0, t.val] := by decide +kernel

/-- The first window at a step: the row above the block. -/
theorem x0_at (t : Fin cfg0.N) (o : Fin 96) (l : Fin 384) (n : Fin 147456) (h : n.val = 384 * (16 * t.val - 1) + l.val) :
    iblk0 V c 0 t (ix2 o l) = V c main_v0 (ix2 o n) := by
  blk_ext [iblk0, idx0_0 t]
/-- The second window at a step: the block's own rows. -/
theorem x1_at (t : Fin cfg0.N) (o : Fin 96) (l : Fin 6144) (n : Fin 147456) (h : n.val = 6144 * t.val + l.val) :
    iblk0 V c 1 t (ix2 o l) = V c main_v0 (ix2 o n) := by
  blk_ext [iblk0, idx0_1 t]
/-- The third window at a step: the row below the block. -/
theorem x2_at (t : Fin cfg0.N) (o : Fin 96) (l : Fin 384) (n : Fin 147456) (h : n.val = 384 * min (16 * t.val + 16) 383 + l.val) :
    iblk0 V c 2 t (ix2 o l) = V c main_v0 (ix2 o n) := by
  blk_ext [iblk0, idx0_2 t]
/-- The window of the 1x1 weight is the whole weight. -/
theorem w3_at (t : Fin cfg0.N) : iblk0 V c 3 t = V c main_v2 := by
  funext j
  blk_ext [iblk0, idx0_3 t]
/-- The window of the depthwise weight is the whole weight. -/
theorem w4_at (t : Fin cfg0.N) : iblk0 V c 4 t = V c main_v5 := by
  funext j
  blk_ext [iblk0, idx0_4 t]

/-- The strip of a step holds the input's image on the rows of the image. -/
theorem x_strJ (t : Fin cfg0.N) : StrJ t (k0_pay1 (iblk0 V c 0 t) (iblk0 V c 1 t) (iblk0 V c 2 t)) (img (V c main_v0)) := by
  intro o l r cc h1 h2 h3 h4 h5 h6 e
  have ht : t.val < 24 := t.isLt
  rw [q1, img, rd_at _ _ _ (by omega) (by omega)]
  split_ifs with ha hb
  · exact x0_at V c t o _ _ (by dsimp only; omega)
  · exact x1_at V c t o _ _ (by dsimp only; omega)
  · exact x2_at V c t o _ _ (by dsimp only; omega)

/-- The depthwise weights as the first call gets them. -/
def dk (w : Shape.Idx ⟨3, ![9, 288, 1]⟩ → EReal) (o : Fin 288) (k : Fin 9) : EReal := w (ix3 k o 0)

/-- Queries, keys and values the first call computes from its arrays. -/
def qkvA (o : Fin 288) (r cc : ℤ) : EReal := qkvS (mt (V c main_v2)) (dk (V c main_v5)) (img (V c main_v0)) o r cc

/-- The strip of the 1x1 convolution holds its masked image. -/
theorem z_at (t : Fin cfg0.N) : Str (16 * t.val - 1) 0 18 (zB (grid0.coords t) (iblk0 V c 0 t) (iblk0 V c 1 t) (iblk0 V c 2 t) (iblk0 V c 3 t))
    (fun o => msk 384 (conv1 (mt (V c main_v2)) (img (V c main_v0)) o)) := by
  have := z_str (W := V c main_v2) (t := t) (i := grid0.coords t) (coords0 t) (x_strJ V c t)
  rw [w3_at]
  exact this

/-- The nine tap columns that the body loads for a third of the channels are those of the weight. -/
theorem taps9 (p : Fin 3) (b : ℕ) (hb : b = 96 * p.val) (w : Vec Ideal S9x288x1 .f32) (h1) (h20) (h21) (h22) (h23) (h24) (h25) (h26) (h27) (h28) (o : Fin 96) :
    dk w (part p o) = ![wl w 0 b h1 h20 (ix3 0 o 0), wl w 1 b h1 h21 (ix3 0 o 0), wl w 2 b h1 h22 (ix3 0 o 0), wl w 3 b h1 h23 (ix3 0 o 0),
      wl w 4 b h1 h24 (ix3 0 o 0), wl w 5 b h1 h25 (ix3 0 o 0), wl w 6 b h1 h26 (ix3 0 o 0), wl w 7 b h1 h27 (ix3 0 o 0), wl w 8 b h1 h28 (ix3 0 o 0)] := by
  have hp := p.2
  rw [wl_at w 0 b h1 _ (by decide) (by omega), wl_at w 1 b h1 _ (by decide) (by omega), wl_at w 2 b h1 _ (by decide) (by omega), wl_at w 3 b h1 _ (by decide) (by omega), wl_at w 4 b h1 _ (by decide) (by omega), wl_at w 5 b h1 _ (by decide) (by omega), wl_at w 6 b h1 _ (by decide) (by omega), wl_at w 7 b h1 _ (by decide) (by omega), wl_at w 8 b h1 _ (by decide) (by omega)]
  subst hb
  funext k
  fin_cases k <;> rfl

/-- The block's values at a position of a step. -/
theorem vO_at (t : Fin cfg0.N) (o : Fin 96) (n : Fin 6144) :
    vO (grid0.coords t) (iblk0 V c 0 t) (iblk0 V c 1 t) (iblk0 V c 2 t) (iblk0 V c 3 t) (iblk0 V c 4 t) (ix2 o n) =
      qkvA V c (part 2 o) (16 * t.val + (n / 384 : ℕ)) (n % 384 : ℕ) := by
  rw [w4_at]
  exact vB_at (t := t) (dk (V c main_v5)) (z_at V c t) (taps9 2 192 rfl (V c main_v5) _ _ _ _ _ _ _ _ _ _) o n

/-- The block's keys at a position of a step. -/
theorem kO_at (t : Fin cfg0.N) (o : Fin 96) (n : Fin 6144) :
    kO (grid0.coords t) (iblk0 V c 0 t) (iblk0 V c 1 t) (iblk0 V c 2 t) (iblk0 V c 3 t) (iblk0 V c 4 t) (ix2 o n) =
      qkvA V c (part 1 o) (16 * t.val + (n / 384 : ℕ)) (n % 384 : ℕ) := by
  rw [w4_at]
  exact kB_at (t := t) (dk (V c main_v5)) (z_at V c t) (taps9 1 96 rfl (V c main_v5) _ _ _ _ _ _ _ _ _ _) o n

/-- The block's queries at a position of a step. -/
theorem qO_at (t : Fin cfg0.N) (o : Fin 96) (n : Fin 6144) :
    qO (grid0.coords t) (iblk0 V c 0 t) (iblk0 V c 1 t) (iblk0 V c 2 t) (iblk0 V c 3 t) (iblk0 V c 4 t) (ix2 o n) =
      qkvA V c (part 0 o) (16 * t.val + (n / 384 : ℕ)) (n % 384 : ℕ) := by
  rw [w4_at]
  exact qB_at (t := t) (dk (V c main_v5)) (z_at V c t) (taps9 0 0 rfl (V c main_v5) _ _ _ _ _ _ _ _ _ _) o n

/-- The value block that a step stores. -/
theorem outs_v (t : Fin cfg0.N) : (outsAt0 V c t.val t.isLt).1 =
    vO (grid0.coords t) (iblk0 V c 0 t) (iblk0 V c 1 t) (iblk0 V c 2 t) (iblk0 V c 3 t) (iblk0 V c 4 t) := by
  by_cases h : t.val % 24 = 0
  · rw [outs0_A V c t h]
  · rw [outs0_B V c t h]

/-- The array of values that the call leaves. -/
theorem v_arr : (dat0 V c).arrAt 5 cfg0.N = fun i => qkvA V c (part 2 (i 0)) (((i 1).val / 384 : ℕ) : ℤ) (((i 1).val % 384 : ℕ) : ℤ) := by
  refine (dat0 V c).arrAt_eq_of_covers 5 _ (by decide +kernel) fun t hf y => ?_
  blk_simp
  obtain ⟨o, n, rfl⟩ : ∃ (o : Fin 96) (n : Fin 6144), y = ix2 o n := ⟨y 0, y 1, eq_ix2 y⟩
  rw [after0_5, outs_v]
  refine (vO_at V c t o n).trans ?_
  have e := idx0_5 t
  have hn := n.2
  congr 1
  · congr 1
    apply Fin.ext
    blk_simp [e]
  · rw [e]
    show _ = (((t.val * 6144 + n.val) / 384 : ℕ) : ℤ)
    omega
  · rw [e]
    show _ = (((t.val * 6144 + n.val) % 384 : ℕ) : ℤ)
    omega

/-- Inner product of two rows of the computed image over all pixels. -/
def dotA (o o' : Fin 288) : EReal := ∑ n : Fin 147456,
  qkvA V c o ((n / 384 : ℕ) : ℤ) ((n % 384 : ℕ) : ℤ) * qkvA V c o' ((n / 384 : ℕ) : ℤ) ((n % 384 : ℕ) : ℤ)

/-- The product of two channels over the image is the sum over the steps of the products over the blocks. -/
theorem dotA_split (o o' : Fin 288) : dotA V c o o' = ∑ t : Fin cfg0.N, ∑ n : Fin 6144,
    qkvA V c o (16 * t.val + (n / 384 : ℕ)) (n % 384 : ℕ) * qkvA V c o' (16 * t.val + (n / 384 : ℕ)) (n % 384 : ℕ) := by
  symm
  unfold dotA
  refine (Fin.sum_mul_add_congr (n := 6144) fun t k hl => ?_)
  have e1 : (16 * (t.val : ℤ) + (k.val / 384 : ℕ)) = (((t.val * 6144 + k.val) / 384 : ℕ) : ℤ) := by omega
  have e2 : ((k.val % 384 : ℕ) : ℤ) = (((t.val * 6144 + k.val) % 384 : ℕ) : ℤ) := by omega
  dsimp only
  rw [e1, e2]

/-- The last step. -/
abbrev tL0 : Fin cfg0.N := ⟨23, by decide⟩

/-- The running Gram matrix starts at zero. -/
theorem pz31 (a b : Fin 96) : k0_pay31 (F := Ideal) (ix2 a b) = 0 := by pointwise [k0_pay31]
/-- The running sums of the queries' squares start at zero. -/
theorem pz32 (a : Fin 96) (b : Fin 128) : k0_pay32 (F := Ideal) (ix2 a b) = 0 := by pointwise [k0_pay32]
/-- The running sums of the keys' squares start at zero. -/
theorem pz33 (a : Fin 96) (b : Fin 128) : k0_pay33 (F := Ideal) (ix2 a b) = 0 := by pointwise [k0_pay33]

/-- After the last step the Gram matrix holds the products over the image. -/
theorem S_last (a : Fin 96) (b : Fin 96) : (outsAt0 V c tL0.val tL0.isLt).2.1 (ix2 a b) = dotA V c (part 0 a) (part 1 b) := by
  rw [Pipeline.eq_sum_fin_of_reset_step_apply_last (fun n h => (outsAt0 V c n h).2.1) 24 (fun _ => 0)
    (fun t j => ∑ n, qO (grid0.coords t) (iblk0 V c 0 t) (iblk0 V c 1 t) (iblk0 V c 2 t) (iblk0 V c 3 t) (iblk0 V c 4 t) (ix2 (j 0) n) *
      kO (grid0.coords t) (iblk0 V c 0 t) (iblk0 V c 1 t) (iblk0 V c 2 t) (iblk0 V c 3 t) (iblk0 V c 4 t) (ix2 (j 1) n))
    (fun t h j => by
      obtain ⟨a, b, rfl⟩ : ∃ (a : Fin 96) (b : Fin 96), j = ix2 a b := ⟨j 0, j 1, eq_ix2 j⟩
      rw [outs0_A V c t h]
      refine (q34 _ _ _ a b).trans ?_
      congr 1
      exact pz31 a b)
    (fun t h j => by
      obtain ⟨a, b, rfl⟩ : ∃ (a : Fin 96) (b : Fin 96), j = ix2 a b := ⟨j 0, j 1, eq_ix2 j⟩
      rw [outs0_B V c t h]
      exact (q34 _ _ _ a b)) (by decide) tL0 rfl (ix2 a b), zero_add, dotA_split]
  exact Finset.sum_congr rfl fun t _ => Finset.sum_congr rfl fun n _ => congrArg₂ _ (qO_at V c t a n) (kO_at V c t b n)

/-- The matrix of query-key products. -/
theorem S_arr : (dat0 V c).arrAt 6 cfg0.N = fun i => dotA V c (part 0 (i 0)) (part 1 (i 1)) := by
  refine (dat0 V c).arrAt_eq_of_after_last 6 tL0 (by decide +kernel) _ fun j => ?_
  obtain ⟨a, b, rfl⟩ : ∃ (a : Fin 96) (b : Fin 96), j = ix2 a b := ⟨j 0, j 1, eq_ix2 j⟩
  rw [after0_6]
  exact S_last V c a b

/-- After the last step the queries' squares are summed over the image. -/
theorem nq_last (a : Fin 96) (b : Fin 128) : (outsAt0 V c tL0.val tL0.isLt).2.2.1 (ix2 a b) = dotA V c (part 0 a) (part 0 a) := by
  rw [Pipeline.eq_sum_fin_of_reset_step_apply_last (fun n h => (outsAt0 V c n h).2.2.1) 24 (fun _ => 0)
    (fun t j => ∑ n, qO (grid0.coords t) (iblk0 V c 0 t) (iblk0 V c 1 t) (iblk0 V c 2 t) (iblk0 V c 3 t) (iblk0 V c 4 t) (ix2 (j 0) n) *
      qO (grid0.coords t) (iblk0 V c 0 t) (iblk0 V c 1 t) (iblk0 V c 2 t) (iblk0 V c 3 t) (iblk0 V c 4 t) (ix2 (j 0) n))
    (fun t h j => by
      obtain ⟨a, b, rfl⟩ : ∃ (a : Fin 96) (b : Fin 128), j = ix2 a b := ⟨j 0, j 1, eq_ix2 j⟩
      rw [outs0_A V c t h]
      refine (q35 _  _ a b).trans ?_
      congr 1
      exact pz32 a b)
    (fun t h j => by
      obtain ⟨a, b, rfl⟩ : ∃ (a : Fin 96) (b : Fin 128), j = ix2 a b := ⟨j 0, j 1, eq_ix2 j⟩
      rw [outs0_B V c t h]
      exact (q35 _  _ a b)) (by decide) tL0 rfl (ix2 a b), zero_add, dotA_split]
  exact Finset.sum_congr rfl fun t _ => Finset.sum_congr rfl fun n _ => congrArg₂ _ (qO_at V c t a n) (qO_at V c t a n)

/-- The squared norms of the queries. -/
theorem nq_arr : (dat0 V c).arrAt 7 cfg0.N = fun i => dotA V c (part 0 (i 0)) (part 0 (i 0)) := by
  refine (dat0 V c).arrAt_eq_of_after_last 7 tL0 (by decide +kernel) _ fun j => ?_
  obtain ⟨a, b, rfl⟩ : ∃ (a : Fin 96) (b : Fin 128), j = ix2 a b := ⟨j 0, j 1, eq_ix2 j⟩
  rw [after0_7]
  exact nq_last V c a b

/-- After the last step the keys' squares are summed over the image. -/
theorem nk_last (a : Fin 96) (b : Fin 128) : (outsAt0 V c tL0.val tL0.isLt).2.2.2 (ix2 a b) = dotA V c (part 1 a) (part 1 a) := by
  rw [Pipeline.eq_sum_fin_of_reset_step_apply_last (fun n h => (outsAt0 V c n h).2.2.2) 24 (fun _ => 0)
    (fun t j => ∑ n, kO (grid0.coords t) (iblk0 V c 0 t) (iblk0 V c 1 t) (iblk0 V c 2 t) (iblk0 V c 3 t) (iblk0 V c 4 t) (ix2 (j 0) n) *
      kO (grid0.coords t) (iblk0 V c 0 t) (iblk0 V c 1 t) (iblk0 V c 2 t) (iblk0 V c 3 t) (iblk0 V c 4 t) (ix2 (j 0) n))
    (fun t h j => by
      obtain ⟨a, b, rfl⟩ : ∃ (a : Fin 96) (b : Fin 128), j = ix2 a b := ⟨j 0, j 1, eq_ix2 j⟩
      rw [outs0_A V c t h]
      refine (q36 _  _ a b).trans ?_
      congr 1
      exact pz33 a b)
    (fun t h j => by
      obtain ⟨a, b, rfl⟩ : ∃ (a : Fin 96) (b : Fin 128), j = ix2 a b := ⟨j 0, j 1, eq_ix2 j⟩
      rw [outs0_B V c t h]
      exact (q36 _  _ a b)) (by decide) tL0 rfl (ix2 a b), zero_add, dotA_split]
  exact Finset.sum_congr rfl fun t _ => Finset.sum_congr rfl fun n _ => congrArg₂ _ (kO_at V c t a n) (kO_at V c t a n)

/-- The squared norms of the keys. -/
theorem nk_arr : (dat0 V c).arrAt 8 cfg0.N = fun i => dotA V c (part 1 (i 0)) (part 1 (i 0)) := by
  refine (dat0 V c).arrAt_eq_of_after_last 8 tL0 (by decide +kernel) _ fun j => ?_
  obtain ⟨a, b, rfl⟩ : ∃ (a : Fin 96) (b : Fin 128), j = ix2 a b := ⟨j 0, j 1, eq_ix2 j⟩
  rw [after0_8]
  exact nk_last V c a b

end Cert.Own
-- ==== Proof.K2.lean ====
module

public import proofs.«01_k».proof.Proof.Gen.KernelIdeal.Frame
public import proofs.«01_k».proof.Proof.Base
public import Idealize.ShloMosaic.Lib.Pipeline.ValueKit
public import Idealize.ShloMosaic.Lib.Pointwise

/-! # The second call's body -/

@[expose] public section
set_option maxRecDepth 16384
noncomputable section
namespace Cert.Own
open Idealize.ShloMosaic Idealize.ShloMosaic.TcCoe Cert.KernelIdeal Cert.KernelIdeal.Gen

/-- Which entries come before an entry: the larger ones, and of equal ones those at an earlier place. -/
def cmpM (A : FVec Ideal S24x24 .f32) : IVec S24x24x24x24 1 :=
  ori (cmpf .ogt (broadcastTo S24x24x24x24 (shapeCast S1x1x24x24 A shapeCasts_S24x24_S1x1x24x24) broadcasts_S1x1x24x24_S24x24x24x24)
      (broadcastTo S24x24x24x24 (shapeCast S24x24x1x1 A shapeCasts_S24x24_S24x24x1x1) broadcasts_S24x24x1x1_S24x24x24x24))
    (andi (cmpf .oeq (broadcastTo S24x24x24x24 (shapeCast S1x1x24x24 A shapeCasts_S24x24_S1x1x24x24) broadcasts_S1x1x24x24_S24x24x24x24)
      (broadcastTo S24x24x24x24 (shapeCast S24x24x1x1 A shapeCasts_S24x24_S24x24x1x1) broadcasts_S24x24x1x1_S24x24x24x24))
     (cmpi .slt (broadcastTo S24x24x24x24 (shapeCast S1x1x24x24 k1_pay4 shapeCasts_S24x24_S1x1x24x24) broadcasts_S1x1x24x24_S24x24x24x24)
      (broadcastTo S24x24x24x24 (shapeCast S24x24x1x1 k1_pay4 shapeCasts_S24x24_S24x24x1x1) broadcasts_S24x24x1x1_S24x24x24x24)))

/-- The ranks. -/
def RK (A : FVec Ideal S24x24 .f32) : FVec Ideal S24x24 .f32 := k1_pay36 (F := Ideal) (cmpM A)

/-- The exponentials of the entries of rank below `k`. -/
def EM (A : FVec Ideal S24x24 .f32) (k : BitVec 32) : FVec Ideal S24x24 .f32 :=
  mulf (k1_pay37 A) (sitofp .f32 (extui 32 (cmpf .olt (RK A) (broadcast S24x24 (Scalar.ofBits .f32 k))) natLt_1_32))

/-- The sum of a matrix, everywhere. -/
def SM (A : FVec Ideal S24x24 .f32) : FVec Ideal S24x24 .f32 :=
  broadcast S24x24 (extractAt ![0, 0, 0] (shapeCast S1x1x1 (multiReduction (F := Ideal) .add [1, 2] S1 (shapeCast S1x24x24 A shapeCasts_S24x24_S1x24x24) 0x00000000#32 reduces_S1x24x24_S1 (.inl rfl) rfl) shapeCasts_S1_S1x1x1) inpos_S1x1x1_p0_0_0)

/-- One weighted softmax. -/
def TM (A : FVec Ideal S24x24 .f32) (k : BitVec 32) (m : Vec Ideal S1x1 .f32) : FVec Ideal S24x24 .f32 :=
  divf (mulf (broadcast S24x24 (extractAt ![0, 0] m inpos_S1x1_p0_0 : Ideal .f32)) (EM A k)) (SM (EM A k))

/-- The mixture of the four. -/
def SP (A : FVec Ideal S24x24 .f32) (m0 m1 m2 m3 : Vec Ideal S1x1 .f32) : FVec Ideal S24x24 .f32 :=
  addf (addf (addf (addf (broadcast S24x24 (Scalar.ofBits .f32 0x00000000#32)) (TM A 0x43900000#32 m0)) (TM A 0x43C00000#32 m1)) (TM A 0x43D80000#32 m2)) (TM A 0x43E60000#32 m3)

/-- The logits of the first head, as the body computes them. -/
abbrev A0 (x0 : Vec Ideal S96x96 .f32) (x1 x2 : Vec Ideal S96x128 .f32) (x3 : Vec Ideal S4x1 .f32) :=
  k1_pay5 (View.ld x1 r1_0) (View.ld x2 r1_0) (View.ld x0 r1_1) (View.ld x3 r1_2)
/-- The logits of the second head, as the body computes them. -/
abbrev A1 (x0 : Vec Ideal S96x96 .f32) (x1 x2 : Vec Ideal S96x128 .f32) (x3 : Vec Ideal S4x1 .f32) :=
  k1_pay18 (k1_pay16 (k1_pay3 (View.ld x2 r1_0)) (iota .tc S24x24 32 [0] iota_S24x24_d0_w32) (iota .tc S24x24 32 [1] iota_S24x24_d1_w32))
    (k1_pay17 (k1_pay2 (View.ld x1 r1_0)) (View.ld x0 r1_6)) (constant S24x24 .f32 0x00000000#32) (View.ld x3 r1_3)
/-- The logits of the third head, as the body computes them. -/
abbrev A2 (x0 : Vec Ideal S96x96 .f32) (x1 x2 : Vec Ideal S96x128 .f32) (x3 : Vec Ideal S4x1 .f32) :=
  k1_pay26 (k1_pay2 (View.ld x1 r1_0)) (k1_pay3 (View.ld x2 r1_0)) (iota .tc S24x24 32 [0] iota_S24x24_d0_w32) (iota .tc S24x24 32 [1] iota_S24x24_d1_w32) (View.ld x0 r1_7) (View.ld x3 r1_4)
/-- The logits of the fourth head, as the body computes them. -/
abbrev A3 (x0 : Vec Ideal S96x96 .f32) (x1 x2 : Vec Ideal S96x128 .f32) (x3 : Vec Ideal S4x1 .f32) :=
  k1_pay34 (k1_pay2 (View.ld x1 r1_0)) (k1_pay3 (View.ld x2 r1_0)) (iota .tc S24x24 32 [0] iota_S24x24_d0_w32) (iota .tc S24x24 32 [1] iota_S24x24_d1_w32) (View.ld x0 r1_8) (View.ld x3 r1_5)

/-- The four mixtures on the diagonal. -/
def DG (P0 P1 P2 P3 : FVec Ideal S24x24 .f32) : FVec Ideal S96x96 .f32 :=
  concatenate S96x96 0 [⟨S24x96, concatenate S24x96 1 [⟨S24x24, P0⟩, ⟨S24x72, broadcast S24x72 (Scalar.ofBits (F := Ideal) .f32 0x00000000#32)⟩] concatenates_S24x24_S24x72_S24x96_d1⟩,
    ⟨S24x96, concatenate S24x96 1 [⟨S24x24, broadcast S24x24 (Scalar.ofBits (F := Ideal) .f32 0x00000000#32)⟩, ⟨S24x24, P1⟩, ⟨S24x48, broadcast S24x48 (Scalar.ofBits (F := Ideal) .f32 0x00000000#32)⟩] concatenates_S24x24_S24x24_S24x48_S24x96_d1⟩,
    ⟨S24x96, concatenate S24x96 1 [⟨S24x48, broadcast S24x48 (Scalar.ofBits (F := Ideal) .f32 0x00000000#32)⟩, ⟨S24x24, P2⟩, ⟨S24x24, broadcast S24x24 (Scalar.ofBits (F := Ideal) .f32 0x00000000#32)⟩] concatenates_S24x48_S24x24_S24x24_S24x96_d1⟩,
    ⟨S24x96, concatenate S24x96 1 [⟨S24x72, broadcast S24x72 (Scalar.ofBits (F := Ideal) .f32 0x00000000#32)⟩, ⟨S24x24, P3⟩] concatenates_S24x72_S24x24_S24x96_d1⟩] concatenates_S24x96_S24x96_S24x96_S24x96_S96x96_d0

/-- What the second body stores: the mixtures of the four heads' matrices on the diagonal. -/
theorem out1_eq (x0 : Vec Ideal S96x96 .f32) (x1 x2 : Vec Ideal S96x128 .f32) (x3 x4 : Vec Ideal S4x1 .f32) :
    out1_5 x0 x1 x2 x3 x4 =
     let m0 := View.ld x4 r1_2; let m1 := View.ld x4 r1_3; let m2 := View.ld x4 r1_4; let m3 := View.ld x4 r1_5
     DG (SP (A0 x0 x1 x2 x3) m0 m1 m2 m3) (SP (A1 x0 x1 x2 x3) m0 m1 m2 m3) (SP (A2 x0 x1 x2 x3) m0 m1 m2 m3) (SP (A3 x0 x1 x2 x3) m0 m1 m2 m3) := by
  unfold_out out1_5
  refine (View.canon_cons_unit_lit' _ _ _ (by decide)).trans ?_
  rfl

/-- The comparison of two places' words is that of their row-major numbers. -/
theorem slt_place (d e i j : Fin 24) :
    IntOp.cmpi CmpIPredicate.slt (IntOp.addi (IntOp.muli (BitVec.ofNat 32 ↑i) 24#32) (BitVec.ofNat 32 ↑j))
            (IntOp.addi (IntOp.muli (BitVec.ofNat 32 ↑d) 24#32) (BitVec.ofNat 32 ↑e)) = BitVec.ofBool (decide (24 * i.val + j.val < 24 * d.val + e.val)) := by
  have w : ∀ a b : Fin 24, IntOp.addi (IntOp.muli (BitVec.ofNat 32 a.val) 24#32) (BitVec.ofNat 32 b.val) = BitVec.ofNat 32 (24 * a.val + b.val) := by
    intro a b
    apply BitVec.eq_of_toNat_eq
    have := a.2; have := b.2
    simp only [IntOp.addi, IntOp.muli, BitVec.toNat_add, BitVec.toNat_mul, BitVec.toNat_ofNat]
    omega
  have z : ∀ n : ℕ, n < 1000 → (BitVec.ofNat 32 n).toInt = n := by
    intro n hn
    rw [BitVec.toInt_eq_toNat_of_lt] <;> simp only [BitVec.toNat_ofNat] <;> omega
  rw [w, w]
  have := i.2; have := j.2; have := d.2; have := e.2
  simp only [IntOp.cmpi, BitVec.slt, z _ (show 24 * i.val + j.val < 1000 by omega), z _ (show 24 * d.val + e.val < 1000 by omega), Nat.cast_lt]

/-- One entry comes before another when it is larger, or equal and at an earlier place. -/
theorem cmpM_at (A : FVec Ideal S24x24 .f32) (d e i j : Fin 24) : cmpM A (ix4 d e i j) = BitVec.ofBool (decide (A (ix2 d e) < A (ix2 i j) ∨ A (ix2 i j) = A (ix2 d e) ∧ 24 * i.val + j.val < 24 * d.val + e.val)) := by
  pointwise [cmpM, k1_pay4]
  rw [slt_place]
  by_cases h1 : A (ix2 d e) < A (ix2 i j) <;> by_cases h2 : A (ix2 i j) = A (ix2 d e) <;> by_cases h3 : 24 * i.val + j.val < 24 * d.val + e.val <;> simp [h1, h2, h3, IntOp.ori, IntOp.andi]

/-- How many entries come before an entry: the larger ones, and the equal ones at an earlier place. -/
def rank {n : ℕ} (f : Fin n → EReal) (q : Fin n) : ℕ := (Finset.univ.filter fun p => f q < f p ∨ f p = f q ∧ p < q).card

/-- A 24 by 24 matrix row by row. -/
def flat (A : Fin 24 → Fin 24 → EReal) (p : Fin 576) : EReal := A ⟨p / 24, by omega⟩ ⟨p % 24, by omega⟩

/-- The place of an entry. -/
abbrev pl (d e : Fin 24) : Fin 576 := ⟨d.val * 24 + e.val, by omega⟩

/-- The row-major family at an entry's place is the entry. -/
theorem flat_pl (A : Fin 24 → Fin 24 → EReal) (d e : Fin 24) : flat A (pl d e) = A d e := by
  unfold flat pl
  congr 1 <;> apply Fin.ext <;> dsimp only <;> omega

/-- A sum over rows and columns is the sum over places. -/
theorem sum_pl (g : Fin 576 → EReal) : ∑ i : Fin 24, ∑ j : Fin 24, g (pl i j) = ∑ p, g p :=
  Fin.sum_mul_add_fin 24 24 g

/-- A matrix's entries. -/
abbrev mt24 (A : FVec Ideal S24x24 .f32) (i j : Fin 24) : EReal := A (ix2 i j)

/-- The word of a true flag is the number one. -/
theorem ival1 : FloatOps.sitofp (F := Ideal) FTy.f32 (BitVec.setWidth 32 (BitVec.ofBool true)) = (1 : EReal) := by
  have : (BitVec.setWidth 32 (BitVec.ofBool true)).toInt = 1 := by decide
  show (((BitVec.setWidth 32 (BitVec.ofBool true)).toInt : ℝ) : EReal) = 1
  rw [this]; norm_num
/-- The word of a false flag is the number zero. -/
theorem ival0 : FloatOps.sitofp (F := Ideal) FTy.f32 (BitVec.setWidth 32 (BitVec.ofBool false)) = (0 : EReal) := by
  have : (BitVec.setWidth 32 (BitVec.ofBool false)).toInt = 0 := by decide
  show (((BitVec.setWidth 32 (BitVec.ofBool false)).toInt : ℝ) : EReal) = 0
  rw [this]; norm_num

/-- The kernel's rank of an entry is the number of entries before it. -/
theorem RK_at (A : FVec Ideal S24x24 .f32) (d e : Fin 24) : RK A (ix2 d e) = ((((rank (flat (mt24 A)) (pl d e) : ℕ) : ℝ)) : EReal) := by
  unfold RK
  pointwise [k1_pay36]
  have h : ∀ i j : Fin 24, FloatOps.sitofp (F := Ideal) FTy.f32 (BitVec.setWidth 32 (cmpM A (ix4 d e i j))) =
      if flat (mt24 A) (pl d e) < flat (mt24 A) (pl i j) ∨ flat (mt24 A) (pl i j) = flat (mt24 A) (pl d e) ∧ pl i j < pl d e then (1 : EReal) else 0 := by
    intro i j
    rw [cmpM_at, flat_pl, flat_pl]
    have e1 : (pl i j < pl d e) ↔ (24 * i.val + j.val < 24 * d.val + e.val) := by
      simp only [Fin.mk_lt_mk, mul_comm]
    by_cases h : A (ix2 d e) < A (ix2 i j) ∨ A (ix2 i j) = A (ix2 d e) ∧ 24 * i.val + j.val < 24 * d.val + e.val
    · rw [if_pos (by rwa [e1]), decide_eq_true h]
      exact ival1
    · rw [if_neg (by rwa [e1]), decide_eq_false h]
      exact ival0
  simp only [h]
  rw [sum_pl (fun p => if flat (mt24 A) (pl d e) < flat (mt24 A) p ∨ flat (mt24 A) p = flat (mt24 A) (pl d e) ∧ p < pl d e then (1 : EReal) else 0)]
  rw [rank, Finset.sum_ite, Finset.sum_const_zero, add_zero, Finset.sum_const, nsmul_one, EReal.coe_natCast]

/-- The kernel's sum of a matrix is the sum over places. -/
theorem SM_at (A : FVec Ideal S24x24 .f32) (d e : Fin 24) : SM A (ix2 d e) = ∑ p, flat (mt24 A) p := by
  pointwise [SM]
  rw [← sum_pl]
  simp only [flat_pl]

/-- The largest value of a family. -/
def top {n : ℕ} (f : Fin n → EReal) : EReal := Finset.univ.sup f

/-- The largest value over rows and columns is that over places. -/
theorem top_pl (g : Fin 576 → EReal) : (Finset.univ.sup fun p : Fin 24 × Fin 24 => g (pl p.1 p.2)) = top g := by
  apply le_antisymm
  · exact Finset.sup_le fun p _ => Finset.le_sup (f := g) (Finset.mem_univ _)
  · refine Finset.sup_le fun p _ => ?_
    have := Finset.le_sup (f := fun p : Fin 24 × Fin 24 => g (pl p.1 p.2)) (Finset.mem_univ (⟨⟨p / 24, by omega⟩, ⟨p % 24, by omega⟩⟩ : Fin 24 × Fin 24))
    refine le_trans (le_of_eq ?_) this
    dsimp only [pl]
    congr 1
    apply Fin.ext
    dsimp only
    omega

/-- The float word of minus infinity is the bottom of the extended reals. -/
theorem ofBits_neg_inf : Ideal.ofBits FTy.f32 0xFF800000#32 = ⊥ := by
  simp [Ideal.ofBits, Ideal.ieee]
/-- The float word of 288. -/
theorem ofBits_k0 : Ideal.ofBits FTy.f32 0x43900000#32 = ((288 : ℝ) : EReal) := by
  simp [Ideal.ofBits, Ideal.ieee, -EReal.coe_mul]; norm_num
/-- The float word of 384. -/
theorem ofBits_k1 : Ideal.ofBits FTy.f32 0x43C00000#32 = ((384 : ℝ) : EReal) := by
  simp [Ideal.ofBits, Ideal.ieee, -EReal.coe_mul]; norm_num
/-- The float word of 432. -/
theorem ofBits_k2 : Ideal.ofBits FTy.f32 0x43D80000#32 = ((432 : ℝ) : EReal) := by
  simp [Ideal.ofBits, Ideal.ieee, -EReal.coe_mul]; norm_num
/-- The float word of 460. -/
theorem ofBits_k3 : Ideal.ofBits FTy.f32 0x43E60000#32 = ((460 : ℝ) : EReal) := by
  simp [Ideal.ofBits, Ideal.ieee, -EReal.coe_mul]; norm_num

/-- The exponential of an entry less the largest entry. -/
theorem mx_at (A : FVec Ideal S24x24 .f32) (d e : Fin 24) : k1_pay37 A (ix2 d e) = Ideal.exp (A (ix2 d e) - top (flat (mt24 A))) := by
  pointwise [k1_pay37]
  rw [ofBits_neg_inf, ← top_pl]
  simp only [flat_pl]
  rfl

/-- The exponentials of the entries among the `k` largest. -/
def em {n : ℕ} (f : Fin n → EReal) (k : ℕ) (q : Fin n) : EReal := if rank f q < k then Ideal.exp (f q - top f) else 0

/-- The kept exponentials at an entry. -/
theorem EM_at (A : FVec Ideal S24x24 .f32) (b : BitVec 32) (k : ℕ) (hb : Ideal.ofBits FTy.f32 b = (((k : ℕ) : ℝ) : EReal)) (d e : Fin 24) :
    EM A b (ix2 d e) = em (flat (mt24 A)) k (pl d e) := by
  pointwise [EM]
  rw [mx_at, RK_at, em, flat_pl, hb]
  by_cases h : rank (flat (mt24 A)) (pl d e) < k
  · rw [if_pos h, decide_eq_true (by exact_mod_cast h), ival1, mul_one]
  · rw [if_neg h, decide_eq_false (by exact_mod_cast h), ival0, mul_zero]

/-- One weighted softmax at an entry. -/
theorem TM_at (A : FVec Ideal S24x24 .f32) (b : BitVec 32) (k : ℕ) (hb : Ideal.ofBits FTy.f32 b = (((k : ℕ) : ℝ) : EReal)) (m : Vec Ideal S1x1 .f32) (d e : Fin 24) :
    TM A b m (ix2 d e) = Ideal.div (m (ix2 0 0) * em (flat (mt24 A)) k (pl d e)) (∑ p, em (flat (mt24 A)) k p) := by
  pointwise [TM]
  rw [EM_at A b k hb, SM_at]
  congr 1
  refine Finset.sum_congr rfl fun p _ => ?_
  rw [flat, mt24, EM_at A b k hb]
  congr 1
  apply Fin.ext
  dsimp only
  omega

/-- The mixture of the four softmaxes over the largest entries. -/
def mixS {n : ℕ} (m : Fin 4 → EReal) (f : Fin n → EReal) (q : Fin n) : EReal :=
  Ideal.div (m 0 * em f 288 q) (∑ p, em f 288 p) + Ideal.div (m 1 * em f 384 q) (∑ p, em f 384 p)
    + Ideal.div (m 2 * em f 432 q) (∑ p, em f 432 p) + Ideal.div (m 3 * em f 460 q) (∑ p, em f 460 p)

/-- The mixture of the four softmaxes at an entry. -/
theorem SP_at (A : FVec Ideal S24x24 .f32) (m0 m1 m2 m3 : Vec Ideal S1x1 .f32) (d e : Fin 24) :
    SP A m0 m1 m2 m3 (ix2 d e) = mixS ![m0 (ix2 0 0), m1 (ix2 0 0), m2 (ix2 0 0), m3 (ix2 0 0)] (flat (mt24 A)) (pl d e) := by
  pointwise [SP]
  rw [TM_at A _ 288 ofBits_k0, TM_at A _ 384 ofBits_k1, TM_at A _ 432 ofBits_k2, TM_at A _ 460 ofBits_k3]
  rfl

/-- The diagonal arrangement holds a head's mixture in its block and zero elsewhere. -/
theorem DG_at (P0 P1 P2 P3 : FVec Ideal S24x24 .f32) (h k : Fin 4) (d e : Fin 24) :
    DG P0 P1 P2 P3 (ix2 ⟨24 * h + d, by omega⟩ ⟨24 * k + e, by omega⟩) = if h = k then (![P0, P1, P2, P3] h) (ix2 d e) else 0 := by
  pointwise [DG]
  fin_cases h <;> fin_cases k <;> simp
  all_goals (intros; first | omega | (split_ifs <;> first | omega | rfl | (congr 2 <;> apply Fin.ext <;> dsimp only <;> omega)))

/-- The reciprocal of a norm. -/
def invn (s : EReal) : EReal := Ideal.div 1 (max (Ideal.sqrt s) (Ideal.ofBits FTy.f32 0x2B8CBCCC#32))

/-- The queries' inverse lengths. -/
theorem invq_at (x : Vec Ideal S96x128 .f32) (a : Fin 96) : k1_pay2 (View.ld x r1_0) (ix2 a 0) = invn (x (ix2 a 0)) := by
  pointwise [k1_pay2]
  rfl
/-- The keys' inverse lengths. -/
theorem invk_at (x : Vec Ideal S96x128 .f32) (a : Fin 96) : k1_pay3 (View.ld x r1_0) (ix2 a 0) = invn (x (ix2 a 0)) := by
  pointwise [k1_pay3]
  rfl

/-- A sum against the diagonal is one term. -/
theorem diag_sum (g : Fin 24 → EReal) (e : Fin 24) :
    ∑ x : Fin 24, Scalar.select (IntOp.cmpi CmpIPredicate.eq (BitVec.ofNat 32 x.val) (BitVec.ofNat 32 e.val)) (g x) (0 : EReal) = g e := by
  rw [Finset.sum_eq_single e]
  · simp [IntOp.cmpi, Scalar.select]
  · intro b _ hb
    have : ¬ BitVec.ofNat 32 b.val = BitVec.ofNat 32 e.val := by
      intro h
      have := congrArg BitVec.toNat h
      simp only [BitVec.toNat_ofNat] at this
      have := b.2; have := e.2
      exact hb (Fin.ext (by omega))
    simp only [IntOp.cmpi, Scalar.select, beq_false_of_ne this]
    rfl
  · simp

/-- An attention weight from the sums. -/
def attS (S : Fin 96 → Fin 96 → EReal) (nq nk : Fin 96 → EReal) (t : Fin 4 → EReal) (h : Fin 4) (d e : Fin 24) : EReal :=
  invn (nq ⟨24 * h + d, by omega⟩) * S ⟨24 * h + d, by omega⟩ ⟨24 * h + e, by omega⟩ * invn (nk ⟨24 * h + e, by omega⟩) * t h

variable (x0 : Vec Ideal S96x96 .f32) (x1 x2 : Vec Ideal S96x128 .f32) (x3 x4 : Vec Ideal S4x1 .f32)

/-- The attention weights the call computes. -/
abbrev att1 : Fin 4 → Fin 24 → Fin 24 → EReal := attS (fun a b => x0 (ix2 a b)) (fun a => x1 (ix2 a 0)) (fun a => x2 (ix2 a 0)) (fun h => x3 (ix2 h 0))

/-- The logits of the first head at an entry. -/
theorem A0_at (d e : Fin 24) : A0 x0 x1 x2 x3 (ix2 d e) = att1 x0 x1 x2 x3 0 d e := by
  unfold A0
  pointwise [k1_pay5]
  refine (congrArg (· * _) (diag_sum _ e)).trans ?_
  rw [invq_at, invk_at]
  simp [att1, attS]
/-- The logits of the second head at an entry. -/
theorem A1_at (d e : Fin 24) : A1 x0 x1 x2 x3 (ix2 d e) = att1 x0 x1 x2 x3 1 d e := by
  unfold A1
  pointwise [k1_pay18, k1_pay16, k1_pay17]
  refine (congrArg (· * _) (diag_sum _ e)).trans ?_
  rw [invq_at, invk_at]
  simp [att1, attS]
/-- The logits of the third head at an entry. -/
theorem A2_at (d e : Fin 24) : A2 x0 x1 x2 x3 (ix2 d e) = att1 x0 x1 x2 x3 2 d e := by
  unfold A2
  pointwise [k1_pay26]
  refine (congrArg (· * _) (diag_sum _ e)).trans ?_
  rw [invq_at, invk_at]
  simp [att1, attS]
/-- The logits of the fourth head at an entry. -/
theorem A3_at (d e : Fin 24) : A3 x0 x1 x2 x3 (ix2 d e) = att1 x0 x1 x2 x3 3 d e := by
  unfold A3
  pointwise [k1_pay34]
  refine (congrArg (· * _) (diag_sum _ e)).trans ?_
  rw [invq_at, invk_at]
  simp [att1, attS]

/-- **The matrix the second call stores**: the mixtures on the diagonal. -/
theorem out1_at (h k : Fin 4) (d e : Fin 24) :
    out1_5 x0 x1 x2 x3 x4 (ix2 ⟨24 * h + d, by omega⟩ ⟨24 * k + e, by omega⟩) =
      if h = k then mixS (fun j => x4 (ix2 j 0)) (flat (att1 x0 x1 x2 x3 h)) (pl d e) else 0 := by
  rw [out1_eq]
  dsimp only
  rw [DG_at]
  split_ifs with hk
  · have em : ![(View.ld x4 r1_2 : Vec Ideal S1x1 .f32) (ix2 0 0), (View.ld x4 r1_3 : Vec Ideal S1x1 .f32) (ix2 0 0), (View.ld x4 r1_4 : Vec Ideal S1x1 .f32) (ix2 0 0), (View.ld x4 r1_5 : Vec Ideal S1x1 .f32) (ix2 0 0)] = fun j => x4 (ix2 j 0) := by
      funext j
      fin_cases j <;> refine View.ld_unit_apply_of x4 _ _ _ _ _ fun a => ?_ <;> fin_cases a <;> simp
    have e0 : mt24 (A0 x0 x1 x2 x3) = att1 x0 x1 x2 x3 0 := funext fun d => funext fun e => A0_at x0 x1 x2 x3 d e
    have e1 : mt24 (A1 x0 x1 x2 x3) = att1 x0 x1 x2 x3 1 := funext fun d => funext fun e => A1_at x0 x1 x2 x3 d e
    have e2 : mt24 (A2 x0 x1 x2 x3) = att1 x0 x1 x2 x3 2 := funext fun d => funext fun e => A2_at x0 x1 x2 x3 d e
    have e3 : mt24 (A3 x0 x1 x2 x3) = att1 x0 x1 x2 x3 3 := funext fun d => funext fun e => A3_at x0 x1 x2 x3 d e
    fin_cases h
    · refine (SP_at _ _ _ _ _ d e).trans ?_
      rw [em, e0]
      rfl
    · refine (SP_at _ _ _ _ _ d e).trans ?_
      rw [em, e1]
      rfl
    · refine (SP_at _ _ _ _ _ d e).trans ?_
      rw [em, e2]
      rfl
    · refine (SP_at _ _ _ _ _ d e).trans ?_
      rw [em, e3]
      rfl
  · rfl

variable (V : (c : Dev nD) → (b : Ref sig .tc) → Buf (Elt Ideal) ((c : Thread nD τ).loc b)) (c : Dev nD)

/-- The window of the Gram matrix starts at the origin. -/
theorem idx1_0 : ∀ t : Fin cfg1.N, win1_0.index t = ![0, 0] := by decide +kernel
/-- The window of the Gram matrix is the whole array. -/
theorem i1_0 (t : Fin cfg1.N) : iblk1 V c 0 t = V c main_v29_1 := by
  funext j
  blk_ext [iblk1, idx1_0 t]
/-- The window of the queries' squared lengths starts at the origin. -/
theorem idx1_1 : ∀ t : Fin cfg1.N, win1_1.index t = ![0, 0] := by decide +kernel
/-- The window of the queries' squared lengths is the whole array. -/
theorem i1_1 (t : Fin cfg1.N) : iblk1 V c 1 t = V c main_v29_2 := by
  funext j
  blk_ext [iblk1, idx1_1 t]
/-- The window of the keys' squared lengths starts at the origin. -/
theorem idx1_2 : ∀ t : Fin cfg1.N, win1_2.index t = ![0, 0] := by decide +kernel
/-- The window of the keys' squared lengths is the whole array. -/
theorem i1_2 (t : Fin cfg1.N) : iblk1 V c 2 t = V c main_v29_3 := by
  funext j
  blk_ext [iblk1, idx1_2 t]
/-- The window of the temperatures starts at the origin. -/
theorem idx1_3 : ∀ t : Fin cfg1.N, win1_3.index t = ![0, 0] := by decide +kernel
/-- The window of the temperatures is the whole array. -/
theorem i1_3 (t : Fin cfg1.N) : iblk1 V c 3 t = V c main_v27 := by
  funext j
  blk_ext [iblk1, idx1_3 t]
/-- The window of the mixture weights starts at the origin. -/
theorem idx1_4 : ∀ t : Fin cfg1.N, win1_4.index t = ![0, 0] := by decide +kernel
/-- The window of the mixture weights is the whole array. -/
theorem i1_4 (t : Fin cfg1.N) : iblk1 V c 4 t = V c main_v28 := by
  funext j
  blk_ext [iblk1, idx1_4 t]

/-- The only step. -/
abbrev tL1 : Fin cfg1.N := ⟨0, by decide⟩

/-- The array the second call leaves. -/
theorem spa_arr : (dat1 V c).arrAt 5 cfg1.N = out1_5 (V c main_v29_1) (V c main_v29_2) (V c main_v29_3) (V c main_v27) (V c main_v28) := by
  refine (dat1 V c).arrAt_eq_of_after_last 5 tL1 (by decide +kernel) _ fun j => ?_
  obtain ⟨a, b, rfl⟩ : ∃ (a b : Fin 96), j = ix2 a b := ⟨j 0, j 1, eq_ix2 j⟩
  rw [after1_5, i1_0, i1_1, i1_2, i1_3, i1_4]
  rfl

end Cert.Own
-- ==== Proof.K3Arr.lean ====
module

public import proofs.«01_k».proof.Proof.Gen.KernelIdeal.Frame
public import proofs.«01_k».proof.Proof.K3Spec
public import Idealize.ShloMosaic.Lib.Pipeline.ValueKit
public import Idealize.ShloMosaic.Lib.Pointwise

/-! # The third call, block by block -/

@[expose] public section
set_option maxRecDepth 16384
noncomputable section
namespace Cert.Own
open Idealize.ShloMosaic Idealize.ShloMosaic.TcCoe Cert.KernelIdeal Cert.KernelIdeal.Gen
variable (V : (c : Dev nD) → (b : Ref sig .tc) → Buf (Elt Ideal) ((c : Thread nD τ).loc b)) (c : Dev nD)

/-- The grid coordinate of step `t` is `t`. -/
theorem coords2 : ∀ t : Fin cfg2.N, ((grid2.coords t) 0).val = t.val := by decide +kernel

/-- The nine rows of depthwise weights as the body loads them. -/
def ws (x : Vec Ideal S9x96x1 .f32) : Fin 9 → Vec Ideal S1x96x1 .f32 :=
  ![View.ld x r2_5, View.ld x r2_6, View.ld x r2_7, View.ld x r2_8, View.ld x r2_9, View.ld x r2_10, View.ld x r2_11, View.ld x r2_12, View.ld x r2_13]

/-- Their entries. -/
theorem ws_at (x : Vec Ideal S9x96x1 .f32) (o : Fin 96) (k : Fin 9) : taps (ws x) o k = x (ix3 k o 0) := by
  unfold taps ws
  fin_cases k <;> refine View.ld_unit_apply_of x _ _ _ _ _ fun a => ?_ <;> fin_cases a <;> simp

/-- The block that a step stores: the middle rows of the strip's output. -/
theorem out3_at (t : Fin cfg2.N) (x0 : Vec Ideal S96x1536 .f32) (x1 : Vec Ideal S96x6144 .f32) (x2 : Vec Ideal S96x1536 .f32) (x3 : Vec Ideal S96x1536 .f32) (x4 : Vec Ideal S96x6144 .f32) (x5 : Vec Ideal S96x1536 .f32) (x6 : Vec Ideal S96x96 .f32) (x7 : Vec Ideal S96x96 .bf16) (x8 : Vec Ideal S96x1 .f32) (x9 : Vec Ideal S96x1 .f32) (x10 : Vec Ideal S192x96 .bf16) (x11 : Vec Ideal S96x96 .bf16) (x12 : Vec Ideal S9x96x1 .f32) (x13 : Vec Ideal S96x96 .bf16) (x14 : Vec Ideal S9x96x1 .f32) (x15 : Vec Ideal S96x96 .bf16) (x16 : Vec Ideal S9x96x1 .f32)
    (X W : Fin 96 → ℤ → ℤ → EReal) (hx : StrI t (k2_pay2 x0 x1 x2) X) (hv : StrI t (k2_pay3 x3 x4 x5) W) (o : Fin 96) (l : Fin 6144) :
    out2_17 (grid2.coords t) x0 x1 x2 x3 x4 x5 x6 x7 x8 x9 x10 x11 x12 x13 x14 x15 x16 (ix2 o l) =
      outS (mt x11) (mt x13) (mt x15) (taps (ws x12)) (taps (ws x14)) (taps (ws x16)) (uS (cl x8) (cl x9) (mt x10) (yS X W (mt x6) (mt x7)))
          (yS X W (mt x6) (mt x7)) o (16 * t.val + (l / 384 : ℕ)) (l % 384 : ℕ) := by
  unfold_out out2_17
  have e0 : ∀ x : Vec Ideal S96x1536 .f32, View.ld x r2_0 = x := fun x => View.ld_unit_lit' _ _ (by decide)
  have e1 : ∀ x : Vec Ideal S96x6144 .f32, View.ld x r2_1 = x := fun x => View.ld_unit_lit' _ _ (by decide)
  have e2 : ∀ x : Vec Ideal S96x96 .bf16, View.ld x r2_2 = x := fun x => View.ld_unit_lit' _ _ (by decide)
  have e2' : ∀ x : Vec Ideal S96x96 .f32, View.ld x r2_2 = x := fun x => View.ld_unit_lit' _ _ (by decide)
  have e3 : ∀ x : Vec Ideal S96x1 .f32, View.ld x r2_3 = x := fun x => View.ld_unit_lit' _ _ (by decide)
  have e4 : ∀ x : Vec Ideal S192x96 .bf16, View.ld x r2_4 = x := fun x => View.ld_unit_lit' _ _ (by decide)
  have ec : ∀ w : Vec Ideal S96x6144 .f32, View.canon (Val := Elt Ideal) [(⟨r2_1, w⟩ : View.Piece (Elt Ideal) S96x6144 .f32)] = w := fun w => View.canon_cons_unit_lit' _ _ _ (by decide)
  have eb : Scalar.subi (Scalar.muli (BitVec.ofNat 32 ((grid2.coords t) 0).val) 16#32) 4#32 = base2 t := by rw [coords2]
  rw [ec]
  simp only [e0, e1, e2, e2', e3, e4, eb]
  exact k3_at hx hv x11 x13 x15 (ws x12) (ws x14) (ws x16) o l

/-- The window of the input rows above the block: which block of the array it selects. -/
theorem idx2_0 : ∀ t : Fin cfg2.N, win2_0.index t = ![0, 4 * t.val - 1] := by decide +kernel
/-- The window of the block's input rows: which block of the array it selects. -/
theorem idx2_1 : ∀ t : Fin cfg2.N, win2_1.index t = ![0, t.val] := by decide +kernel
/-- The window of the input rows below the block: which block of the array it selects. -/
theorem idx2_2 : ∀ t : Fin cfg2.N, win2_2.index t = ![0, min (4 * t.val + 4) 95] := by decide +kernel
/-- The window of the value rows above the block: which block of the array it selects. -/
theorem idx2_3 : ∀ t : Fin cfg2.N, win2_3.index t = ![0, 4 * t.val - 1] := by decide +kernel
/-- The window of the block's value rows: which block of the array it selects. -/
theorem idx2_4 : ∀ t : Fin cfg2.N, win2_4.index t = ![0, t.val] := by decide +kernel
/-- The window of the value rows below the block: which block of the array it selects. -/
theorem idx2_5 : ∀ t : Fin cfg2.N, win2_5.index t = ![0, min (4 * t.val + 4) 95] := by decide +kernel
/-- The output's window at a step: the block's rows. -/
theorem idx2_17 : ∀ t : Fin cfg2.N, win2_17.index t = ![0, t.val] := by decide +kernel
/-- The window of the attention matrix starts at the origin. -/
theorem idx2_6 : ∀ t : Fin cfg2.N, win2_6.index t = ![0, 0] := by decide +kernel
/-- The window of the attention matrix is the whole array. -/
theorem i2_6 (t : Fin cfg2.N) : iblk2 V c 6 t = V c main_v30 := by
  funext j
  blk_ext [iblk2, idx2_6 t]
/-- The window of the projection's weight starts at the origin. -/
theorem idx2_7 : ∀ t : Fin cfg2.N, win2_7.index t = ![0, 0] := by decide +kernel
/-- The window of the projection's weight is the whole array. -/
theorem i2_7 (t : Fin cfg2.N) : iblk2 V c 7 t = V c main_v7 := by
  funext j
  blk_ext [iblk2, idx2_7 t]
/-- The window of the layer norm's weight starts at the origin. -/
theorem idx2_8 : ∀ t : Fin cfg2.N, win2_8.index t = ![0, 0] := by decide +kernel
/-- The window of the layer norm's weight is the whole array. -/
theorem i2_8 (t : Fin cfg2.N) : iblk2 V c 8 t = V c main_v25 := by
  funext j
  blk_ext [iblk2, idx2_8 t]
/-- The window of the layer norm's bias starts at the origin. -/
theorem idx2_9 : ∀ t : Fin cfg2.N, win2_9.index t = ![0, 0] := by decide +kernel
/-- The window of the layer norm's bias is the whole array. -/
theorem i2_9 (t : Fin cfg2.N) : iblk2 V c 9 t = V c main_v26 := by
  funext j
  blk_ext [iblk2, idx2_9 t]
/-- The window of the expansion's weight starts at the origin. -/
theorem idx2_10 : ∀ t : Fin cfg2.N, win2_10.index t = ![0, 0] := by decide +kernel
/-- The window of the expansion's weight is the whole array. -/
theorem i2_10 (t : Fin cfg2.N) : iblk2 V c 10 t = V c main_v9 := by
  funext j
  blk_ext [iblk2, idx2_10 t]
/-- The window of the first gate's 1x1 weight starts at the origin. -/
theorem idx2_11 : ∀ t : Fin cfg2.N, win2_11.index t = ![0, 0] := by decide +kernel
/-- The window of the first gate's 1x1 weight is the whole array. -/
theorem i2_11 (t : Fin cfg2.N) : iblk2 V c 11 t = V c main_v11 := by
  funext j
  blk_ext [iblk2, idx2_11 t]
/-- The window of the first gate's depthwise weight starts at the origin. -/
theorem idx2_12 : ∀ t : Fin cfg2.N, win2_12.index t = ![0, 0, 0] := by decide +kernel
/-- The window of the first gate's depthwise weight is the whole array. -/
theorem i2_12 (t : Fin cfg2.N) : iblk2 V c 12 t = V c main_v18 := by
  funext j
  blk_ext [iblk2, idx2_12 t]
/-- The window of the second gate's 1x1 weight starts at the origin. -/
theorem idx2_13 : ∀ t : Fin cfg2.N, win2_13.index t = ![0, 0] := by decide +kernel
/-- The window of the second gate's 1x1 weight is the whole array. -/
theorem i2_13 (t : Fin cfg2.N) : iblk2 V c 13 t = V c main_v13 := by
  funext j
  blk_ext [iblk2, idx2_13 t]
/-- The window of the second gate's depthwise weight starts at the origin. -/
theorem idx2_14 : ∀ t : Fin cfg2.N, win2_14.index t = ![0, 0, 0] := by decide +kernel
/-- The window of the second gate's depthwise weight is the whole array. -/
theorem i2_14 (t : Fin cfg2.N) : iblk2 V c 14 t = V c main_v21 := by
  funext j
  blk_ext [iblk2, idx2_14 t]
/-- The window of the third gate's 1x1 weight starts at the origin. -/
theorem idx2_15 : ∀ t : Fin cfg2.N, win2_15.index t = ![0, 0] := by decide +kernel
/-- The window of the third gate's 1x1 weight is the whole array. -/
theorem i2_15 (t : Fin cfg2.N) : iblk2 V c 15 t = V c main_v15 := by
  funext j
  blk_ext [iblk2, idx2_15 t]
/-- The window of the output's depthwise weight starts at the origin. -/
theorem idx2_16 : ∀ t : Fin cfg2.N, win2_16.index t = ![0, 0, 0] := by decide +kernel
/-- The window of the output's depthwise weight is the whole array. -/
theorem i2_16 (t : Fin cfg2.N) : iblk2 V c 16 t = V c main_v24 := by
  funext j
  blk_ext [iblk2, idx2_16 t]
/-- The window of the input rows above the block, at a position. -/
theorem i2_0 (t : Fin cfg2.N) (o : Fin 96) (l : Fin 1536) (n : Fin 147456) (h : n.val = 1536 * (4 * t.val - 1) + l.val) :
    iblk2 V c 0 t (ix2 o l) = V c main_v0 (ix2 o n) := by
  blk_ext [iblk2, idx2_0 t]
/-- The window of the block's input rows, at a position. -/
theorem i2_1 (t : Fin cfg2.N) (o : Fin 96) (l : Fin 6144) (n : Fin 147456) (h : n.val = 6144 * t.val + l.val) :
    iblk2 V c 1 t (ix2 o l) = V c main_v0 (ix2 o n) := by
  blk_ext [iblk2, idx2_1 t]
/-- The window of the input rows below the block, at a position. -/
theorem i2_2 (t : Fin cfg2.N) (o : Fin 96) (l : Fin 1536) (n : Fin 147456) (h : n.val = 1536 * min (4 * t.val + 4) 95 + l.val) :
    iblk2 V c 2 t (ix2 o l) = V c main_v0 (ix2 o n) := by
  blk_ext [iblk2, idx2_2 t]
/-- The window of the value rows above the block, at a position. -/
theorem i2_3 (t : Fin cfg2.N) (o : Fin 96) (l : Fin 1536) (n : Fin 147456) (h : n.val = 1536 * (4 * t.val - 1) + l.val) :
    iblk2 V c 3 t (ix2 o l) = V c main_v29_0 (ix2 o n) := by
  blk_ext [iblk2, idx2_3 t]
/-- The window of the block's value rows, at a position. -/
theorem i2_4 (t : Fin cfg2.N) (o : Fin 96) (l : Fin 6144) (n : Fin 147456) (h : n.val = 6144 * t.val + l.val) :
    iblk2 V c 4 t (ix2 o l) = V c main_v29_0 (ix2 o n) := by
  blk_ext [iblk2, idx2_4 t]
/-- The window of the value rows below the block, at a position. -/
theorem i2_5 (t : Fin cfg2.N) (o : Fin 96) (l : Fin 1536) (n : Fin 147456) (h : n.val = 1536 * min (4 * t.val + 4) 95 + l.val) :
    iblk2 V c 5 t (ix2 o l) = V c main_v29_0 (ix2 o n) := by
  blk_ext [iblk2, idx2_5 t]

/-- The input's strip holds its image on the rows of the image. -/
theorem x_strI (t : Fin cfg2.N) : StrI t (k2_pay2 (iblk2 V c 0 t) (iblk2 V c 1 t) (iblk2 V c 2 t)) (img (V c main_v0)) := by
  refine StrI.of fun o l r cc h1 h2 h3 h4 h5 h6 e => ?_
  have ht : t.val < 24 := t.isLt
  have e' : k2_pay2 (iblk2 V c 0 t) (iblk2 V c 1 t) (iblk2 V c 2 t) (ix2 o l) = if h : l.val < 1536 then (iblk2 V c 0 t) (ix2 o ⟨l.val, h⟩)
      else if h : l.val - 1536 < 6144 then (iblk2 V c 1 t) (ix2 o ⟨l.val - 1536, h⟩) else (iblk2 V c 2 t) (ix2 o ⟨l.val - 1536 - 6144, by omega⟩) := by
    pointwise [k2_pay2]
  rw [e', img, rd_at _ _ _ (by omega) (by omega)]
  split_ifs with ha hb
  · exact i2_0 V c t o _ _ (by dsimp only; omega)
  · exact i2_1 V c t o _ _ (by dsimp only; omega)
  · exact i2_2 V c t o _ _ (by dsimp only; omega)

/-- The values' strip holds their image on the rows of the image. -/
theorem v_strI (t : Fin cfg2.N) : StrI t (k2_pay3 (iblk2 V c 3 t) (iblk2 V c 4 t) (iblk2 V c 5 t)) (img (V c main_v29_0)) := by
  refine StrI.of fun o l r cc h1 h2 h3 h4 h5 h6 e => ?_
  have ht : t.val < 24 := t.isLt
  have e' : k2_pay3 (iblk2 V c 3 t) (iblk2 V c 4 t) (iblk2 V c 5 t) (ix2 o l) = if h : l.val < 1536 then (iblk2 V c 3 t) (ix2 o ⟨l.val, h⟩)
      else if h : l.val - 1536 < 6144 then (iblk2 V c 4 t) (ix2 o ⟨l.val - 1536, h⟩) else (iblk2 V c 5 t) (ix2 o ⟨l.val - 1536 - 6144, by omega⟩) := by
    pointwise [k2_pay3]
  rw [e', img, rd_at _ _ _ (by omega) (by omega)]
  split_ifs with ha hb
  · exact i2_3 V c t o _ _ (by dsimp only; omega)
  · exact i2_4 V c t o _ _ (by dsimp only; omega)
  · exact i2_5 V c t o _ _ (by dsimp only; omega)

/-- The first three images of the third call, from its arrays. -/
def yA : Fin 96 → ℤ → ℤ → EReal := yS (img (V c main_v0)) (img (V c main_v29_0)) (mt (V c main_v30)) (mt (V c main_v7))

/-- The image of the call's output, from the arrays it reads. -/
def outA (o : Fin 96) (r cc : ℤ) : EReal :=
  outS (mt (V c main_v11)) (mt (V c main_v13)) (mt (V c main_v15)) (fun o k => V c main_v18 (ix3 k o 0)) (fun o k => V c main_v21 (ix3 k o 0))
    (fun o k => V c main_v24 (ix3 k o 0)) (uS (cl (V c main_v25)) (cl (V c main_v26)) (mt (V c main_v9)) (yA V c)) (yA V c) o r cc

/-- The array the third call leaves. -/
theorem out_arr : (dat2 V c).arrAt 17 cfg2.N = fun i => outA V c (i 0) (((i 1).val / 384 : ℕ) : ℤ) (((i 1).val % 384 : ℕ) : ℤ) := by
  refine (dat2 V c).arrAt_eq_of_covers 17 _ (by decide +kernel) fun t hf y => ?_
  blk_simp
  obtain ⟨o, n, rfl⟩ : ∃ (o : Fin 96) (n : Fin 6144), y = ix2 o n := ⟨y 0, y 1, eq_ix2 y⟩
  rw [after2_17]
  refine (out3_at t _ _ _ _ _ _ _ _ _ _ _ _ _ _ _ _ _ _ _ (x_strI V c t) (v_strI V c t) o n).trans ?_
  rw [i2_6, i2_7, i2_8, i2_9, i2_10, i2_11, i2_12, i2_13, i2_14, i2_15, i2_16]
  have e := idx2_17 t
  have hn := n.2
  have ew : ∀ x : Vec Ideal S9x96x1 .f32, taps (ws x) = fun o k => x (ix3 k o 0) := fun x => funext fun o => funext fun k => ws_at x o k
  simp only [ew]
  unfold outA yA
  congr 1
  · apply Fin.ext
    blk_simp [e]
  · rw [e]
    show _ = (((t.val * 6144 + n.val) / 384 : ℕ) : ℤ)
    omega
  · rw [e]
    show _ = (((t.val * 6144 + n.val) % 384 : ℕ) : ℤ)
    omega

end Cert.Own
-- ==== Proof.Host.lean ====
module

public import proofs.«01_k».proof.Proof.K1Arr
public import proofs.«01_k».proof.Proof.K2
public import proofs.«01_k».proof.Proof.K3Arr

/-! # What the host operations hand to the three calls -/

@[expose] public section
set_option maxRecDepth 16384
noncomputable section
namespace Cert.Own
open Idealize.ShloMosaic Idealize.ShloMosaic.TcCoe Cert.KernelIdeal Cert.KernelIdeal.Gen
variable (m : (ℓ : Loc nD τ sig) → Buf (Elt Ideal) ℓ) (ρ : Dev nD → PrngReg) (c : Dev nD)

/-- The input, one row a channel. -/
theorem h_v0 (o : Fin 96) (n : Fin 147456) : (W1 m ρ c (Proc.devRef .tc main_v0) : Buf (Elt Ideal) ((c : Thread nD τ).loc main_v0)) (ix2 o n) = m ((c : Thread nD τ).loc main_arg0) (ix4 0 o ⟨n.val / 384, by omega⟩ ⟨n.val % 384, by omega⟩) := by
  unfold W1
  after_results
  pointwise

/-- A pointwise convolution's weights as a matrix. -/
theorem h_v2 (o : Fin 288) (i : Fin 96) : (W1 m ρ c (Proc.devRef .tc main_v2) : Buf (Elt Ideal) ((c : Thread nD τ).loc main_v2)) (ix2 o i) = m ((c : Thread nD τ).loc main_arg1) (ix4 o i 0 0) := by
  unfold W1
  after_results
  pointwise

/-- A pointwise convolution's weights as a matrix. -/
theorem h_v7 (o : Fin 96) (i : Fin 96) : (W1 m ρ c (Proc.devRef .tc main_v7) : Buf (Elt Ideal) ((c : Thread nD τ).loc main_v7)) (ix2 o i) = m ((c : Thread nD τ).loc main_arg3) (ix4 o i 0 0) := by
  unfold W1
  after_results
  pointwise

/-- A pointwise convolution's weights as a matrix. -/
theorem h_v9 (o : Fin 192) (i : Fin 96) : (W1 m ρ c (Proc.devRef .tc main_v9) : Buf (Elt Ideal) ((c : Thread nD τ).loc main_v9)) (ix2 o i) = m ((c : Thread nD τ).loc main_arg8) (ix4 o i 0 0) := by
  unfold W1
  after_results
  pointwise

/-- A pointwise convolution's weights as a matrix. -/
theorem h_v11 (o : Fin 96) (i : Fin 96) : (W1 m ρ c (Proc.devRef .tc main_v11) : Buf (Elt Ideal) ((c : Thread nD τ).loc main_v11)) (ix2 o i) = m ((c : Thread nD τ).loc main_arg9) (ix4 o i 0 0) := by
  unfold W1
  after_results
  pointwise

/-- A pointwise convolution's weights as a matrix. -/
theorem h_v13 (o : Fin 96) (i : Fin 96) : (W1 m ρ c (Proc.devRef .tc main_v13) : Buf (Elt Ideal) ((c : Thread nD τ).loc main_v13)) (ix2 o i) = m ((c : Thread nD τ).loc main_arg11) (ix4 o i 0 0) := by
  unfold W1
  after_results
  pointwise

/-- A pointwise convolution's weights as a matrix. -/
theorem h_v15 (o : Fin 96) (i : Fin 96) : (W1 m ρ c (Proc.devRef .tc main_v15) : Buf (Elt Ideal) ((c : Thread nD τ).loc main_v15)) (ix2 o i) = m ((c : Thread nD τ).loc main_arg13) (ix4 o i 0 0) := by
  unfold W1
  after_results
  pointwise

/-- A depthwise convolution's weights, tap by tap. -/
theorem h_v5 (k : Fin 9) (o : Fin 288) : (W1 m ρ c (Proc.devRef .tc main_v5) : Buf (Elt Ideal) ((c : Thread nD τ).loc main_v5)) (ix3 k o 0) = m ((c : Thread nD τ).loc main_arg2) (ix4 o 0 ⟨k.val / 3, by omega⟩ ⟨k.val % 3, by omega⟩) := by
  unfold W1
  after_results
  pointwise

/-- A depthwise convolution's weights, tap by tap. -/
theorem h_v18 (k : Fin 9) (o : Fin 96) : (W1 m ρ c (Proc.devRef .tc main_v18) : Buf (Elt Ideal) ((c : Thread nD τ).loc main_v18)) (ix3 k o 0) = m ((c : Thread nD τ).loc main_arg10) (ix4 o 0 ⟨k.val / 3, by omega⟩ ⟨k.val % 3, by omega⟩) := by
  unfold W1
  after_results
  pointwise

/-- A depthwise convolution's weights, tap by tap. -/
theorem h_v21 (k : Fin 9) (o : Fin 96) : (W1 m ρ c (Proc.devRef .tc main_v21) : Buf (Elt Ideal) ((c : Thread nD τ).loc main_v21)) (ix3 k o 0) = m ((c : Thread nD τ).loc main_arg12) (ix4 o 0 ⟨k.val / 3, by omega⟩ ⟨k.val % 3, by omega⟩) := by
  unfold W1
  after_results
  pointwise

/-- A depthwise convolution's weights, tap by tap. -/
theorem h_v24 (k : Fin 9) (o : Fin 96) : (W1 m ρ c (Proc.devRef .tc main_v24) : Buf (Elt Ideal) ((c : Thread nD τ).loc main_v24)) (ix3 k o 0) = m ((c : Thread nD τ).loc main_arg14) (ix4 o 0 ⟨k.val / 3, by omega⟩ ⟨k.val % 3, by omega⟩) := by
  unfold W1
  after_results
  pointwise

/-- The norm's scale. -/
theorem h_v25 (o : Fin 96) : (W1 m ρ c (Proc.devRef .tc main_v25) : Buf (Elt Ideal) ((c : Thread nD τ).loc main_v25)) (ix2 o 0) = m ((c : Thread nD τ).loc main_arg6) (ix1 o) := by
  unfold W1
  after_results
  pointwise

/-- The norm's shift. -/
theorem h_v26 (o : Fin 96) : (W1 m ρ c (Proc.devRef .tc main_v26) : Buf (Elt Ideal) ((c : Thread nD τ).loc main_v26)) (ix2 o 0) = m ((c : Thread nD τ).loc main_arg7) (ix1 o) := by
  unfold W1
  after_results
  pointwise

/-- The temperatures. -/
theorem h_v27 (h : Fin 4) : (W1 m ρ c (Proc.devRef .tc main_v27) : Buf (Elt Ideal) ((c : Thread nD τ).loc main_v27)) (ix2 h 0) = m ((c : Thread nD τ).loc main_arg4) (ix3 h 0 0) := by
  unfold W1
  after_results
  pointwise

/-- The mixing weights. -/
theorem h_v28 (h : Fin 4) : (W1 m ρ c (Proc.devRef .tc main_v28) : Buf (Elt Ideal) ((c : Thread nD τ).loc main_v28)) (ix2 h 0) = m ((c : Thread nD τ).loc main_arg5) (ix1 h) := by
  unfold W1
  after_results
  pointwise

end Cert.Own
end
end
-- ==== Proof.Whole.lean ====
module

public import proofs.«01_k».proof.Proof.Host

/-! # The kernel's result as a function of its arguments -/

@[expose] public section
set_option maxRecDepth 16384
noncomputable section
namespace Cert.Own
open Idealize.ShloMosaic Idealize.ShloMosaic.TcCoe Cert.KernelIdeal Cert.KernelIdeal.Gen

/-- An image array as images on all integers, zero outside. -/
def im4 {a : ℕ} (v : Shape.Idx ⟨4, ![1, a, 384, 384]⟩ → EReal) (o : Fin a) (r c : ℤ) : EReal :=
  if h : 0 ≤ r ∧ r < 384 ∧ 0 ≤ c ∧ c < 384 then v (ix4 0 o ⟨r.toNat, by omega⟩ ⟨c.toNat, by omega⟩) else 0
/-- A pointwise convolution's weights. -/
def m4 {a b : ℕ} (w : Shape.Idx ⟨4, ![a, b, 1, 1]⟩ → EReal) (o : Fin a) (i : Fin b) : EReal := w (ix4 o i 0 0)
/-- A depthwise convolution's nine taps. -/
def d4 {a : ℕ} (w : Shape.Idx ⟨4, ![a, 1, 3, 3]⟩ → EReal) (o : Fin a) (k : Fin 9) : EReal :=
  w (ix4 o 0 ⟨k.val / 3, by omega⟩ ⟨k.val % 3, by omega⟩)

/-- The image of an array at a pixel is the array's entry. -/
theorem im4_at {a : ℕ} (v : Shape.Idx ⟨4, ![1, a, 384, 384]⟩ → EReal) (o : Fin a) (r c : Fin 384) : im4 v o r c = v (ix4 0 o r c) := by
  rw [im4, dif_pos (by omega)]; rfl

/-- Two families of images agree on the pixels of the image. -/
def EqI {a : ℕ} (f g : Fin a → ℤ → ℤ → EReal) : Prop := ∀ o (r c : Fin 384), f o r c = g o r c

/-- Two images that agree inside the frame, read at a pixel. -/
theorem EqI.at {a : ℕ} {f g : Fin a → ℤ → ℤ → EReal} (h : EqI f g) (o : Fin a) (r c : ℤ) (h1 : 0 ≤ r) (h2 : r < 384) (h3 : 0 ≤ c) (h4 : c < 384) :
    f o r c = g o r c := by
  have := h o ⟨r.toNat, by omega⟩ ⟨c.toNat, by omega⟩
  simpa [Int.toNat_of_nonneg h1, Int.toNat_of_nonneg h3] using this

/-- Queries, keys and values depend on the pixels of the image only. -/
theorem qkvS_congr (W : Fin 288 → Fin 96 → EReal) (d : Fin 288 → Fin 9 → EReal) {X Y : Fin 96 → ℤ → ℤ → EReal} (h : EqI X Y)
    (o : Fin 288) (r c : ℤ) : qkvS W d X o r c = qkvS W d Y o r c :=
  dw9_congr _ _ _ _ (fun r c h1 h2 h3 h4 => Finset.sum_congr rfl fun i _ => by rw [h.at i r c h1 h2 h3 h4]) r c

/-- The output depends on the pixels of the image only. -/
theorem outS_congr (g1 g2 g3 : Fin 96 → Fin 96 → EReal) (d1 d2 d3 : Fin 96 → Fin 9 → EReal) {u u' : Fin 192 → ℤ → ℤ → EReal}
    {y y' : Fin 96 → ℤ → ℤ → EReal} (hu : EqI u u') (hy : EqI y y') : EqI (outS g1 g2 g3 d1 d2 d3 u y) (outS g1 g2 g3 d1 d2 d3 u' y') := by
  intro o r c
  unfold outS
  rw [hy o r c]
  congr 1
  refine dw9_congr _ _ _ _ (fun r c h1 h2 h3 h4 => Finset.sum_congr rfl fun i _ => ?_) r c
  dsimp only
  congr 2
  · exact dw9_congr _ _ _ _ (fun r c h1 h2 h3 h4 => Finset.sum_congr rfl fun i _ => by dsimp only; rw [hu.at _ r c h1 h2 h3 h4]) r c
  · refine dw9_congr _ _ _ _ (fun r c h1 h2 h3 h4 => Finset.sum_congr rfl fun i _ => ?_) _ _
    unfold pool
    dsimp only
    rw [hu.at _ _ _ (by omega) (by omega) (by omega) (by omega), hu.at _ _ _ (by omega) (by omega) (by omega) (by omega),
      hu.at _ _ _ (by omega) (by omega) (by omega) (by omega), hu.at _ _ _ (by omega) (by omega) (by omega) (by omega)]

/-- The attention matrices of equal sums are equal. -/
theorem att1_of {x0 : Vec Ideal S96x96 .f32} {x1 x2 : Vec Ideal S96x128 .f32} {x3 : Vec Ideal S4x1 .f32} {S : Fin 96 → Fin 96 → EReal}
    {nq nk : Fin 96 → EReal} {t : Fin 4 → EReal} (h0 : ∀ a b, x0 (ix2 a b) = S a b) (h1 : ∀ a, x1 (ix2 a 0) = nq a)
    (h2 : ∀ a, x2 (ix2 a 0) = nk a) (h3 : ∀ h, x3 (ix2 h 0) = t h) : att1 x0 x1 x2 x3 = attS S nq nk t := by
  obtain rfl : _ = S := funext fun a => funext fun b => h0 a b
  obtain rfl : _ = nq := funext h1
  obtain rfl : _ = nk := funext h2
  obtain rfl : _ = t := funext h3
  rfl

/-- The mixture of equal parts. -/
theorem mixS_of {w w' : Fin 4 → EReal} {A A' : Fin 4 → Fin 24 → Fin 24 → EReal} {h : Fin 4} {q : Fin 576} (hw : ∀ j, w j = w' j) (hA : A = A') :
    mixS w (flat (A h)) q = mixS w' (flat (A' h)) q := by
  obtain rfl : w = w' := funext hw
  rw [hA]

/-- The attention branch of equal parts. -/
theorem yS_of {X X' V V' : Fin 96 → ℤ → ℤ → EReal} {s s' p p' : Fin 96 → Fin 96 → EReal} {o : Fin 96} {r c : ℤ} (hX : X o r c = X' o r c)
    (hV : ∀ j, V j r c = V' j r c) (hs : ∀ i j, s i j = s' i j) (hp : ∀ i j, p i j = p' i j) : yS X V s p o r c = yS X' V' s' p' o r c := by
  obtain rfl : s = s' := funext fun a => funext fun b => hs a b
  obtain rfl : p = p' := funext fun a => funext fun b => hp a b
  simp only [yS, hX, hV]

/-- The output of equal parts. -/
theorem outS_of {g1 g1' g2 g2' g3 g3' : Fin 96 → Fin 96 → EReal} {d1 d1' d2 d2' d3 d3' : Fin 96 → Fin 9 → EReal} {lw lw' lb lb' : Fin 96 → EReal}
    {f f' : Fin 192 → Fin 96 → EReal} {y y' : Fin 96 → ℤ → ℤ → EReal} (e1 : ∀ i j, g1 i j = g1' i j) (e2 : ∀ i j, g2 i j = g2' i j)
    (e3 : ∀ i j, g3 i j = g3' i j) (e4 : ∀ i j, d1 i j = d1' i j) (e5 : ∀ i j, d2 i j = d2' i j) (e6 : ∀ i j, d3 i j = d3' i j)
    (e7 : ∀ i, lw i = lw' i) (e8 : ∀ i, lb i = lb' i) (e9 : ∀ i j, f i j = f' i j) (e : EqI y y') :
    EqI (outS g1 g2 g3 d1 d2 d3 (uS lw lb f y) y) (outS g1' g2' g3' d1' d2' d3' (uS lw' lb' f' y') y') := by
  obtain rfl : g1 = g1' := funext fun a => funext fun b => e1 a b
  obtain rfl : g2 = g2' := funext fun a => funext fun b => e2 a b
  obtain rfl : g3 = g3' := funext fun a => funext fun b => e3 a b
  obtain rfl : d1 = d1' := funext fun a => funext fun b => e4 a b
  obtain rfl : d2 = d2' := funext fun a => funext fun b => e5 a b
  obtain rfl : d3 = d3' := funext fun a => funext fun b => e6 a b
  obtain rfl : lw = lw' := funext e7
  obtain rfl : lb = lb' := funext e8
  obtain rfl : f = f' := funext fun a => funext fun b => e9 a b
  refine outS_congr _ _ _ _ _ _ (fun o r c => ?_) e
  unfold uS
  congr 1
  funext i
  exact e i r c

section Spec
variable (x0 : Shape.Idx ⟨4, ![1, 96, 384, 384]⟩ → EReal) (x1 : Shape.Idx ⟨4, ![288, 96, 1, 1]⟩ → EReal)
  (x2 : Shape.Idx ⟨4, ![288, 1, 3, 3]⟩ → EReal) (x3 : Shape.Idx ⟨4, ![96, 96, 1, 1]⟩ → EReal)
  (x4 : Shape.Idx ⟨3, ![4, 1, 1]⟩ → EReal) (x5 : Shape.Idx ⟨1, ![4]⟩ → EReal)
  (x6 x7 : Shape.Idx ⟨1, ![96]⟩ → EReal) (x8 : Shape.Idx ⟨4, ![192, 96, 1, 1]⟩ → EReal)
  (x9 x11 x13 : Shape.Idx ⟨4, ![96, 96, 1, 1]⟩ → EReal) (x10 x12 x14 : Shape.Idx ⟨4, ![96, 1, 3, 3]⟩ → EReal)

/-- Queries, keys and values. -/
def qkvW : Fin 288 → ℤ → ℤ → EReal := qkvS (m4 x1) (d4 x2) (im4 x0)
/-- The product of two of their channels, over the picture. -/
def dotW (o o' : Fin 288) : EReal :=
  ∑ n : Fin 147456, qkvW x0 x1 x2 o ((n.val / 384 : ℕ) : ℤ) ((n.val % 384 : ℕ) : ℤ) * qkvW x0 x1 x2 o' ((n.val / 384 : ℕ) : ℤ) ((n.val % 384 : ℕ) : ℤ)
/-- The attention matrix of a head, before the selection. -/
def attW : Fin 4 → Fin 24 → Fin 24 → EReal :=
  attS (fun a b => dotW x0 x1 x2 (part 0 a) (part 1 b)) (fun a => dotW x0 x1 x2 (part 0 a) (part 0 a))
    (fun a => dotW x0 x1 x2 (part 1 a) (part 1 a)) (fun h => x4 (ix3 h 0 0))
/-- The mixture of the four softmaxes. -/
def mixW (h : Fin 4) (d e : Fin 24) : EReal := mixS (fun j => x5 (ix1 j)) (flat (attW x0 x1 x2 x4 h)) (pl d e)
/-- Four matrices along a diagonal. -/
def bd (f : Fin 4 → Fin 24 → Fin 24 → EReal) (i j : Fin 96) : EReal :=
  if i.val / 24 = j.val / 24 then f ⟨i.val / 24, by omega⟩ ⟨i.val % 24, by omega⟩ ⟨j.val % 24, by omega⟩ else 0
/-- The attention branch plus the input. -/
def yW : Fin 96 → ℤ → ℤ → EReal := yS (im4 x0) (fun j => qkvW x0 x1 x2 (part 2 j)) (bd (mixW x0 x1 x2 x4 x5)) (m4 x3)
/-- The result. -/
def outW : Fin 96 → ℤ → ℤ → EReal :=
  outS (m4 x9) (m4 x11) (m4 x13) (d4 x10) (d4 x12) (d4 x14)
    (uS (fun o => x6 (ix1 o)) (fun o => x7 (ix1 o)) (m4 x8) (yW x0 x1 x2 x3 x4 x5)) (yW x0 x1 x2 x3 x4 x5)
end Spec

variable (m : (ℓ : Loc nD τ sig) → Buf (Elt Ideal) ℓ) (ρ : Dev nD → PrngReg) (c : Dev nD)

/-- The reshaped input has the input's image. -/
theorem img_v0 : EqI (img (V1 m ρ c main_v0)) (im4 (m ((c : Thread nD τ).loc main_arg0))) := by
  intro o r cc
  rw [im4_at, img, rd_at _ _ _ (by omega) (by omega)]
  refine (h_v0 m ρ c o _).trans ?_
  congr 2 <;> (apply Fin.ext; simp; omega)

/-- The reshaped input is still there when the third call starts. -/
theorem v3_main_v0 : V3 m ρ c main_v0 = V1 m ρ c main_v0 := (W3_of m ρ c _ (by decide)).trans (W2_of m ρ c _ (by decide))

/-- The queries, keys and values as a function of the arguments. -/
theorem qkvA_eq : qkvA (V1 m ρ) c = qkvW (m ((c : Thread nD τ).loc main_arg0)) (m ((c : Thread nD τ).loc main_arg1)) (m ((c : Thread nD τ).loc main_arg2)) := by
  funext o r cc
  unfold qkvA qkvW
  refine (qkvS_congr _ _ (img_v0 m ρ c) o r cc).trans ?_
  congr 1
  · funext o i; exact h_v2 m ρ c o i
  · funext o k; exact h_v5 m ρ c k o

/-- The products of channels as a function of the arguments. -/
theorem dotA_eq (o o' : Fin 288) : dotA (V1 m ρ) c o o' = dotW (m ((c : Thread nD τ).loc main_arg0)) (m ((c : Thread nD τ).loc main_arg1)) (m ((c : Thread nD τ).loc main_arg2)) o o' := by
  unfold dotA dotW
  rw [qkvA_eq]

/-- The attention matrix that the third call reads, as a function of the arguments. -/
theorem spa_eq (i j : Fin 96) : V3 m ρ c main_v30 (ix2 i j) = bd (mixW (m ((c : Thread nD τ).loc main_arg0)) (m ((c : Thread nD τ).loc main_arg1)) (m ((c : Thread nD τ).loc main_arg2)) (m ((c : Thread nD τ).loc main_arg4)) (m ((c : Thread nD τ).loc main_arg5))) i j := by
  have e1 : V3 m ρ c main_v30 = _ := (W3_arr m ρ c 5).trans (spa_arr (V2 m ρ) c)
  have e6 : V2 m ρ c main_v29_1 = _ := (W2_arr m ρ c 6).trans (S_arr (V1 m ρ) c)
  have e7 : V2 m ρ c main_v29_2 = _ := (W2_arr m ρ c 7).trans (nq_arr (V1 m ρ) c)
  have e8 : V2 m ρ c main_v29_3 = _ := (W2_arr m ρ c 8).trans (nk_arr (V1 m ρ) c)
  have e27 : V2 m ρ c main_v27 = V1 m ρ c main_v27 := W2_of m ρ c _ (by decide)
  have e28 : V2 m ρ c main_v28 = V1 m ρ c main_v28 := W2_of m ρ c _ (by decide)
  rw [e1]
  obtain ⟨h, d, rfl⟩ : ∃ (h : Fin 4) (d : Fin 24), i = ⟨24 * h.val + d.val, by omega⟩ :=
    ⟨⟨i.val / 24, by omega⟩, ⟨i.val % 24, by omega⟩, Fin.ext (by simp; omega)⟩
  obtain ⟨k, e, rfl⟩ : ∃ (h : Fin 4) (d : Fin 24), j = ⟨24 * h.val + d.val, by omega⟩ :=
    ⟨⟨j.val / 24, by omega⟩, ⟨j.val % 24, by omega⟩, Fin.ext (by simp; omega)⟩
  refine (out1_at _ _ _ _ _ h k d e).trans ?_
  have hh : (24 * h.val + d.val) / 24 = h.val := by omega
  have hk : (24 * k.val + e.val) / 24 = k.val := by omega
  have hd : (24 * h.val + d.val) % 24 = d.val := by omega
  have he : (24 * k.val + e.val) % 24 = e.val := by omega
  simp only [bd, hh, hk, hd, he, Fin.eta]
  refine if_congr Fin.ext_iff ?_ rfl
  unfold mixW
  exact mixS_of (fun j => (congrFun e28 (ix2 j 0)).trans (h_v28 m ρ c j)) (att1_of (fun a b => (congrFun e6 (ix2 a b)).trans (dotA_eq m ρ c _ _))
      (fun a => (congrFun e7 (ix2 a 0)).trans (dotA_eq m ρ c _ _)) (fun a => (congrFun e8 (ix2 a 0)).trans (dotA_eq m ρ c _ _))
      (fun h => (congrFun e27 (ix2 h 0)).trans (h_v27 m ρ c h)))

/-- The attention branch, pixel by pixel. -/
theorem yA_eq : EqI (yA (V3 m ρ) c) (yW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  intro o r cc
  have ev : V3 m ρ c main_v29_0 = _ := (W3_of m ρ c main_v29_0 (by decide)).trans ((W2_arr m ρ c 5).trans (v_arr (V1 m ρ) c))
  have e7 : V3 m ρ c main_v7 = V1 m ρ c main_v7 := (W3_of m ρ c _ (by decide)).trans (W2_of m ρ c _ (by decide))
  unfold yA yW
  refine yS_of ?_ (fun j => ?_) (fun i j => spa_eq m ρ c i j) (fun i j => (congrFun e7 (ix2 i j)).trans (h_v7 m ρ c i j))
  · rw [v3_main_v0]; exact img_v0 m ρ c o r cc
  · rw [← qkvA_eq m ρ c, img, rd_at _ _ _ (by omega) (by omega)]
    refine (congrFun ev (ix2 j _)).trans ?_
    dsimp only
    congr 1 <;> (push_cast; omega)

/-- The result, entry by entry. -/
theorem kernel_at (o : Fin 96) (r cc : Fin 384) : (W5 m ρ c (Proc.devRef .tc main_v32) : Buf (Elt Ideal) ((c : Thread nD τ).loc main_v32)) (ix4 0 o r cc)
    = outW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg11)) (m ((c : Thread nD τ).loc main_arg13)) (m ((c : Thread nD τ).loc main_arg10)) (m ((c : Thread nD τ).loc main_arg12)) (m ((c : Thread nD τ).loc main_arg14)) o r cc := by
  have e4 : W4 m ρ c (Proc.devRef .tc main_v31) = _ := (W4_arr m ρ c 17).trans (out_arr (V3 m ρ) c)
  have e5 : (W5 m ρ c (Proc.devRef .tc main_v32) : Buf (Elt Ideal) ((c : Thread nD τ).loc main_v32)) (ix4 0 o r cc)
      = (W4 m ρ c (Proc.devRef .tc main_v31) : Buf (Elt Ideal) ((c : Thread nD τ).loc main_v31)) (ix2 o ⟨r.val * 384 + cc.val, by omega⟩) := by
    unfold W5
    after_results
    pointwise
  rw [e5, e4]
  dsimp only
  have q : ∀ b, (∀ w, Pipeline.arrRef spec0 w = b → (cfg0.win w).isOut = false) → (∀ w, Pipeline.arrRef spec1 w = b → (cfg1.win w).isOut = false) →
      V3 m ρ c b = V1 m ρ c b := fun b h0 h1 => (W3_of m ρ c b h1).trans (W2_of m ρ c b h0)
  have er : (((r.val * 384 + cc.val) / 384 : ℕ) : ℤ) = r := by congr 1; omega
  have ec : (((r.val * 384 + cc.val) % 384 : ℕ) : ℤ) = cc := by congr 1; omega
  refine Eq.trans (b := outA (V3 m ρ) c o r cc) ?_ (outS_of
    (fun i j => ((congrFun (q main_v11 (by decide) (by decide)) _).trans (h_v11 m ρ c i j)))
    (fun i j => ((congrFun (q main_v13 (by decide) (by decide)) _).trans (h_v13 m ρ c i j)))
    (fun i j => ((congrFun (q main_v15 (by decide) (by decide)) _).trans (h_v15 m ρ c i j)))
    (fun i j => ((congrFun (q main_v18 (by decide) (by decide)) _).trans (h_v18 m ρ c j i)))
    (fun i j => ((congrFun (q main_v21 (by decide) (by decide)) _).trans (h_v21 m ρ c j i)))
    (fun i j => ((congrFun (q main_v24 (by decide) (by decide)) _).trans (h_v24 m ρ c j i)))
    (fun i => ((congrFun (q main_v25 (by decide) (by decide)) _).trans (h_v25 m ρ c i)))
    (fun i => ((congrFun (q main_v26 (by decide) (by decide)) _).trans (h_v26 m ρ c i)))
    (fun i j => ((congrFun (q main_v9 (by decide) (by decide)) _).trans (h_v9 m ρ c i j))) (yA_eq m ρ c) o r cc)
  rw [← er, ← ec]
  rfl

end Cert.Own
end
end
-- ==== Proof.R1.lean ====
module

public import proofs.«01_k».proof.Proof.Whole
public import proofs.«01_k».proof.Proof.Gen.ReferenceIdeal.Read

/-! # The reference's queries, keys and values -/

@[expose] public section
set_option maxRecDepth 16384
noncomputable section
namespace Cert.Own
open Idealize.ShloMosaic Idealize.ShloMosaic.TcCoe Cert.ReferenceIdeal Cert.ReferenceIdeal.Gen Cert.ReferenceIdeal.Read

/-- The nine products of a zero-padded picture with the taps, summed in order. -/
theorem dw_sum {n : ℕ} (P : Fin (n + 2) → Fin (n + 2) → EReal) (f : ℤ → ℤ → EReal) (w : Fin 9 → EReal)
    (hP : ∀ a b, P a b = msk n f (a - 1) (b - 1)) (r c : Fin n) :
    P ⟨r, by omega⟩ ⟨c, by omega⟩ * w 0 + P ⟨r, by omega⟩ ⟨1 + c, by omega⟩ * w 1 + P ⟨r, by omega⟩ ⟨2 + c, by omega⟩ * w 2
      + P ⟨1 + r, by omega⟩ ⟨c, by omega⟩ * w 3 + P ⟨1 + r, by omega⟩ ⟨1 + c, by omega⟩ * w 4 + P ⟨1 + r, by omega⟩ ⟨2 + c, by omega⟩ * w 5
      + P ⟨2 + r, by omega⟩ ⟨c, by omega⟩ * w 6 + P ⟨2 + r, by omega⟩ ⟨1 + c, by omega⟩ * w 7 + P ⟨2 + r, by omega⟩ ⟨2 + c, by omega⟩ * w 8
      = dw9 n w f r c := by
  simp only [hP, dw9]
  have e1 : ∀ k : ℕ, ((1 + k : ℕ) : ℤ) - 1 = (k : ℤ) := fun k => by omega
  have e2 : ∀ k : ℕ, ((2 + k : ℕ) : ℤ) - 1 = (k : ℤ) + 1 := fun k => by omega
  simp only [e1, e2]

/-- A picture padded by a frame of zeros. -/
theorem pad_msk {n : ℕ} (v : Fin n → Fin n → EReal) (f : ℤ → ℤ → EReal) (hv : ∀ r c, v r c = f r c) (z : EReal) (hz : z = 0) (a b : Fin (n + 2)) :
    (if h : (1 ≤ a.val ∧ a.val - 1 < n) ∧ 1 ≤ b.val ∧ b.val - 1 < n then v ⟨a - 1, h.1.2⟩ ⟨b - 1, h.2.2⟩ else z) = msk n f (a - 1) (b - 1) := by
  split_ifs with h
  · rw [hv, msk_in _ _ _ _ (by omega), Nat.cast_sub h.1.1, Nat.cast_sub h.2.1]
    rfl
  · rw [msk_out _ _ _ _ (by omega), hz]

/-- The integer zero, as a number. -/
theorem sitofp_zero : (FloatOps.sitofp FTy.f32 (0#32) : Ideal .f32) = (0 : EReal) := by
  simp [FloatOps.sitofp]

variable (x0 : (⟨S1x96x384x384, .f32⟩ : BufTy).Contents (Elt Ideal)) (x1 : (⟨S288x96x1x1, .f32⟩ : BufTy).Contents (Elt Ideal))
  (x2 : (⟨S288x1x3x3, .f32⟩ : BufTy).Contents (Elt Ideal))

/-- The 1×1 convolution. -/
theorem r_v4 (o : Fin 288) (r c : Fin 384) : val_main_v4 x0 x1 (ix3 o r c) = conv1 (m4 x1) (im4 x0) o r c := by
  pointwise [val_main_v4, val_main_v3, val_main_v2, val_main_v1, val_main_v0]
  refine Finset.sum_congr rfl fun i _ => ?_
  rw [im4_at]
  rfl

/-- Padded by zeros. -/
theorem r_v5 (o : Fin 288) (a b : Fin 386) : val_main_v5 x0 x1 (ix3 o a b) = msk 384 (conv1 (m4 x1) (im4 x0) o) (a - 1) (b - 1) := by
  pointwise [val_main_v5, val_main_call0_v0, val_main_c]
  exact pad_msk (fun r c => val_main_v4 x0 x1 (ix3 o r c)) _ (fun r c => r_v4 x0 x1 o r c) _ sitofp_zero a b

/-- The depthwise convolution. -/
theorem r_v69 (o : Fin 288) (r c : Fin 384) : val_main_v69 x0 x1 x2 (ix3 o r c) = qkvW x0 x1 x2 o r c := by
  refine Eq.trans ?_ (dw_sum (fun a b => val_main_v5 x0 x1 (ix3 o a b)) _ (d4 x2 o) (r_v5 x0 x1 o) r c)
  pointwise [val_main_v6, val_main_cst, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69]
  rfl
end Cert.Own
end
end
-- ==== Proof.R3.lean ====
module

public import proofs.«01_k».proof.Proof.R1

/-! # The reference's layer norm and gated feed-forward, in terms of the attention branch `Y` -/

@[expose] public section
set_option maxRecDepth 16384
noncomputable section
namespace Cert.Own
open Idealize.ShloMosaic Idealize.ShloMosaic.TcCoe Cert.ReferenceIdeal Cert.ReferenceIdeal.Gen Cert.ReferenceIdeal.Read

/-- Layer norm with a division by a root, the expansion, and the exact GELU by the complementary error function. -/
def ffnR (lw lb : Fin 96 → EReal) (w : Fin 192 → Fin 96 → EReal) (y : Fin 96 → EReal) (o : Fin 192) : EReal :=
  let mu := Ideal.div (∑ i, y i) (Ideal.ofBits FTy.f32 0x42C00000#32)
  let va := Ideal.div (∑ i, (y i - mu) * (y i - mu)) (Ideal.ofBits FTy.f32 0x42C00000#32)
  let t := ∑ i, w o i * (lw i * Ideal.div (y i - mu) (Ideal.sqrt (va + Ideal.ofBits FTy.f32 0x358637BD#32)) + lb i)
  Ideal.ofBits FTy.f32 0x3F000000#32 * t * Ideal.erfc (-t * Ideal.ofBits FTy.f32 0x3F3504F3#32)

/-- The expanded channels. -/
def uR (lw lb : Fin 96 → EReal) (fw : Fin 192 → Fin 96 → EReal) (y : Fin 96 → ℤ → ℤ → EReal) (o : Fin 192) (r c : ℤ) : EReal :=
  ffnR lw lb fw (fun i => y i r c) o

/-- A division by four is a product with a quarter. -/
theorem quarter_div (x : EReal) : Ideal.div x (Ideal.ofBits FTy.f32 0x40800000#32) = x * quarter := by
  have h4 : Ideal.ofBits FTy.f32 0x40800000#32 = ((4 : ℝ) : EReal) := by
    simp [Ideal.ofBits, Ideal.ieee, -EReal.coe_mul]; norm_num
  have hq : quarter = (((4 : ℝ)⁻¹ : ℝ) : EReal) := by
    simp [quarter, Ideal.ofBits, Ideal.ieee, -EReal.coe_mul]; norm_num
  rw [h4, hq, Ideal.div, if_neg (by norm_num), EReal.coe_inv]

/-- The sum over the 2×2 squares of pixels. -/
theorem sum_squares (v : FVec Ideal S96x192x2x192x2 .f32) (z : FVec Ideal S_ .f32) (hz : z (Shape.Idx.first h_S_) = 0) (o : Fin 96) (r c : Fin 192) :
    (Host.reduceAdd v z reducesTo_S96x192x2x192x2_S96x192x192_d2_4 h_S_ (ix3 o r c) : EReal)
      = (v (ix5 o r 0 c 0) : EReal) + v (ix5 o r 0 c 1) + ((v (ix5 o r 1 c 0) : EReal) + v (ix5 o r 1 c 1)) := by
  have hf : ∀ i : S96x192x2x192x2.Idx, reducesTo_S96x192x2x192x2_S96x192x192_d2_4.drop i = ix3 o r c
      ↔ ∃ k : Fin 2 × Fin 2, ix5 o r k.1 c k.2 = i := fun i => by
    constructor
    · intro e
      refine ⟨(i 2, i 4), ?_⟩
      funext a; apply Fin.ext
      match a with
      | ⟨0, _⟩ => exact (congrArg Fin.val (congrFun e 0)).symm
      | ⟨1, _⟩ => exact (congrArg Fin.val (congrFun e 1)).symm
      | ⟨2, _⟩ => rfl
      | ⟨3, _⟩ => exact (congrArg Fin.val (congrFun e 2)).symm
      | ⟨4, _⟩ => rfl
    · rintro ⟨k, rfl⟩
      funext b
      apply Fin.ext
      match b with
      | ⟨0, _⟩ => rfl
      | ⟨1, _⟩ => rfl
      | ⟨2, _⟩ => rfl
  refine (congrArg₂ (· + ·) hz (Finset.sum_filter_eq_sum_of_fiber _ (fun k : Fin 2 × Fin 2 => ix5 o r k.1 c k.2)
    (fun _ _ e => Prod.ext (congrFun e 2) (congrFun e 4)) hf v)).trans ?_
  rw [Fintype.sum_prod_type, Fin.sum_univ_two, Fin.sum_univ_two, Fin.sum_univ_two, zero_add]

/-- The layer norm's variance is never negative. -/
theorem sq_nonneg' (x : EReal) : 0 ≤ x * x := by
  induction x using EReal.rec with
  | bot => simp
  | top => simp
  | coe r => rw [← EReal.coe_mul]; exact_mod_cast mul_self_nonneg r

/-- Above zero, dividing by a root is multiplying with the reciprocal root. -/
theorem div_root (a s : EReal) (hs : 0 < s) : Ideal.div a (Ideal.sqrt s) = a * Ideal.rsqrt s := by
  induction s using EReal.rec with
  | bot => simp at hs
  | top => simp [Ideal.div]
  | coe r =>
    have hr : 0 < r := by exact_mod_cast hs
    have h0 : ¬ r < 0 := not_lt.2 hr.le
    have h1 : Real.sqrt r ≠ 0 := (Real.sqrt_pos.2 hr).ne'
    rw [Ideal.sqrt_coe, Ideal.rsqrt_coe, if_neg h0, if_neg h0, if_neg hr.ne', Ideal.div, if_neg (by exact_mod_cast h1), EReal.coe_inv]

/-- The two forms of the layer norm and of the GELU agree. -/
theorem ffnR_eq (lw lb : Fin 96 → EReal) (w : Fin 192 → Fin 96 → EReal) (y : Fin 96 → EReal) (o : Fin 192) : ffnR lw lb w y o = ffn lw lb w y o := by
  have h96 : Ideal.ofBits FTy.f32 0x42C00000#32 = ((96 : ℝ) : EReal) := by
    simp [Ideal.ofBits, Ideal.ieee, -EReal.coe_mul]; norm_num
  have he : (0 : EReal) < Ideal.ofBits FTy.f32 0x358637BD#32 := by
    simp [Ideal.ofBits, Ideal.ieee, -EReal.coe_mul]
  unfold ffnR ffn
  dsimp only
  have hv : ∀ mu : EReal, 0 < Ideal.div (∑ i, (y i - mu) * (y i - mu)) (Ideal.ofBits FTy.f32 0x42C00000#32) + Ideal.ofBits FTy.f32 0x358637BD#32 := fun mu => by
    refine lt_of_lt_of_le he (le_add_of_nonneg_left ?_)
    rw [h96, Ideal.div, if_neg (by norm_num), ← EReal.coe_inv]
    exact mul_nonneg (Finset.sum_nonneg fun i _ => sq_nonneg' _) (by exact_mod_cast (by norm_num : (0 : ℝ) ≤ 96⁻¹))
  simp only [div_root _ _ (hv _), EReal.neg_mul, Ideal.erfc_neg]
  rfl

variable (x0 : (⟨S1x96x384x384, .f32⟩ : BufTy).Contents (Elt Ideal))
  (x1 : (⟨S288x96x1x1, .f32⟩ : BufTy).Contents (Elt Ideal))
  (x2 : (⟨S288x1x3x3, .f32⟩ : BufTy).Contents (Elt Ideal))
  (x3 : (⟨S96x96x1x1, .f32⟩ : BufTy).Contents (Elt Ideal))
  (x4 : (⟨S4x1x1, .f32⟩ : BufTy).Contents (Elt Ideal))
  (x5 : (⟨S4, .f32⟩ : BufTy).Contents (Elt Ideal))
  (x6 : (⟨S96, .f32⟩ : BufTy).Contents (Elt Ideal))
  (x7 : (⟨S96, .f32⟩ : BufTy).Contents (Elt Ideal))
  (x8 : (⟨S192x96x1x1, .f32⟩ : BufTy).Contents (Elt Ideal))
  (x9 : (⟨S96x96x1x1, .f32⟩ : BufTy).Contents (Elt Ideal))
  (x10 : (⟨S96x1x3x3, .f32⟩ : BufTy).Contents (Elt Ideal))
  (x11 : (⟨S96x96x1x1, .f32⟩ : BufTy).Contents (Elt Ideal))
  (x12 : (⟨S96x1x3x3, .f32⟩ : BufTy).Contents (Elt Ideal))
  (x13 : (⟨S96x96x1x1, .f32⟩ : BufTy).Contents (Elt Ideal))
  (x14 : (⟨S96x1x3x3, .f32⟩ : BufTy).Contents (Elt Ideal))
  (Y : Fin 96 → ℤ → ℤ → EReal) (hY : ∀ o (r c : Fin 384), val_main_v229 x0 x1 x2 x3 x4 x5 (ix3 o r c) = Y o r c)
include hY

/-- The reference's expanded channels after the GELU. -/
theorem r_v264 (o : Fin 192) (r c : Fin 384) :
    val_main_v264 x0 x1 x2 x3 x4 x5 x6 x7 x8 (ix3 o r c) = uR (fun o => x6 (ix1 o)) (fun o => x7 (ix1 o)) (m4 x8) Y o r c := by
  unfold uR
  simp only [← hY]
  pointwise [val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_cst_40, val_main_cst_41, val_main_cst_42, val_main_cst_43, val_main_cst_44, val_main_cst_45, val_main_cst_46]
  rfl

/-- Its first gate's 1x1 convolution. -/
theorem r_v270 (o : Fin 96) (r c : Fin 384) : val_main_v270 x0 x1 x2 x3 x4 x5 x6 x7 x8 x9 (ix3 o r c)
    = conv1 (m4 x9) (fun i => uR (fun o => x6 (ix1 o)) (fun o => x7 (ix1 o)) (m4 x8) Y (lo i)) o r c := by
  unfold conv1
  simp only [← r_v264 x0 x1 x2 x3 x4 x5 x6 x7 x8 Y hY]
  pointwise [val_main_v265, val_main_v266, val_main_v267, val_main_v268, val_main_v269, val_main_v270]
  rfl

/-- That convolution, padded with zeros. -/
theorem r_v271 (o : Fin 96) (a b : Fin 386) : val_main_v271 x0 x1 x2 x3 x4 x5 x6 x7 x8 x9 (ix3 o a b)
    = msk 384 (conv1 (m4 x9) (fun i => uR (fun o => x6 (ix1 o)) (fun o => x7 (ix1 o)) (m4 x8) Y (lo i)) o) (a - 1) (b - 1) := by
  pointwise [val_main_v271, val_main_call3_v0, val_main_c_47]
  exact pad_msk (fun r c => val_main_v270 x0 x1 x2 x3 x4 x5 x6 x7 x8 x9 (ix3 o r c)) _ (fun r c => r_v270 x0 x1 x2 x3 x4 x5 x6 x7 x8 x9 Y hY o r c) _ sitofp_zero a b

/-- Its first gate. -/
theorem r_v335 (o : Fin 96) (r c : Fin 384) : val_main_v335 x0 x1 x2 x3 x4 x5 x6 x7 x8 x9 x10 (ix3 o r c)
    = g1S (m4 x9) (d4 x10) (uR (fun o => x6 (ix1 o)) (fun o => x7 (ix1 o)) (m4 x8) Y) o r c := by
  refine Eq.trans ?_ (dw_sum (fun a b => val_main_v271 x0 x1 x2 x3 x4 x5 x6 x7 x8 x9 (ix3 o a b)) _ (d4 x10 o) (r_v271 x0 x1 x2 x3 x4 x5 x6 x7 x8 x9 Y hY o) r c)
  pointwise [val_main_v272, val_main_v273, val_main_v274, val_main_v275, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309, val_main_v310, val_main_v311, val_main_v312, val_main_v313, val_main_v314, val_main_v315, val_main_v316, val_main_v317, val_main_v318, val_main_v319, val_main_v320, val_main_v321, val_main_v322, val_main_v323, val_main_v324, val_main_v325, val_main_v326, val_main_v327, val_main_v328, val_main_v329, val_main_v330, val_main_v331, val_main_v332, val_main_v333, val_main_v334, val_main_v335, val_main_cst_48]
  rfl

/-- The sum of a two by two square of pixels. -/
theorem r_v337 (o : Fin 96) (r c : Fin 192) : (val_main_v337 x0 x1 x2 x3 x4 x5 x6 x7 x8 (ix3 o r c) : EReal)
    = (fun f : ℤ → ℤ → EReal => f (2 * r) (2 * c) + f (2 * r) (2 * c + 1) + (f (2 * r + 1) (2 * c) + f (2 * r + 1) (2 * c + 1)))
      (uR (fun o => x6 (ix1 o)) (fun o => x7 (ix1 o)) (m4 x8) Y (hi o)) := by
  have e : ∀ k l : Fin 2, (val_main_v336 x0 x1 x2 x3 x4 x5 x6 x7 x8 (ix5 o r k c l) : EReal)
      = uR (fun o => x6 (ix1 o)) (fun o => x7 (ix1 o)) (m4 x8) Y (hi o) (2 * r + k) (2 * c + l) := fun k l => by
    pointwise [val_main_v336, val_main_v266]
    refine (r_v264 x0 x1 x2 x3 x4 x5 x6 x7 x8 Y hY _ _ _).trans ?_
    congr 1 <;> (push_cast; ring)
  refine (sum_squares _ _ (Ideal.ofBits_zero_f32) o r c).trans ?_
  rw [e, e, e, e]
  simp

/-- Its second gate's 1x1 convolution of the pooled channels. -/
theorem r_v343 (o : Fin 96) (r c : Fin 192) : val_main_v343 x0 x1 x2 x3 x4 x5 x6 x7 x8 x11 (ix3 o r c)
    = conv1 (m4 x11) (fun i => pool quarter (uR (fun o => x6 (ix1 o)) (fun o => x7 (ix1 o)) (m4 x8) Y (hi i))) o r c := by
  pointwise [val_main_v338, val_main_v339, val_main_v340, val_main_v341, val_main_v342, val_main_v343, val_main_cst_50]
  unfold conv1
  refine Finset.sum_congr rfl fun i _ => ?_
  rw [r_v337 x0 x1 x2 x3 x4 x5 x6 x7 x8 Y hY, quarter_div]
  rfl

/-- That convolution, padded with zeros. -/
theorem r_v344 (o : Fin 96) (a b : Fin 194) : val_main_v344 x0 x1 x2 x3 x4 x5 x6 x7 x8 x11 (ix3 o a b)
    = msk 192 (conv1 (m4 x11) (fun i => pool quarter (uR (fun o => x6 (ix1 o)) (fun o => x7 (ix1 o)) (m4 x8) Y (hi i))) o) (a - 1) (b - 1) := by
  pointwise [val_main_v344, val_main_call4_v0, val_main_c_51]
  exact pad_msk (fun r c => val_main_v343 x0 x1 x2 x3 x4 x5 x6 x7 x8 x11 (ix3 o r c)) _ (fun r c => r_v343 x0 x1 x2 x3 x4 x5 x6 x7 x8 x11 Y hY o r c) _ sitofp_zero a b

/-- Its second gate, at half resolution. -/
theorem r_v408 (o : Fin 96) (r c : Fin 192) : val_main_v408 x0 x1 x2 x3 x4 x5 x6 x7 x8 x11 x12 (ix3 o r c)
    = g2S (m4 x11) (d4 x12) (uR (fun o => x6 (ix1 o)) (fun o => x7 (ix1 o)) (m4 x8) Y) o r c := by
  refine Eq.trans ?_ (dw_sum (fun a b => val_main_v344 x0 x1 x2 x3 x4 x5 x6 x7 x8 x11 (ix3 o a b)) _ (d4 x12 o) (r_v344 x0 x1 x2 x3 x4 x5 x6 x7 x8 x11 Y hY o) r c)
  pointwise [val_main_v345, val_main_v346, val_main_v347, val_main_v348, val_main_v349, val_main_v350, val_main_v351, val_main_v352, val_main_v353, val_main_v354, val_main_v355, val_main_v356, val_main_v357, val_main_v358, val_main_v359, val_main_v360, val_main_v361, val_main_v362, val_main_v363, val_main_v364, val_main_v365, val_main_v366, val_main_v367, val_main_v368, val_main_v369, val_main_v370, val_main_v371, val_main_v372, val_main_v373, val_main_v374, val_main_v375, val_main_v376, val_main_v377, val_main_v378, val_main_v379, val_main_v380, val_main_v381, val_main_v382, val_main_v383, val_main_v384, val_main_v385, val_main_v386, val_main_v387, val_main_v388, val_main_v389, val_main_v390, val_main_v391, val_main_v392, val_main_v393, val_main_v394, val_main_v395, val_main_v396, val_main_v397, val_main_v398, val_main_v399, val_main_v400, val_main_v401, val_main_v402, val_main_v403, val_main_v404, val_main_v405, val_main_v406, val_main_v407, val_main_v408, val_main_cst_52]
  rfl

/-- The product of the two gates mapped by the third. -/
theorem r_v417 (o : Fin 96) (r c : Fin 384) : val_main_v417 x0 x1 x2 x3 x4 x5 x6 x7 x8 x9 x10 x11 x12 x13 (ix3 o r c)
    = conv1 (m4 x13) (fun i r c => g1S (m4 x9) (d4 x10) (uR (fun o => x6 (ix1 o)) (fun o => x7 (ix1 o)) (m4 x8) Y) i r c
        * g2S (m4 x11) (d4 x12) (uR (fun o => x6 (ix1 o)) (fun o => x7 (ix1 o)) (m4 x8) Y) i (r / 2) (c / 2)) o r c := by
  pointwise [val_main_v409, val_main_v410, val_main_v411, val_main_v412, val_main_v413, val_main_v414, val_main_v415, val_main_v416, val_main_v417]
  unfold conv1
  refine Finset.sum_congr rfl fun i _ => ?_
  rw [r_v335 x0 x1 x2 x3 x4 x5 x6 x7 x8 x9 x10 Y hY, r_v408 x0 x1 x2 x3 x4 x5 x6 x7 x8 x11 x12 Y hY]
  rfl

/-- That product, padded with zeros. -/
theorem r_v418 (o : Fin 96) (a b : Fin 386) : val_main_v418 x0 x1 x2 x3 x4 x5 x6 x7 x8 x9 x10 x11 x12 x13 (ix3 o a b)
    = msk 384 (conv1 (m4 x13) (fun i r c => g1S (m4 x9) (d4 x10) (uR (fun o => x6 (ix1 o)) (fun o => x7 (ix1 o)) (m4 x8) Y) i r c
        * g2S (m4 x11) (d4 x12) (uR (fun o => x6 (ix1 o)) (fun o => x7 (ix1 o)) (m4 x8) Y) i (r / 2) (c / 2)) o) (a - 1) (b - 1) := by
  pointwise [val_main_v418, val_main_call5_v0, val_main_c_53]
  exact pad_msk (fun r c => val_main_v417 x0 x1 x2 x3 x4 x5 x6 x7 x8 x9 x10 x11 x12 x13 (ix3 o r c)) _ (fun r c => r_v417 x0 x1 x2 x3 x4 x5 x6 x7 x8 x9 x10 x11 x12 x13 Y hY o r c) _ sitofp_zero a b

/-- The reference's result in terms of the attention branch. -/
theorem r_v484 (o : Fin 96) (r c : Fin 384) : val_main_v484 x0 x1 x2 x3 x4 x5 x6 x7 x8 x9 x10 x11 x12 x13 x14 (ix4 0 o r c)
    = outS (m4 x9) (m4 x11) (m4 x13) (d4 x10) (d4 x12) (d4 x14) (uR (fun o => x6 (ix1 o)) (fun o => x7 (ix1 o)) (m4 x8) Y) Y o r c := by
  have h := dw_sum (fun a b => val_main_v418 x0 x1 x2 x3 x4 x5 x6 x7 x8 x9 x10 x11 x12 x13 (ix3 o a b)) _ (d4 x14 o) (r_v418 x0 x1 x2 x3 x4 x5 x6 x7 x8 x9 x10 x11 x12 x13 Y hY o) r c
  unfold outS
  refine Eq.trans ?_ (congrArg₂ (· + ·) h (hY o r c))
  pointwise [val_main_v419, val_main_v420, val_main_v421, val_main_v422, val_main_v423, val_main_v424, val_main_v425, val_main_v426, val_main_v427, val_main_v428, val_main_v429, val_main_v430, val_main_v431, val_main_v432, val_main_v433, val_main_v434, val_main_v435, val_main_v436, val_main_v437, val_main_v438, val_main_v439, val_main_v440, val_main_v441, val_main_v442, val_main_v443, val_main_v444, val_main_v445, val_main_v446, val_main_v447, val_main_v448, val_main_v449, val_main_v450, val_main_v451, val_main_v452, val_main_v453, val_main_v454, val_main_v455, val_main_v456, val_main_v457, val_main_v458, val_main_v459, val_main_v460, val_main_v461, val_main_v462, val_main_v463, val_main_v464, val_main_v465, val_main_v466, val_main_v467, val_main_v468, val_main_v469, val_main_v470, val_main_v471, val_main_v472, val_main_v473, val_main_v474, val_main_v475, val_main_v476, val_main_v477, val_main_v478, val_main_v479, val_main_v480, val_main_v481, val_main_v482, val_main_v483, val_main_v484, val_main_cst_54]
  rfl

end Cert.Own
end
end
-- ==== Proof.R2.lean ====
module

public import proofs.«01_k».proof.Proof.R3

/-! # The reference's attention weights -/

@[expose] public section
set_option maxRecDepth 16384
noncomputable section
namespace Cert.Own
open Idealize.ShloMosaic Idealize.ShloMosaic.TcCoe Cert.ReferenceIdeal Cert.ReferenceIdeal.Gen Cert.ReferenceIdeal.Read

variable (x0 : (⟨S1x96x384x384, .f32⟩ : BufTy).Contents (Elt Ideal)) (x1 : (⟨S288x96x1x1, .f32⟩ : BufTy).Contents (Elt Ideal))
  (x2 : (⟨S288x1x3x3, .f32⟩ : BufTy).Contents (Elt Ideal)) (x4 : (⟨S4x1x1, .f32⟩ : BufTy).Contents (Elt Ideal))

/-- A row of queries, keys or values at a pixel counted along the picture. -/
def rowW (p : Fin 3) (a : Fin 96) (n : Fin 147456) : EReal :=
  qkvW x0 x1 x2 (part p a) ((n.val / 384 : ℕ) : ℤ) ((n.val % 384 : ℕ) : ℤ)

/-- The queries. -/
theorem r_v73 (h : Fin 4) (d : Fin 24) (n : Fin 147456) :
    val_main_v73 x0 x1 x2 (ix3 h d n) = rowW x0 x1 x2 0 ⟨24 * h + d, by omega⟩ n := by
  pointwise [val_main_v73, val_main_v70]
  rw [r_v69]
  unfold rowW part
  congr 1
  apply Fin.ext; dsimp only; omega
/-- The keys. -/
theorem r_v74 (h : Fin 4) (d : Fin 24) (n : Fin 147456) :
    val_main_v74 x0 x1 x2 (ix3 h d n) = rowW x0 x1 x2 1 ⟨24 * h + d, by omega⟩ n := by
  pointwise [val_main_v74, val_main_v71]
  rw [r_v69]
  unfold rowW part
  congr 1
  apply Fin.ext; simp only [Fin.val_one]; omega
/-- The values. -/
theorem r_v75 (h : Fin 4) (d : Fin 24) (n : Fin 147456) :
    val_main_v75 x0 x1 x2 (ix3 h d n) = rowW x0 x1 x2 2 ⟨24 * h + d, by omega⟩ n := by
  pointwise [val_main_v75, val_main_v72]
  rw [r_v69]
  unfold rowW part
  congr 1
  apply Fin.ext; simp only [Fin.val_two]; omega

/-- A product of arrays, at a place. -/
theorem mulf_at {s : Shape} (a b : (⟨s, .f32⟩ : BufTy).Contents (Elt Ideal)) (i : s.Idx) : mulf (F := Ideal) (φ := .f32) a b i = (a i * b i : EReal) := rfl
/-- The square of a query at a pixel. -/
theorem sq1_at (h : Fin 4) (d : Fin 24) (n : Fin 147456) : val_main_call1_v0 x0 x1 x2 (ix3 h d n) = (val_main_v73 x0 x1 x2 (ix3 h d n) * val_main_v73 x0 x1 x2 (ix3 h d n) : EReal) := by
  refine Eq.trans ?_ (mulf_at _ _ _)
  unfold val_main_call1_v0; exact Eq.refl _
/-- The square of a key at a pixel. -/
theorem sq2_at (h : Fin 4) (d : Fin 24) (n : Fin 147456) : val_main_call2_v0 x0 x1 x2 (ix3 h d n) = (val_main_v74 x0 x1 x2 (ix3 h d n) * val_main_v74 x0 x1 x2 (ix3 h d n) : EReal) := by
  refine Eq.trans ?_ (mulf_at _ _ _)
  unfold val_main_call2_v0; exact Eq.refl _
/-- The squared length of a query row. -/
theorem r_c1 (h : Fin 4) (d : Fin 24) : val_main_call1_v1 x0 x1 x2 (ix2 h d)
    = ∑ n, rowW x0 x1 x2 0 ⟨24 * h + d, by omega⟩ n * rowW x0 x1 x2 0 ⟨24 * h + d, by omega⟩ n := by
  rw [val_main_call1_v1_apply]
  have e : val_main_call1_cst (F := Ideal) (Shape.Idx.first h_S_) = (0 : EReal) := Ideal.ofBits_zero_f32
  rw [e, zero_add]
  refine Finset.sum_congr rfl fun n _ => ?_
  have e2 : idx_main_call1_v1 (ix2 h d) n = ix3 h d n := by
    funext a; match a with
    | ⟨0, _⟩ => rfl
    | ⟨1, _⟩ => rfl
    | ⟨2, _⟩ => rfl
  rw [e2]
  exact (sq1_at x0 x1 x2 h d n).trans (congrArg₂ (· * ·) (r_v73 x0 x1 x2 h d n) (r_v73 x0 x1 x2 h d n))
/-- The squared length of a key row. -/
theorem r_c2 (h : Fin 4) (d : Fin 24) : val_main_call2_v1 x0 x1 x2 (ix2 h d)
    = ∑ n, rowW x0 x1 x2 1 ⟨24 * h + d, by omega⟩ n * rowW x0 x1 x2 1 ⟨24 * h + d, by omega⟩ n := by
  rw [val_main_call2_v1_apply]
  have e : val_main_call2_cst (F := Ideal) (Shape.Idx.first h_S_) = (0 : EReal) := Ideal.ofBits_zero_f32
  rw [e, zero_add]
  refine Finset.sum_congr rfl fun n _ => ?_
  have e2 : idx_main_call2_v1 (ix2 h d) n = ix3 h d n := by
    funext a; match a with
    | ⟨0, _⟩ => rfl
    | ⟨1, _⟩ => rfl
    | ⟨2, _⟩ => rfl
  rw [e2]
  exact (sq2_at x0 x1 x2 h d n).trans (congrArg₂ (· * ·) (r_v74 x0 x1 x2 h d n) (r_v74 x0 x1 x2 h d n))

/-- The greater of a root and the least length. -/
def lenS (s : EReal) : EReal := max (Ideal.sqrt s) (Ideal.ofBits FTy.f32 0x2B8CBCCC#32)

/-- The reference's normalised queries. -/
theorem r_v80 (h : Fin 4) (d : Fin 24) (n : Fin 147456) : val_main_v80 x0 x1 x2 (ix3 h d n)
    = Ideal.div (rowW x0 x1 x2 0 ⟨24 * h + d, by omega⟩ n) (lenS (∑ n, rowW x0 x1 x2 0 ⟨24 * h + d, by omega⟩ n * rowW x0 x1 x2 0 ⟨24 * h + d, by omega⟩ n)) := by
  pointwise [val_main_v80, val_main_v79, val_main_v78, val_main_v76, val_main_v77, val_main_cst_0, val_main_call1_v2]
  rw [r_v73, r_c1]
  rfl
/-- The reference's normalised keys. -/
theorem r_v85 (h : Fin 4) (d : Fin 24) (n : Fin 147456) : val_main_v85 x0 x1 x2 (ix3 h d n)
    = Ideal.div (rowW x0 x1 x2 1 ⟨24 * h + d, by omega⟩ n) (lenS (∑ n, rowW x0 x1 x2 1 ⟨24 * h + d, by omega⟩ n * rowW x0 x1 x2 1 ⟨24 * h + d, by omega⟩ n)) := by
  pointwise [val_main_v85, val_main_v84, val_main_v83, val_main_v81, val_main_v82, val_main_cst_1, val_main_call2_v2]
  rw [r_v74, r_c2]
  rfl

/-- A sum of reals, read in the extended reals. -/
theorem coe_sumR {n : ℕ} (f : Fin n → ℝ) : ((∑ i, f i : ℝ) : EReal) = ∑ i, (f i : EReal) := by
  classical
  induction (Finset.univ : Finset (Fin n)) using Finset.induction_on with
  | empty => simp
  | insert a s ha ih => rw [Finset.sum_insert ha, Finset.sum_insert ha, EReal.coe_add, ih]

/-- The smallest length allowed is a positive real. -/
theorem eps_real : ∃ e : ℝ, 0 < e ∧ Ideal.ofBits FTy.f32 0x2B8CBCCC#32 = (e : EReal) := by
  refine ⟨_, ?_, by simp [Ideal.ofBits, Ideal.ieee, -EReal.coe_mul]; rfl⟩
  positivity

/-- If a sum of squares is not infinite, everything squared in it is real. -/
theorem real_of_sum {n : ℕ} (q : Fin n → EReal) (h : ∑ i, q i * q i ≠ ⊤) : ∃ a : Fin n → ℝ, q = fun i => (a i : EReal) := by
  have hq : ∀ i, q i ≠ ⊤ ∧ q i ≠ ⊥ := fun i => by
    have hle : q i * q i ≤ ∑ i, q i * q i := Finset.single_le_sum (f := fun i => q i * q i) (fun i _ => sq_nonneg' (q i)) (Finset.mem_univ i)
    constructor
    · intro e; rw [e] at hle; exact h (top_le_iff.mp (by simpa using hle))
    · intro e; rw [e] at hle; exact h (top_le_iff.mp (by simpa using hle))
  exact ⟨fun i => (q i).toReal, funext fun i => (EReal.coe_toReal (hq i).1 (hq i).2).symm⟩

/-- A length is infinite with its square, and otherwise a positive real. -/
theorem lenS_cases (s : EReal) (hs : 0 ≤ s) : (s = ⊤ ∧ lenS s = ⊤) ∨ (s ≠ ⊤ ∧ ∃ l : ℝ, 0 < l ∧ lenS s = (l : EReal)) := by
  obtain ⟨e, he, hE⟩ := eps_real
  unfold lenS
  rw [hE]
  induction s with
  | top => exact Or.inl ⟨rfl, top_le_iff.mp (le_max_left (⊤ : EReal) _)⟩
  | bot => exact absurd hs (by simp)
  | coe r =>
    refine Or.inr ⟨EReal.coe_ne_top r, max (Real.sqrt r) e, lt_max_of_lt_right he, ?_⟩
    rw [Ideal.sqrt_coe, if_neg (not_lt.mpr (by exact_mod_cast hs))]
    exact (EReal.coe_strictMono.monotone.map_max (a := Real.sqrt r) (b := e)).symm

/-- Division by a positive real is the product with its inverse. -/
theorem div_real (x : EReal) (l : ℝ) (hl : 0 < l) : Ideal.div x (l : EReal) = x * ((l⁻¹ : ℝ) : EReal) := by
  unfold Ideal.div
  rw [if_neg (by exact_mod_cast hl.ne'), EReal.coe_inv]

/-- Division by infinity gives zero. -/
theorem div_top' (x : EReal) : Ideal.div x ⊤ = 0 := by
  unfold Ideal.div
  simp

/-- A product of rows brought to length one is the product of the rows over their lengths. -/
theorem unit_dot {n : ℕ} (q k : Fin n → EReal) :
    ∑ i, Ideal.div (q i) (lenS (∑ i, q i * q i)) * Ideal.div (k i) (lenS (∑ i, k i * k i))
      = invn (∑ i, q i * q i) * (∑ i, q i * k i) * invn (∑ i, k i * k i) := by
  have hq0 : 0 ≤ ∑ i, q i * q i := Finset.sum_nonneg fun i _ => sq_nonneg' (q i)
  have hk0 : 0 ≤ ∑ i, k i * k i := Finset.sum_nonneg fun i _ => sq_nonneg' (k i)
  change _ = Ideal.div 1 (lenS (∑ i, q i * q i)) * _ * Ideal.div 1 (lenS (∑ i, k i * k i))
  rcases lenS_cases _ hq0 with ⟨-, h⟩ | ⟨hq, l, hl, h⟩
  · rw [h]; simp [div_top']
  rcases lenS_cases _ hk0 with ⟨-, h'⟩ | ⟨hk, l', hl', h'⟩
  · rw [h']; simp [div_top']
  rw [h, h']
  obtain ⟨a, rfl⟩ := real_of_sum q hq
  obtain ⟨b, rfl⟩ := real_of_sum k hk
  simp only [div_real _ _ hl, div_real _ _ hl', one_mul, ← EReal.coe_mul, ← coe_sumR]
  congr 1
  rw [Finset.mul_sum, Finset.sum_mul]
  exact Finset.sum_congr rfl fun i _ => by ring

/-- The attention weights before the selection. -/
theorem r_v88 (h : Fin 4) (d e : Fin 24) :
    val_main_v88 x0 x1 x2 x4 (ix3 h d e) = attW x0 x1 x2 x4 h d e := by
  have e1 : val_main_v88 x0 x1 x2 x4 (ix3 h d e) = (val_main_v86 x0 x1 x2 (ix3 h d e) * x4 (ix3 h 0 0) : EReal) := by
    pointwise [val_main_v88, val_main_v87]
  rw [e1, val_main_v86_apply]
  have el : ∀ n, lidx_main_v86 (ix3 h d e) n = ix3 h d n := fun n => by
    funext a; match a with
    | ⟨0, _⟩ => rfl
    | ⟨1, _⟩ => rfl
    | ⟨2, _⟩ => rfl
  have er : ∀ n, ridx_main_v86 (ix3 h d e) n = ix3 h e n := fun n => by
    funext a; match a with
    | ⟨0, _⟩ => rfl
    | ⟨1, _⟩ => rfl
    | ⟨2, _⟩ => rfl
  simp only [el, er, r_v80, r_v85]
  rw [unit_dot]
  rfl

/-- With a finite temperature the attention weights are real. -/
theorem attW_real (t : Fin 4 → ℝ) (ht : ∀ h, x4 (ix3 h 0 0) = (t h : EReal)) :
    ∃ A : Fin 4 → Fin 24 → Fin 24 → ℝ, ∀ h d e, attW x0 x1 x2 x4 h d e = (A h d e : EReal) := by
  have key : ∀ h d e, ∃ r : ℝ, attW x0 x1 x2 x4 h d e = (r : EReal) := fun h d e => by
    have hd : attW x0 x1 x2 x4 h d e = invn (∑ n, rowW x0 x1 x2 0 ⟨24 * h + d, by omega⟩ n * rowW x0 x1 x2 0 ⟨24 * h + d, by omega⟩ n)
        * (∑ n, rowW x0 x1 x2 0 ⟨24 * h + d, by omega⟩ n * rowW x0 x1 x2 1 ⟨24 * h + e, by omega⟩ n)
        * invn (∑ n, rowW x0 x1 x2 1 ⟨24 * h + e, by omega⟩ n * rowW x0 x1 x2 1 ⟨24 * h + e, by omega⟩ n) * x4 (ix3 h 0 0) := rfl
    rw [hd, ht]
    generalize rowW x0 x1 x2 0 ⟨24 * h + d, _⟩ = q
    generalize rowW x0 x1 x2 1 ⟨24 * h + e, _⟩ = k
    have hq0 : 0 ≤ ∑ i, q i * q i := Finset.sum_nonneg fun i _ => sq_nonneg' (q i)
    have hk0 : 0 ≤ ∑ i, k i * k i := Finset.sum_nonneg fun i _ => sq_nonneg' (k i)
    change ∃ r : ℝ, Ideal.div 1 (lenS (∑ i, q i * q i)) * _ * Ideal.div 1 (lenS (∑ i, k i * k i)) * _ = _
    rcases lenS_cases _ hq0 with ⟨-, h⟩ | ⟨hq, l, hl, h⟩
    · exact ⟨0, by rw [h]; simp [div_top']⟩
    rcases lenS_cases _ hk0 with ⟨-, h'⟩ | ⟨hk, l', hl', h'⟩
    · exact ⟨0, by rw [h']; simp [div_top']⟩
    rw [h, h']
    obtain ⟨a, rfl⟩ := real_of_sum q hq
    obtain ⟨b, rfl⟩ := real_of_sum k hk
    simp only [div_real _ _ hl, div_real _ _ hl', one_mul, ← EReal.coe_mul, ← coe_sumR]
    exact ⟨_, rfl⟩
  choose A hA using key
  exact ⟨A, hA⟩
end Cert.Own
end
end
-- ==== Proof.R4.lean ====
module

public import proofs.«01_k».proof.Proof.R2
public import Idealize.ShloMosaic.Lib.SortFacts
public import Idealize.ShloMosaic.Lib.ScatterToDense.RefScatter

/-! # Keeping the greatest entries of a list

A list is sorted, greater entries first and equal ones in their order, so the entry put at place `j` is the one of rank `j`. Writing
the first `k` of them back to where they came from keeps exactly the entries of rank below `k`. -/

@[expose] public section
set_option maxRecDepth 16384
noncomputable section
namespace Cert.Own
open Idealize.ShloMosaic Idealize.ShloMosaic.TcCoe Idealize.ShloMosaic.LaneScatter Idealize.ShloMosaic.ScatterToDense

/-- `a` goes before `b`: it is greater, or equal and earlier. -/
def ahead {n : ℕ} (f : Fin n → EReal) (a b : Fin n) : Prop := f b < f a ∨ f a = f b ∧ a < b

/-- Sorting by "greater". -/
def byGt {n : ℕ} (f : Fin n → EReal) (a b : Fin n) : Bool := decide (f b < f a)

/-- Putting an entry in front of a sorted list of later ones keeps it sorted. -/
theorem insert_ahead {n : ℕ} (f : Fin n → EReal) (a : Fin n) (l : List (Fin n)) (hl : l.Pairwise (ahead f)) (ha : ∀ b ∈ l, a < b) :
    (insertBefore (byGt f) a l).Pairwise (ahead f) := by
  induction l with
  | nil => simp [insertBefore]
  | cons b l ih =>
    have hl' := List.pairwise_cons.mp hl
    unfold insertBefore
    split
    · rename_i hb
      have hb' : f a < f b := by simpa [byGt] using hb
      refine List.pairwise_cons.mpr ⟨fun c hc => ?_, ih hl'.2 fun c hc => ha c (List.mem_cons_of_mem _ hc)⟩
      rcases List.mem_cons.mp ((perm_insertBefore _ a l).mem_iff.mp hc) with rfl | hc
      · exact Or.inl hb'
      · exact hl'.1 c hc
    · rename_i hb
      have hb' : f b ≤ f a := by simpa [byGt] using hb
      have hab : ahead f a b := by
        rcases hb'.lt_or_eq with h | h
        · exact Or.inl h
        · exact Or.inr ⟨h.symm, ha b (List.mem_cons_self ..)⟩
      refine List.pairwise_cons.mpr ⟨fun c hc => ?_, hl⟩
      rcases List.mem_cons.mp hc with rfl | hc'
      · exact hab
      · have hc2 := ha c hc
        rcases hl'.1 c hc' with h | ⟨h, -⟩
        · exact Or.inl (h.trans_le hb')
        · rcases hab with h' | ⟨h', -⟩
          · exact Or.inl (h ▸ h')
          · exact Or.inr ⟨h'.trans h, hc2⟩

/-- The stable sort of an increasing list of places. -/
theorem sort_ahead {n : ℕ} (f : Fin n → EReal) (l : List (Fin n)) (hl : l.Pairwise (· < ·)) : (stableSort (byGt f) l).Pairwise (ahead f) := by
  induction l with
  | nil => simp [stableSort]
  | cons a l ih =>
    have hl' := List.pairwise_cons.mp hl
    exact insert_ahead f a _ (ih hl'.2) fun b hb => hl'.1 b ((perm_stableSort _ l).mem_iff.mp hb)

/-- The place whose entry the sort puts at `j`. -/
def src {n : ℕ} (f : Fin n → EReal) (j : Fin n) : Fin n := sortedFrom (byGt f) j

/-- Of two positions of the sorted list the first holds the entry that comes before. -/
theorem src_ahead {n : ℕ} (f : Fin n → EReal) (i j : Fin n) (h : i < j) : ahead f (src f i) (src f j) := by
  have hp := List.pairwise_iff_get.mp (sort_ahead f (List.finRange n) (List.pairwise_lt_finRange n))
  exact hp ⟨i, _⟩ ⟨j, _⟩ h

/-- Two entries do not both come before each other. -/
theorem not_ahead {n : ℕ} (f : Fin n → EReal) (a b : Fin n) (h : ahead f a b) : ¬ ahead f b a := by
  rcases h with h | ⟨h, h'⟩
  · rintro (g | ⟨g, -⟩)
    · exact absurd h (not_lt.mpr g.le)
    · exact absurd h (by rw [g]; exact lt_irrefl _)
  · rintro (g | ⟨-, g⟩)
    · exact absurd g (by rw [h]; exact lt_irrefl _)
    · exact absurd h' (not_lt.mpr g.le)

/-- The entry the sort puts at `j` has rank `j`. -/
theorem rank_src {n : ℕ} (f : Fin n → EReal) (j : Fin n) : rank f (src f j) = j := by
  classical
  have hbij : Function.Bijective (src f) := ⟨sortedFrom_injective _, sortedFrom_surjective _⟩
  have e : (Finset.univ.filter fun p => ahead f p (src f j)) = (Finset.univ.filter fun i : Fin n => i < j).image (src f) := by
    ext p
    obtain ⟨i, rfl⟩ := hbij.2 p
    simp only [Finset.mem_filter, Finset.mem_univ, true_and, Finset.mem_image]
    constructor
    · intro h
      refine ⟨i, ?_, rfl⟩
      rcases lt_trichotomy i j with hij | rfl | hij
      · exact hij
      · exact absurd h (not_ahead f _ _ h)
      · exact absurd h (not_ahead f _ _ (src_ahead f j i hij))
    · rintro ⟨i', hi', he⟩
      rw [← hbij.1 he]
      exact src_ahead f i' j hi'
  have : rank f (src f j) = (Finset.univ.filter fun p => ahead f p (src f j)).card := by
    unfold rank
    congr 1
    ext p
    rw [Finset.mem_filter, Finset.mem_filter]
    rfl
  rw [this, e, Finset.card_image_of_injective _ hbij.1]
  have : (Finset.univ.filter fun i : Fin n => i < j) = Finset.Iio j := by
    ext i
    simp
  rw [this, Fin.card_Iio]

/-- The entries of rank below `k`, the others least. -/
def keep {n : ℕ} (f : Fin n → EReal) (k : ℕ) (p : Fin n) : EReal := if rank f p < k then f p else ⊥

/-- Writing the first `k` sorted entries back. -/
theorem GS_keep (f : Fin 576 → EReal) (k : ℕ) (hk : k ≤ 576) (word : ℕ → BitVec 32) (val : ℕ → EReal)
    (hw : ∀ j : Fin 576, j.val < k → word j = BitVec.ofNat 32 (src f j)) (hv : ∀ j : Fin 576, j.val < k → val j = f (src f j)) (p : Fin 576) :
    GS word val ⊥ p.val k = keep f k p := by
  obtain ⟨i, rfl⟩ := sortedFrom_surjective (byGt f) p
  change GS word val ⊥ (src f i).val k = keep f k (src f i)
  have hto : ∀ j : Fin 576, j.val < k → (word j).toNat = (src f j).val := fun j hj => by
    rw [hw j hj, BitVec.toNat_ofNat]; omega
  unfold keep
  rw [rank_src]
  rcases lastHit_cases (fun t => (src f i).val = (word t).toNat) val ⊥ k with ⟨j, hj, hh, -, hl⟩ | ⟨hn, hl⟩
  · refine hl.trans ?_
    have h1 : src f i = src f ⟨j, by omega⟩ := Fin.ext (hh.trans (hto ⟨j, by omega⟩ hj))
    have h2 : i = ⟨j, by omega⟩ := sortedFrom_injective _ h1
    rw [if_pos (by rw [h2]; exact hj), h1]
    exact hv ⟨j, by omega⟩ hj
  · refine hl.trans ?_
    rw [if_neg]
    intro h
    exact hn i h (hto i h).symm

/-- A word wrapped when negative. -/
theorem wrap_ofNat (n : ℕ) (hn : n < 2 ^ 31) (a : BitVec 32) :
    Scalar.select (IntOp.cmpi .slt (BitVec.ofNat 32 n) 0#32) (IntOp.addi (BitVec.ofNat 32 n) a) (BitVec.ofNat 32 n) = BitVec.ofNat 32 n :=
  Routing.wrap_of_lt _ _ (by rw [BitVec.toNat_ofNat]; omega)

/-- The sort's values and places, along the second axis of a 4 by 576 array. -/
theorem topK_at (k : ℕ) (hs : (⟨2, ![4, 576]⟩ : Shape).Slices (fun _ => 0) ⟨2, ![4, k]⟩) (x : (⟨2, ![4, 576]⟩ : Shape).Idx → EReal)
    (f : Fin 576 → EReal) (h : Fin 4) (hf : ∀ p, x (ix2 h p) = f p) (j : Fin k) (hj : j.val < 576) :
    (Host.topK (s := ⟨2, ![4, 576]⟩) ⟨2, ![4, k]⟩ 1 (FloatOps.cmpfTotal (F := Ideal) (φ := .f32) .gt) x hs).1 (ix2 h j) = f (src f ⟨j, hj⟩)
      ∧ (Host.topK (s := ⟨2, ![4, 576]⟩) ⟨2, ![4, k]⟩ 1 (FloatOps.cmpfTotal (F := Ideal) (φ := .f32) .gt) x hs).2 (ix2 h j)
        = BitVec.ofNat 32 (src f ⟨j, hj⟩).val := by
  have ea : ∀ q r : Fin 576, (ix2 h q : (⟨2, ![4, 576]⟩ : Shape).Idx).along 1 r = ix2 h r := fun q r => by
    funext a; match a with
    | ⟨0, _⟩ => rfl
    | ⟨1, _⟩ => rfl
  have eb : (fun a b : Fin 576 => FloatOps.cmpfTotal (F := Ideal) (φ := .f32) CmpDirection.gt (f a) (f b) == 1#1) = byGt f := by
    funext a b
    unfold byGt
    rw [Ideal.cmpfTotal_def]
    by_cases hab : f b < f a
    · simp [Ideal.cmp, hab, CmpDirection.ordered]
    · simp [Ideal.cmp, hab, CmpDirection.ordered]
  have ei : (fun a => ⟨(fun _ => 0) a + ((ix2 h j : (⟨2, ![4, k]⟩ : Shape).Idx) (a.cast hs.1.symm)).val,
      Nat.lt_of_lt_of_le (Nat.add_lt_add_left (Fin.isLt _) _) (hs.2 a)⟩ : (⟨2, ![4, 576]⟩ : Shape).Idx) = ix2 h ⟨j, hj⟩ := by
    funext a; match a with
    | ⟨0, _⟩ => exact Fin.ext (Nat.zero_add _)
    | ⟨1, _⟩ => exact Fin.ext (Nat.zero_add _)
  have es : sortedFrom (fun a b : Fin 576 => FloatOps.cmpfTotal (F := Ideal) (φ := .f32) CmpDirection.gt
      (x ((ix2 h ⟨j, hj⟩ : (⟨2, ![4, 576]⟩ : Shape).Idx).along 1 a)) (x ((ix2 h ⟨j, hj⟩ : (⟨2, ![4, 576]⟩ : Shape).Idx).along 1 b)) == 1#1) ⟨j, hj⟩ = src f ⟨j, hj⟩ := by
    simp only [ea, hf, eb]
    rfl
  constructor
  · unfold Host.topK extractStridedSlice
    dsimp only
    rw [ei]
    unfold Host.sort2
    rw [dif_pos (by decide)]
    refine Eq.trans (congrArg x ((congrArg ((ix2 h ⟨j, hj⟩ : (⟨2, ![4, 576]⟩ : Shape).Idx).along 1) es).trans (ea _ _))) (hf _)
  · unfold Host.topK extractStridedSlice
    dsimp only
    rw [ei]
    unfold Host.sort2
    rw [dif_pos (by decide)]
    dsimp only
    generalize hg : sortedFrom _ _ = q
    have hq : q = src f ⟨j, hj⟩ := hg.symm.trans es
    clear hg es
    rw [dif_pos (by decide), hq]
    exact (congrArg (iotaInDim (⟨2, ![4, 576]⟩ : Shape) 32 1) (ea ⟨j, hj⟩ (src f ⟨j, hj⟩))).trans rfl

/-- Writing the first `k` sorted entries of each row back into a least array. -/
theorem scatter_keep (k : ℕ) (hk : k ≤ 576) (dm : ScatterDims (⟨2, ![4, 576]⟩ : Shape) ⟨3, ![4, k, 2]⟩ ⟨2, ![4, k]⟩)
    (hiw : dm.insertedWindowDims = [0, 1]) (hsd : dm.scatterDimsToOperandDims = [0, 1]) (hivd : dm.indexVectorDim = 2)
    (x0 : (⟨2, ![4, 576]⟩ : Shape).Idx → EReal) (idx : IVec ⟨3, ![4, k, 2]⟩ 32) (upd : (⟨2, ![4, k]⟩ : Shape).Idx → EReal)
    (F : Fin 4 → Fin 576 → EReal) (hx : ∀ h p, x0 (ix2 h p) = ⊥)
    (htok : ∀ (h : Fin 4) (j : Fin k), idx (ix3 h j 0) = BitVec.ofNat 32 h.val)
    (hword : ∀ (h : Fin 4) (j : Fin k), idx (ix3 h j 1) = BitVec.ofNat 32 (src (F h) ⟨j, by omega⟩).val)
    (hval : ∀ (h : Fin 4) (j : Fin k), upd (ix2 h j) = F h (src (F h) ⟨j, by omega⟩)) (h : Fin 4) (p : Fin 576) :
    Host.scatter dm (fun _ b => b) x0 idx upd (ix2 h p) = keep (F h) k p := by
  have g := scatter_eq_GS dm hiw hsd hivd (by decide) (by decide) x0 idx upd
    (fun h j => if hj : j < 576 then BitVec.ofNat 32 (src (F h) ⟨j, hj⟩).val else 0#32) (fun h j => if hj : j < 576 then F h (src (F h) ⟨j, hj⟩) else 0)
    htok (fun h j => by rw [dif_pos (by omega)]; exact hword h j) (fun h j => by rw [dif_pos (by omega)]; exact hval h j) h p
  refine g.trans ((congrArg (fun z => GS _ _ z p.val k) (hx h p)).trans ?_)
  exact GS_keep (F h) k hk _ _ (fun j _ => dif_pos j.isLt) (fun j _ => dif_pos j.isLt) p

/-! ## Their softmax -/

/-- A greatest entry of a list of reals. -/
theorem top_at (f : Fin 576 → EReal) : rank f (src f 0) = 0 ∧ top f = f (src f 0) := by
  have h0 : rank f (src f 0) = 0 := rank_src f 0
  refine ⟨h0, le_antisymm (Finset.sup_le fun p _ => ?_) (Finset.le_sup (f := f) (Finset.mem_univ _))⟩
  by_contra hlt
  have hm : p ∈ Finset.univ.filter fun p => f (src f 0) < f p ∨ f p = f (src f 0) ∧ p < src f 0 :=
    Finset.mem_filter.mpr ⟨Finset.mem_univ _, Or.inl (not_le.mp hlt)⟩
  exact absurd h0 (Finset.card_ne_zero_of_mem hm)

/-- The greatest kept entry. -/
theorem sup_keep (f : Fin 576 → EReal) (k : ℕ) (hk : 0 < k) : Finset.univ.fold max ⊥ (keep f k) = top f := by
  change Finset.univ.sup (keep f k) = top f
  refine le_antisymm (Finset.sup_mono_fun fun p _ => ?_) ?_
  · unfold keep
    split_ifs
    · exact le_refl _
    · exact bot_le
  · rw [(top_at f).2]
    refine le_trans (le_of_eq ?_) (Finset.le_sup (f := keep f k) (Finset.mem_univ (src f 0)))
    unfold keep
    rw [if_pos (by rw [(top_at f).1]; exact hk)]

/-- The exponential of a kept entry less the greatest one. -/
theorem exp_keep (f : Fin 576 → EReal) (hf : ∃ a : Fin 576 → ℝ, f = fun p => (a p : EReal)) (k : ℕ) (p : Fin 576) :
    Ideal.exp (keep f k p - top f) = em f k p := by
  obtain ⟨a, rfl⟩ := hf
  unfold keep em
  split_ifs
  · rfl
  · rw [sub_eq_add_neg, EReal.bot_add]
    rfl

/-- The exponentials have a positive sum. -/
theorem sum_em_ne (f : Fin 576 → EReal) (hf : ∃ a : Fin 576 → ℝ, f = fun p => (a p : EReal)) (k : ℕ) (hk : 0 < k) : (∑ p, em f k p) ≠ 0 := by
  have h0 : ∀ p, 0 ≤ em f k p := fun p => by
    obtain ⟨a, rfl⟩ := hf
    unfold em
    split_ifs
    · rw [(top_at _).2, ← EReal.coe_sub, Ideal.exp_coe]
      exact_mod_cast (Real.exp_pos _).le
    · exact le_refl _
  have h1 : em f k (src f 0) = 1 := by
    have ht := top_at f
    unfold em
    rw [ht.1, if_pos hk, ht.2]
    obtain ⟨a, rfl⟩ := hf
    rw [← EReal.coe_sub, sub_self, Ideal.exp_coe, Real.exp_zero]
    rfl
  have := Finset.single_le_sum (f := em f k) (fun p _ => h0 p) (Finset.mem_univ (src f 0))
  rw [h1] at this
  exact (lt_of_lt_of_le zero_lt_one this).ne'

/-- Scaling before or after the division. -/
theorem scale_div (x z m : EReal) (hz : z ≠ 0) : Ideal.div x z * m = Ideal.div (m * x) z := by
  unfold Ideal.div
  rw [if_neg hz, if_neg hz, mul_right_comm, mul_comm x m]

/-- The softmax of a kept list. -/
theorem soft_keep (f : Fin 576 → EReal) (hf : ∃ a : Fin 576 → ℝ, f = fun p => (a p : EReal)) (k : ℕ) (hk : 0 < k) (g : Fin 576 → EReal) (hg : ∀ p, g p = keep f k p)
    (b s m : EReal) (hb : b = ⊥) (hs : s = Finset.univ.fold max b g) (p : Fin 576) :
    Ideal.div (Ideal.exp (g p - max b s)) (∑ p, Ideal.exp (g p - max b s)) * m = Ideal.div (m * em f k p) (∑ p, em f k p) := by
  have hg' : g = keep f k := funext hg
  subst hg'
  rw [hs, hb, max_eq_right bot_le, sup_keep f k hk]
  simp only [exp_keep f hf]
  exact scale_div _ _ _ (sum_em_ne f hf k hk)
end Cert.Own
end
end
-- ==== Proof.R5.lean ====
module

public import proofs.«01_k».proof.Proof.R4

/-! # The reference's selections, its mixture and its output projection -/

@[expose] public section
set_option maxRecDepth 16384
noncomputable section
namespace Cert.Own
open Idealize.ShloMosaic Idealize.ShloMosaic.TcCoe Cert.ReferenceIdeal Cert.ReferenceIdeal.Gen Cert.ReferenceIdeal.Read

variable (x0 : (⟨S1x96x384x384, .f32⟩ : BufTy).Contents (Elt Ideal)) (x1 : (⟨S288x96x1x1, .f32⟩ : BufTy).Contents (Elt Ideal))
  (x2 : (⟨S288x1x3x3, .f32⟩ : BufTy).Contents (Elt Ideal)) (x4 : (⟨S4x1x1, .f32⟩ : BufTy).Contents (Elt Ideal))

/-- The exponential of an entry less the greatest of its row. -/
theorem ex_at (y : (⟨S4x576, .f32⟩ : BufTy).Contents (Elt Ideal)) (z : (⟨S4, .f32⟩ : BufTy).Contents (Elt Ideal)) (h : Fin 4) (p : Fin 576) :
    Host.exp (F := Ideal) (φ := .f32) (subf y (broadcastInDim S4x576 ![0, 1] bcast_S4x1_S4x576_0_1 (broadcastInDim S4x1 ![0] bcast_S4_S4x1_0
      (maximumf (F := Ideal) (φ := .f32) (broadcastInDim S4 ![] bcast_S_S4 (constant S_ .f32 0xFF800000#32)) z)))) (ix2 h p)
      = Ideal.exp (y (ix2 h p) - max (Ideal.ofBits FTy.f32 0xFF800000#32) (z (ix1 h))) := by
  pointwise []

/-- A head's attention weights row by row. -/
theorem r_v89 (h : Fin 4) (p : Fin 576) : val_main_v89 x0 x1 x2 x4 (ix2 h p) = flat (attW x0 x1 x2 x4 h) p := by
  pointwise [val_main_v89]
  rw [r_v88]
  rfl

/-- The kept weights, of 288. -/
theorem r_107 (h : Fin 4) (p : Fin 576) : val_main_v107 x0 x1 x2 x4 (ix2 h p) = keep (flat (attW x0 x1 x2 x4 h)) 288 p := by
  have hi : ∀ (h : Fin 4) (j : Fin 288), val_main_indices x0 x1 x2 x4 (ix2 h j) = BitVec.ofNat 32 (src (flat (attW x0 x1 x2 x4 h)) ⟨j, by omega⟩).val := fun h j =>
    (topK_at 288 _ _ _ h (r_v89 x0 x1 x2 x4 h) j (by omega)).2
  have hv : ∀ (h : Fin 4) (j : Fin 288), val_main_values x0 x1 x2 x4 (ix2 h j) = flat (attW x0 x1 x2 x4 h) (src (flat (attW x0 x1 x2 x4 h)) ⟨j, by omega⟩) := fun h j =>
    (topK_at 288 _ _ _ h (r_v89 x0 x1 x2 x4 h) j (by omega)).1
  have hx : ∀ (h : Fin 4) (p : Fin 576), val_main_v92 (F := Ideal) (ix2 h p) = (⊥ : EReal) := fun h p => by
    pointwise [val_main_v92, val_main_cst_2]
    exact ofBits_neg_inf
  have h0 : ∀ (h : Fin 4) (j : Fin 288), val_main_v106 x0 x1 x2 x4 (ix3 h j 0) = BitVec.ofNat 32 h.val := fun h j => by
    pointwise [val_main_v106, val_main_v105, val_main_v104, val_main_v103, val_main_v102, val_main_v101, val_main_v100, val_main_c_6, val_main_v99, val_main_v98, val_main_c_5, val_main_v97, val_main_v96, val_main_v95, val_main_c_4, val_main_v94, val_main_v93, val_main_c_3, val_main_v91, val_main_v90]
    exact wrap_ofNat _ (by omega) _
  have h1 : ∀ (h : Fin 4) (j : Fin 288), val_main_v106 x0 x1 x2 x4 (ix3 h j 1) = BitVec.ofNat 32 (src (flat (attW x0 x1 x2 x4 h)) ⟨j, by omega⟩).val := fun h j => by
    pointwise [val_main_v106, val_main_v105, val_main_v104, val_main_v103, val_main_v102, val_main_v101, val_main_v100, val_main_c_6, val_main_v99, val_main_v98, val_main_c_5, val_main_v97, val_main_v96, val_main_v95, val_main_c_4, val_main_v94, val_main_v93, val_main_c_3, val_main_v91, val_main_v90]
    rw [hi]
    exact wrap_ofNat _ (by omega) _
  unfold val_main_v107
  exact scatter_keep 288 (by decide) _ rfl rfl rfl _ _ _ (fun h => flat (attW x0 x1 x2 x4 h)) hx h0 h1 hv h p

/-- The greatest of the 288 kept weights. -/
theorem max_107 (h : Fin 4) : val_main_v108 x0 x1 x2 x4 (ix1 h) = Finset.univ.fold max (Ideal.ofBits FTy.f32 0xFF800000#32) (fun p => val_main_v107 x0 x1 x2 x4 (ix2 h p)) := by
  pointwise [val_main_v108, val_main_cst_7]
/-- Their exponentials. -/
theorem exp_107 (h : Fin 4) (p : Fin 576) : val_main_v114 x0 x1 x2 x4 (ix2 h p) = Ideal.exp (val_main_v107 x0 x1 x2 x4 (ix2 h p) - max (Ideal.ofBits FTy.f32 0xFF800000#32) (val_main_v108 x0 x1 x2 x4 (ix1 h))) := by
  refine Eq.trans ?_ (ex_at _ _ h p)
  unfold val_main_v114 val_main_v113 val_main_v112 val_main_v111 val_main_v110 val_main_v109 val_main_cst_8
  exact Eq.refl _
/-- The sum of the exponentials. -/
theorem sum_107 (h : Fin 4) : val_main_v115 x0 x1 x2 x4 (ix1 h) = ∑ p, val_main_v114 x0 x1 x2 x4 (ix2 h p) := by
  pointwise [val_main_v115, val_main_cst_9]
/-- The quotient by that sum. -/
theorem div_107 (h : Fin 4) (p : Fin 576) : val_main_v118 x0 x1 x2 x4 (ix2 h p) = Ideal.div (val_main_v114 x0 x1 x2 x4 (ix2 h p)) (val_main_v115 x0 x1 x2 x4 (ix1 h)) := by
  pointwise [val_main_v118, val_main_v117, val_main_v116]

/-- The softmax of the 288 kept weights, scaled. -/
theorem r_v118 (h : Fin 4) (hf : ∃ a : Fin 576 → ℝ, flat (attW x0 x1 x2 x4 h) = fun p => (a p : EReal)) (m : EReal) (p : Fin 576) :
    (val_main_v118 x0 x1 x2 x4 (ix2 h p) * m : EReal) = Ideal.div (m * em (flat (attW x0 x1 x2 x4 h)) 288 p) (∑ p, em (flat (attW x0 x1 x2 x4 h)) 288 p) := by
  rw [div_107, sum_107]
  simp only [exp_107]
  exact soft_keep _ hf 288 (by decide) _ (r_107 x0 x1 x2 x4 h) _ _ m ofBits_neg_inf (max_107 x0 x1 x2 x4 h) p

/-- The kept weights, of 384. -/
theorem r_135 (h : Fin 4) (p : Fin 576) : val_main_v135 x0 x1 x2 x4 (ix2 h p) = keep (flat (attW x0 x1 x2 x4 h)) 384 p := by
  have hi : ∀ (h : Fin 4) (j : Fin 384), val_main_indices_11 x0 x1 x2 x4 (ix2 h j) = BitVec.ofNat 32 (src (flat (attW x0 x1 x2 x4 h)) ⟨j, by omega⟩).val := fun h j =>
    (topK_at 384 _ _ _ h (r_v89 x0 x1 x2 x4 h) j (by omega)).2
  have hv : ∀ (h : Fin 4) (j : Fin 384), val_main_values_10 x0 x1 x2 x4 (ix2 h j) = flat (attW x0 x1 x2 x4 h) (src (flat (attW x0 x1 x2 x4 h)) ⟨j, by omega⟩) := fun h j =>
    (topK_at 384 _ _ _ h (r_v89 x0 x1 x2 x4 h) j (by omega)).1
  have hx : ∀ (h : Fin 4) (p : Fin 576), val_main_v120 (F := Ideal) (ix2 h p) = (⊥ : EReal) := fun h p => by
    pointwise [val_main_v120, val_main_cst_12]
    exact ofBits_neg_inf
  have h0 : ∀ (h : Fin 4) (j : Fin 384), val_main_v134 x0 x1 x2 x4 (ix3 h j 0) = BitVec.ofNat 32 h.val := fun h j => by
    pointwise [val_main_v134, val_main_v133, val_main_v132, val_main_v131, val_main_v130, val_main_v129, val_main_v128, val_main_c_16, val_main_v127, val_main_v126, val_main_c_15, val_main_v125, val_main_v124, val_main_v123, val_main_c_14, val_main_v122, val_main_v121, val_main_c_13, val_main_v91, val_main_v90]
    exact wrap_ofNat _ (by omega) _
  have h1 : ∀ (h : Fin 4) (j : Fin 384), val_main_v134 x0 x1 x2 x4 (ix3 h j 1) = BitVec.ofNat 32 (src (flat (attW x0 x1 x2 x4 h)) ⟨j, by omega⟩).val := fun h j => by
    pointwise [val_main_v134, val_main_v133, val_main_v132, val_main_v131, val_main_v130, val_main_v129, val_main_v128, val_main_c_16, val_main_v127, val_main_v126, val_main_c_15, val_main_v125, val_main_v124, val_main_v123, val_main_c_14, val_main_v122, val_main_v121, val_main_c_13, val_main_v91, val_main_v90]
    rw [hi]
    exact wrap_ofNat _ (by omega) _
  unfold val_main_v135
  exact scatter_keep 384 (by decide) _ rfl rfl rfl _ _ _ (fun h => flat (attW x0 x1 x2 x4 h)) hx h0 h1 hv h p

/-- The greatest of the 384 kept weights. -/
theorem max_135 (h : Fin 4) : val_main_v136 x0 x1 x2 x4 (ix1 h) = Finset.univ.fold max (Ideal.ofBits FTy.f32 0xFF800000#32) (fun p => val_main_v135 x0 x1 x2 x4 (ix2 h p)) := by
  pointwise [val_main_v136, val_main_cst_17]
/-- Their exponentials. -/
theorem exp_135 (h : Fin 4) (p : Fin 576) : val_main_v142 x0 x1 x2 x4 (ix2 h p) = Ideal.exp (val_main_v135 x0 x1 x2 x4 (ix2 h p) - max (Ideal.ofBits FTy.f32 0xFF800000#32) (val_main_v136 x0 x1 x2 x4 (ix1 h))) := by
  refine Eq.trans ?_ (ex_at _ _ h p)
  unfold val_main_v142 val_main_v141 val_main_v140 val_main_v139 val_main_v138 val_main_v137 val_main_cst_18
  exact Eq.refl _
/-- The sum of the exponentials. -/
theorem sum_135 (h : Fin 4) : val_main_v143 x0 x1 x2 x4 (ix1 h) = ∑ p, val_main_v142 x0 x1 x2 x4 (ix2 h p) := by
  pointwise [val_main_v143, val_main_cst_19]
/-- The quotient by that sum. -/
theorem div_135 (h : Fin 4) (p : Fin 576) : val_main_v146 x0 x1 x2 x4 (ix2 h p) = Ideal.div (val_main_v142 x0 x1 x2 x4 (ix2 h p)) (val_main_v143 x0 x1 x2 x4 (ix1 h)) := by
  pointwise [val_main_v146, val_main_v145, val_main_v144]

/-- The softmax of the 384 kept weights, scaled. -/
theorem r_v146 (h : Fin 4) (hf : ∃ a : Fin 576 → ℝ, flat (attW x0 x1 x2 x4 h) = fun p => (a p : EReal)) (m : EReal) (p : Fin 576) :
    (val_main_v146 x0 x1 x2 x4 (ix2 h p) * m : EReal) = Ideal.div (m * em (flat (attW x0 x1 x2 x4 h)) 384 p) (∑ p, em (flat (attW x0 x1 x2 x4 h)) 384 p) := by
  rw [div_135, sum_135]
  simp only [exp_135]
  exact soft_keep _ hf 384 (by decide) _ (r_135 x0 x1 x2 x4 h) _ _ m ofBits_neg_inf (max_135 x0 x1 x2 x4 h) p

/-- The kept weights, of 432. -/
theorem r_163 (h : Fin 4) (p : Fin 576) : val_main_v163 x0 x1 x2 x4 (ix2 h p) = keep (flat (attW x0 x1 x2 x4 h)) 432 p := by
  have hi : ∀ (h : Fin 4) (j : Fin 432), val_main_indices_21 x0 x1 x2 x4 (ix2 h j) = BitVec.ofNat 32 (src (flat (attW x0 x1 x2 x4 h)) ⟨j, by omega⟩).val := fun h j =>
    (topK_at 432 _ _ _ h (r_v89 x0 x1 x2 x4 h) j (by omega)).2
  have hv : ∀ (h : Fin 4) (j : Fin 432), val_main_values_20 x0 x1 x2 x4 (ix2 h j) = flat (attW x0 x1 x2 x4 h) (src (flat (attW x0 x1 x2 x4 h)) ⟨j, by omega⟩) := fun h j =>
    (topK_at 432 _ _ _ h (r_v89 x0 x1 x2 x4 h) j (by omega)).1
  have hx : ∀ (h : Fin 4) (p : Fin 576), val_main_v148 (F := Ideal) (ix2 h p) = (⊥ : EReal) := fun h p => by
    pointwise [val_main_v148, val_main_cst_22]
    exact ofBits_neg_inf
  have h0 : ∀ (h : Fin 4) (j : Fin 432), val_main_v162 x0 x1 x2 x4 (ix3 h j 0) = BitVec.ofNat 32 h.val := fun h j => by
    pointwise [val_main_v162, val_main_v161, val_main_v160, val_main_v159, val_main_v158, val_main_v157, val_main_v156, val_main_c_26, val_main_v155, val_main_v154, val_main_c_25, val_main_v153, val_main_v152, val_main_v151, val_main_c_24, val_main_v150, val_main_v149, val_main_c_23, val_main_v91, val_main_v90]
    exact wrap_ofNat _ (by omega) _
  have h1 : ∀ (h : Fin 4) (j : Fin 432), val_main_v162 x0 x1 x2 x4 (ix3 h j 1) = BitVec.ofNat 32 (src (flat (attW x0 x1 x2 x4 h)) ⟨j, by omega⟩).val := fun h j => by
    pointwise [val_main_v162, val_main_v161, val_main_v160, val_main_v159, val_main_v158, val_main_v157, val_main_v156, val_main_c_26, val_main_v155, val_main_v154, val_main_c_25, val_main_v153, val_main_v152, val_main_v151, val_main_c_24, val_main_v150, val_main_v149, val_main_c_23, val_main_v91, val_main_v90]
    rw [hi]
    exact wrap_ofNat _ (by omega) _
  unfold val_main_v163
  exact scatter_keep 432 (by decide) _ rfl rfl rfl _ _ _ (fun h => flat (attW x0 x1 x2 x4 h)) hx h0 h1 hv h p

/-- The greatest of the 432 kept weights. -/
theorem max_163 (h : Fin 4) : val_main_v164 x0 x1 x2 x4 (ix1 h) = Finset.univ.fold max (Ideal.ofBits FTy.f32 0xFF800000#32) (fun p => val_main_v163 x0 x1 x2 x4 (ix2 h p)) := by
  pointwise [val_main_v164, val_main_cst_27]
/-- Their exponentials. -/
theorem exp_163 (h : Fin 4) (p : Fin 576) : val_main_v170 x0 x1 x2 x4 (ix2 h p) = Ideal.exp (val_main_v163 x0 x1 x2 x4 (ix2 h p) - max (Ideal.ofBits FTy.f32 0xFF800000#32) (val_main_v164 x0 x1 x2 x4 (ix1 h))) := by
  refine Eq.trans ?_ (ex_at _ _ h p)
  unfold val_main_v170 val_main_v169 val_main_v168 val_main_v167 val_main_v166 val_main_v165 val_main_cst_28
  exact Eq.refl _
/-- The sum of the exponentials. -/
theorem sum_163 (h : Fin 4) : val_main_v171 x0 x1 x2 x4 (ix1 h) = ∑ p, val_main_v170 x0 x1 x2 x4 (ix2 h p) := by
  pointwise [val_main_v171, val_main_cst_29]
/-- The quotient by that sum. -/
theorem div_163 (h : Fin 4) (p : Fin 576) : val_main_v174 x0 x1 x2 x4 (ix2 h p) = Ideal.div (val_main_v170 x0 x1 x2 x4 (ix2 h p)) (val_main_v171 x0 x1 x2 x4 (ix1 h)) := by
  pointwise [val_main_v174, val_main_v173, val_main_v172]

/-- The softmax of the 432 kept weights, scaled. -/
theorem r_v174 (h : Fin 4) (hf : ∃ a : Fin 576 → ℝ, flat (attW x0 x1 x2 x4 h) = fun p => (a p : EReal)) (m : EReal) (p : Fin 576) :
    (val_main_v174 x0 x1 x2 x4 (ix2 h p) * m : EReal) = Ideal.div (m * em (flat (attW x0 x1 x2 x4 h)) 432 p) (∑ p, em (flat (attW x0 x1 x2 x4 h)) 432 p) := by
  rw [div_163, sum_163]
  simp only [exp_163]
  exact soft_keep _ hf 432 (by decide) _ (r_163 x0 x1 x2 x4 h) _ _ m ofBits_neg_inf (max_163 x0 x1 x2 x4 h) p

/-- The kept weights, of 460. -/
theorem r_191 (h : Fin 4) (p : Fin 576) : val_main_v191 x0 x1 x2 x4 (ix2 h p) = keep (flat (attW x0 x1 x2 x4 h)) 460 p := by
  have hi : ∀ (h : Fin 4) (j : Fin 460), val_main_indices_31 x0 x1 x2 x4 (ix2 h j) = BitVec.ofNat 32 (src (flat (attW x0 x1 x2 x4 h)) ⟨j, by omega⟩).val := fun h j =>
    (topK_at 460 _ _ _ h (r_v89 x0 x1 x2 x4 h) j (by omega)).2
  have hv : ∀ (h : Fin 4) (j : Fin 460), val_main_values_30 x0 x1 x2 x4 (ix2 h j) = flat (attW x0 x1 x2 x4 h) (src (flat (attW x0 x1 x2 x4 h)) ⟨j, by omega⟩) := fun h j =>
    (topK_at 460 _ _ _ h (r_v89 x0 x1 x2 x4 h) j (by omega)).1
  have hx : ∀ (h : Fin 4) (p : Fin 576), val_main_v176 (F := Ideal) (ix2 h p) = (⊥ : EReal) := fun h p => by
    pointwise [val_main_v176, val_main_cst_32]
    exact ofBits_neg_inf
  have h0 : ∀ (h : Fin 4) (j : Fin 460), val_main_v190 x0 x1 x2 x4 (ix3 h j 0) = BitVec.ofNat 32 h.val := fun h j => by
    pointwise [val_main_v190, val_main_v189, val_main_v188, val_main_v187, val_main_v186, val_main_v185, val_main_v184, val_main_c_36, val_main_v183, val_main_v182, val_main_c_35, val_main_v181, val_main_v180, val_main_v179, val_main_c_34, val_main_v178, val_main_v177, val_main_c_33, val_main_v91, val_main_v90]
    exact wrap_ofNat _ (by omega) _
  have h1 : ∀ (h : Fin 4) (j : Fin 460), val_main_v190 x0 x1 x2 x4 (ix3 h j 1) = BitVec.ofNat 32 (src (flat (attW x0 x1 x2 x4 h)) ⟨j, by omega⟩).val := fun h j => by
    pointwise [val_main_v190, val_main_v189, val_main_v188, val_main_v187, val_main_v186, val_main_v185, val_main_v184, val_main_c_36, val_main_v183, val_main_v182, val_main_c_35, val_main_v181, val_main_v180, val_main_v179, val_main_c_34, val_main_v178, val_main_v177, val_main_c_33, val_main_v91, val_main_v90]
    rw [hi]
    exact wrap_ofNat _ (by omega) _
  unfold val_main_v191
  exact scatter_keep 460 (by decide) _ rfl rfl rfl _ _ _ (fun h => flat (attW x0 x1 x2 x4 h)) hx h0 h1 hv h p

/-- The greatest of the 460 kept weights. -/
theorem max_191 (h : Fin 4) : val_main_v192 x0 x1 x2 x4 (ix1 h) = Finset.univ.fold max (Ideal.ofBits FTy.f32 0xFF800000#32) (fun p => val_main_v191 x0 x1 x2 x4 (ix2 h p)) := by
  pointwise [val_main_v192, val_main_cst_37]
/-- Their exponentials. -/
theorem exp_191 (h : Fin 4) (p : Fin 576) : val_main_v198 x0 x1 x2 x4 (ix2 h p) = Ideal.exp (val_main_v191 x0 x1 x2 x4 (ix2 h p) - max (Ideal.ofBits FTy.f32 0xFF800000#32) (val_main_v192 x0 x1 x2 x4 (ix1 h))) := by
  refine Eq.trans ?_ (ex_at _ _ h p)
  unfold val_main_v198 val_main_v197 val_main_v196 val_main_v195 val_main_v194 val_main_v193 val_main_cst_38
  exact Eq.refl _
/-- The sum of the exponentials. -/
theorem sum_191 (h : Fin 4) : val_main_v199 x0 x1 x2 x4 (ix1 h) = ∑ p, val_main_v198 x0 x1 x2 x4 (ix2 h p) := by
  pointwise [val_main_v199, val_main_cst_39]
/-- The quotient by that sum. -/
theorem div_191 (h : Fin 4) (p : Fin 576) : val_main_v202 x0 x1 x2 x4 (ix2 h p) = Ideal.div (val_main_v198 x0 x1 x2 x4 (ix2 h p)) (val_main_v199 x0 x1 x2 x4 (ix1 h)) := by
  pointwise [val_main_v202, val_main_v201, val_main_v200]

/-- The softmax of the 460 kept weights, scaled. -/
theorem r_v202 (h : Fin 4) (hf : ∃ a : Fin 576 → ℝ, flat (attW x0 x1 x2 x4 h) = fun p => (a p : EReal)) (m : EReal) (p : Fin 576) :
    (val_main_v202 x0 x1 x2 x4 (ix2 h p) * m : EReal) = Ideal.div (m * em (flat (attW x0 x1 x2 x4 h)) 460 p) (∑ p, em (flat (attW x0 x1 x2 x4 h)) 460 p) := by
  rw [div_191, sum_191]
  simp only [exp_191]
  exact soft_keep _ hf 460 (by decide) _ (r_191 x0 x1 x2 x4 h) _ _ m ofBits_neg_inf (max_191 x0 x1 x2 x4 h) p

variable (x5 : (⟨S4, .f32⟩ : BufTy).Contents (Elt Ideal)) (x3 : (⟨S96x96x1x1, .f32⟩ : BufTy).Contents (Elt Ideal))

/-- The mixture of the four softmaxes. -/
theorem r_v222 (h : Fin 4) (hf : ∃ a : Fin 576 → ℝ, flat (attW x0 x1 x2 x4 h) = fun p => (a p : EReal)) (d e : Fin 24) :
    val_main_v222 x0 x1 x2 x4 x5 (ix3 h d e) = mixW x0 x1 x2 x4 x5 h d e := by
  have g : val_main_v222 x0 x1 x2 x4 x5 (ix3 h d e) = (val_main_v118 x0 x1 x2 x4 (ix2 h (pl d e)) * x5 (ix1 0) + val_main_v146 x0 x1 x2 x4 (ix2 h (pl d e)) * x5 (ix1 1)
      + val_main_v174 x0 x1 x2 x4 (ix2 h (pl d e)) * x5 (ix1 2) + val_main_v202 x0 x1 x2 x4 (ix2 h (pl d e)) * x5 (ix1 3) : EReal) := by
    pointwise [val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v119, val_main_v147, val_main_v175]
  rw [g, r_v118 x0 x1 x2 x4 h hf, r_v146 x0 x1 x2 x4 h hf, r_v174 x0 x1 x2 x4 h hf, r_v202 x0 x1 x2 x4 h hf]
  rfl

/-- A matrix of four blocks on the diagonal, applied. -/
theorem sum_bd (f : Fin 4 → Fin 24 → Fin 24 → EReal) (V : Fin 96 → EReal) (i : Fin 96) :
    ∑ j : Fin 96, bd f i j * V j = ∑ e : Fin 24, f ⟨i / 24, by omega⟩ ⟨i % 24, by omega⟩ e * V ⟨24 * (i / 24) + e, by omega⟩ := by
  have e : ∀ j : Fin 96, ∃ (h : Fin 4) (e : Fin 24), j = ⟨h.val * 24 + e.val, by omega⟩ := fun j => ⟨⟨j / 24, by omega⟩, ⟨j % 24, by omega⟩, Fin.ext (by dsimp only; omega)⟩
  rw [← Fin.sum_mul_add_fin 4 24 fun j : Fin 96 => bd f i j * V j]
  rw [Finset.sum_eq_single (⟨i / 24, by omega⟩ : Fin 4)]
  · refine Finset.sum_congr rfl fun e _ => ?_
    have h1 : (⟨i / 24 * 24 + e, by omega⟩ : Fin 96) = ⟨24 * (i / 24) + e, by omega⟩ := Fin.ext (by dsimp only; omega)
    rw [h1]
    refine congrArg (· * _) ?_
    unfold bd
    rw [if_pos (by dsimp only; omega)]
    congr 1
    exact Fin.ext (by dsimp only; omega)
  · intro h _ hne
    refine Finset.sum_eq_zero fun e _ => ?_
    unfold bd
    rw [if_neg, zero_mul]
    intro hh
    exact hne (Fin.ext (by dsimp only at hh ⊢; omega))
  · exact fun h => absurd (Finset.mem_univ _) h

/-- The mixture applied to the values. -/
theorem r_v223 (hf : ∀ h, ∃ a : Fin 576 → ℝ, flat (attW x0 x1 x2 x4 h) = fun p => (a p : EReal)) (h : Fin 4) (d : Fin 24) (n : Fin 147456) :
    val_main_v223 x0 x1 x2 x4 x5 (ix3 h d n) = ∑ e : Fin 24, mixW x0 x1 x2 x4 x5 h d e * rowW x0 x1 x2 2 ⟨24 * h + e, by omega⟩ n := by
  have g : val_main_v223 x0 x1 x2 x4 x5 (ix3 h d n) = ∑ e : Fin 24, (val_main_v222 x0 x1 x2 x4 x5 (ix3 h d e) * val_main_v75 x0 x1 x2 (ix3 h e n) : EReal) := by
    pointwise [val_main_v223]
  rw [g]
  exact Finset.sum_congr rfl fun e _ => congrArg₂ (· * ·) (r_v222 x0 x1 x2 x4 x5 h (hf h) d e) (r_v75 x0 x1 x2 h e n)

/-- A row at a pixel. -/
theorem rowW_at (p : Fin 3) (a : Fin 96) (r c : Fin 384) : rowW x0 x1 x2 p a ⟨r * 384 + c, by omega⟩ = qkvW x0 x1 x2 (part p a) r c := by
  unfold rowW
  have h1 : (r.val * 384 + c.val) / 384 = r.val := by omega
  have h2 : (r.val * 384 + c.val) % 384 = c.val := by omega
  dsimp only
  rw [h1, h2]

/-- The attention block's output. -/
theorem r_v229 (hf : ∀ h, ∃ a : Fin 576 → ℝ, flat (attW x0 x1 x2 x4 h) = fun p => (a p : EReal)) (o : Fin 96) (r c : Fin 384) :
    val_main_v229 x0 x1 x2 x3 x4 x5 (ix3 o r c) = yW x0 x1 x2 x3 x4 x5 o r c := by
  have g : val_main_v229 x0 x1 x2 x3 x4 x5 (ix3 o r c) = ((∑ i : Fin 96, x3 (ix4 o i 0 0) * val_main_v223 x0 x1 x2 x4 x5 (ix3 ⟨i / 24, by omega⟩ ⟨i % 24, by omega⟩ ⟨r * 384 + c, by omega⟩))
      + x0 (ix4 0 o r c) : EReal) := by
    pointwise [val_main_v229, val_main_v228, val_main_v227, val_main_v226, val_main_v225, val_main_v224, val_main_v0]
  rw [g]
  unfold yW yS
  refine congrArg₂ (· + ·) (Finset.sum_congr rfl fun i _ => congrArg (x3 (ix4 o i 0 0) * ·) ?_) (im4_at _ _ _ _).symm
  rw [r_v223 x0 x1 x2 x4 x5 hf, sum_bd]
  exact Finset.sum_congr rfl fun e _ => congrArg (mixW x0 x1 x2 x4 x5 _ _ e * ·) (rowW_at x0 x1 x2 2 _ r c)
end Cert.Own
end
end
-- ==== Proof.R6.lean ====
module

public import proofs.«01_k».proof.Proof.R5

/-! # The reference's result -/

@[expose] public section
set_option maxRecDepth 16384
noncomputable section
namespace Cert.Own
open Idealize.ShloMosaic Idealize.ShloMosaic.TcCoe Cert.ReferenceIdeal Cert.ReferenceIdeal.Gen Cert.ReferenceIdeal.Read

variable (x0 : (⟨S1x96x384x384, .f32⟩ : BufTy).Contents (Elt Ideal))
  (x1 : (⟨S288x96x1x1, .f32⟩ : BufTy).Contents (Elt Ideal))
  (x2 : (⟨S288x1x3x3, .f32⟩ : BufTy).Contents (Elt Ideal))
  (x3 : (⟨S96x96x1x1, .f32⟩ : BufTy).Contents (Elt Ideal))
  (x4 : (⟨S4x1x1, .f32⟩ : BufTy).Contents (Elt Ideal))
  (x5 : (⟨S4, .f32⟩ : BufTy).Contents (Elt Ideal))
  (x6 : (⟨S96, .f32⟩ : BufTy).Contents (Elt Ideal))
  (x7 : (⟨S96, .f32⟩ : BufTy).Contents (Elt Ideal))
  (x8 : (⟨S192x96x1x1, .f32⟩ : BufTy).Contents (Elt Ideal))
  (x9 : (⟨S96x96x1x1, .f32⟩ : BufTy).Contents (Elt Ideal))
  (x10 : (⟨S96x1x3x3, .f32⟩ : BufTy).Contents (Elt Ideal))
  (x11 : (⟨S96x96x1x1, .f32⟩ : BufTy).Contents (Elt Ideal))
  (x12 : (⟨S96x1x3x3, .f32⟩ : BufTy).Contents (Elt Ideal))
  (x13 : (⟨S96x96x1x1, .f32⟩ : BufTy).Contents (Elt Ideal))
  (x14 : (⟨S96x1x3x3, .f32⟩ : BufTy).Contents (Elt Ideal))

/-- The reference's two forms of the expanded channels agree. -/
theorem uR_eq (lw lb : Fin 96 → EReal) (fw : Fin 192 → Fin 96 → EReal) (y : Fin 96 → ℤ → ℤ → EReal) : uR lw lb fw y = uS lw lb fw y :=
  funext fun o => funext fun r => funext fun c => ffnR_eq lw lb fw (fun i => y i r c) o

/-- With a finite temperature the reference computes the same function of its arguments as the kernel. -/
theorem r_out (t : Fin 4 → ℝ) (ht : ∀ h, x4 (ix3 h 0 0) = (t h : EReal)) (o : Fin 96) (r c : Fin 384) :
    val_main_v484 x0 x1 x2 x3 x4 x5 x6 x7 x8 x9 x10 x11 x12 x13 x14 (ix4 0 o r c)
      = outW x0 x1 x2 x3 x4 x5 x6 x7 x8 x9 x11 x13 x10 x12 x14 o r c := by
  obtain ⟨A, hA⟩ := attW_real x0 x1 x2 x4 t ht
  have hf : ∀ h, ∃ a : Fin 576 → ℝ, flat (attW x0 x1 x2 x4 h) = fun p => (a p : EReal) := fun h =>
    ⟨fun p => A h ⟨p / 24, by omega⟩ ⟨p % 24, by omega⟩, funext fun p => hA h _ _⟩
  refine (r_v484 x0 x1 x2 x3 x4 x5 x6 x7 x8 x9 x10 x11 x12 x13 x14 (yW x0 x1 x2 x3 x4 x5) (fun o r c => r_v229 x0 x1 x2 x4 x5 x3 hf o r c) o r c).trans ?_
  rw [uR_eq]
  rfl
end Cert.Own
end
end
-- ==== Proof.Final.lean ====
module

public import proofs.«01_k».proof.Defs
public import proofs.«01_k».proof.Proof.Run
public import proofs.«01_k».proof.Proof.R6
public import proofs.«01_k».proof.Proof.Gen.Pre_temperature_finite
public import Idealize.ShloMosaic.Lib.Pointwise

/-! # The kernel's result is the reference's -/

@[expose] public section
set_option maxRecDepth 16384
noncomputable section
namespace Cert.Own
open Idealize.ShloMosaic Idealize.ShloMosaic.TcCoe Cert.KernelIdeal Cert.KernelIdeal.Gen

/-- The float word of plus infinity is the top of the extended reals. -/
theorem ofBits_pos_inf : Ideal.ofBits FTy.f32 0x7F800000#32 = ⊤ := by
  simp [Ideal.ofBits, Ideal.ieee]

/-- A number between the infinities is real. -/
theorem real_of_bits (x : EReal) (h : IntOp.andi (Ideal.cmp .olt x (Ideal.ofBits FTy.f32 0x7F800000#32)) (Ideal.cmp .ogt x (Ideal.ofBits FTy.f32 0xFF800000#32)) = 1#1) :
    ∃ r : ℝ, x = (r : EReal) := by
  rw [ofBits_pos_inf, ofBits_neg_inf] at h
  induction x with
  | top => simp [Ideal.cmp, IntOp.andi] at h
  | bot => simp [Ideal.cmp, IntOp.andi] at h
  | coe r => exact ⟨r, rfl⟩

variable (m : (ℓ : Loc nD τ sig) → Buf (Elt Ideal) ℓ)

/-- The precondition: the temperatures are real. -/
theorem temps (h : Cert.Pre_KernelIdeal_temperature_finite m) (c : Dev nD) :
    ∃ t : Fin 4 → ℝ, ∀ q : Fin 4, (m ((c : Thread nD τ).loc main_arg4) : Buf (Elt Ideal) ((c : Thread nD τ).loc main_arg4)) (ix3 q 0 0) = (t q : EReal) := by
  have key : ∀ q : Fin 4, ∃ r : ℝ, (m ((c : Thread nD τ).loc main_arg4) : Buf (Elt Ideal) ((c : Thread nD τ).loc main_arg4)) (ix3 q 0 0) = (r : EReal) := fun q => by
    have g := congrFun (h c) (ix3 q 0 0)
    exact real_of_bits _ g
  choose t ht using key
  exact ⟨t, ht⟩

/-- Every place of the result. -/
theorem place (i : Shape.Idx ⟨4, ![1, 96, 384, 384]⟩) : ∃ (o : Fin 96) (r c : Fin 384), i = ix4 0 o r c := by
  refine ⟨i 1, i 2, i 3, ?_⟩
  funext a
  match a with
  | ⟨0, _⟩ => exact Fin.ext (by have := (i 0).isLt; show (i 0).val = 0; exact Nat.lt_one_iff.mp this)
  | ⟨1, _⟩ => rfl
  | ⟨2, _⟩ => rfl
  | ⟨3, _⟩ => rfl

/-- The kernel's result, as the reference's function of the arguments. -/
theorem same (h : Cert.Pre_KernelIdeal_temperature_finite m) (ρ : Dev nD → PrngReg) (c : Dev nD) :
    (W5 m ρ c (Proc.devRef .tc main_v32) : Buf (Elt Ideal) ((c : Thread nD τ).loc main_v32))
      = Cert.ReferenceIdeal.Read.val_main_v484 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14)) := by
  obtain ⟨t, ht⟩ := temps m h c
  funext i
  obtain ⟨o, r, cc, rfl⟩ := place i
  exact (kernel_at m ρ c o r cc).trans (r_out _ _ _ _ _ _ _ _ _ _ _ _ _ _ _ t ht o r cc).symm

/-- The same, of arguments equal to the kernel's. -/
theorem same_of (h : Cert.Pre_KernelIdeal_temperature_finite m) (ρ : Dev nD → PrngReg) (c : Dev nD)
    {x0 : Buf (Elt Ideal) ((c : Thread nD τ).loc main_arg0)} (h0 : x0 = m ((c : Thread nD τ).loc main_arg0))
    {x1 : Buf (Elt Ideal) ((c : Thread nD τ).loc main_arg1)} (h1 : x1 = m ((c : Thread nD τ).loc main_arg1))
    {x2 : Buf (Elt Ideal) ((c : Thread nD τ).loc main_arg2)} (h2 : x2 = m ((c : Thread nD τ).loc main_arg2))
    {x3 : Buf (Elt Ideal) ((c : Thread nD τ).loc main_arg3)} (h3 : x3 = m ((c : Thread nD τ).loc main_arg3))
    {x4 : Buf (Elt Ideal) ((c : Thread nD τ).loc main_arg4)} (h4 : x4 = m ((c : Thread nD τ).loc main_arg4))
    {x5 : Buf (Elt Ideal) ((c : Thread nD τ).loc main_arg5)} (h5 : x5 = m ((c : Thread nD τ).loc main_arg5))
    {x6 : Buf (Elt Ideal) ((c : Thread nD τ).loc main_arg6)} (h6 : x6 = m ((c : Thread nD τ).loc main_arg6))
    {x7 : Buf (Elt Ideal) ((c : Thread nD τ).loc main_arg7)} (h7 : x7 = m ((c : Thread nD τ).loc main_arg7))
    {x8 : Buf (Elt Ideal) ((c : Thread nD τ).loc main_arg8)} (h8 : x8 = m ((c : Thread nD τ).loc main_arg8))
    {x9 : Buf (Elt Ideal) ((c : Thread nD τ).loc main_arg9)} (h9 : x9 = m ((c : Thread nD τ).loc main_arg9))
    {x10 : Buf (Elt Ideal) ((c : Thread nD τ).loc main_arg10)} (h10 : x10 = m ((c : Thread nD τ).loc main_arg10))
    {x11 : Buf (Elt Ideal) ((c : Thread nD τ).loc main_arg11)} (h11 : x11 = m ((c : Thread nD τ).loc main_arg11))
    {x12 : Buf (Elt Ideal) ((c : Thread nD τ).loc main_arg12)} (h12 : x12 = m ((c : Thread nD τ).loc main_arg12))
    {x13 : Buf (Elt Ideal) ((c : Thread nD τ).loc main_arg13)} (h13 : x13 = m ((c : Thread nD τ).loc main_arg13))
    {x14 : Buf (Elt Ideal) ((c : Thread nD τ).loc main_arg14)} (h14 : x14 = m ((c : Thread nD τ).loc main_arg14)) :
    Cert.ReferenceIdeal.Read.val_main_v484 (F := Ideal) x0 x1 x2 x3 x4 x5 x6 x7 x8 x9 x10 x11 x12 x13 x14 = (W5 m ρ c (Proc.devRef .tc main_v32) : Buf (Elt Ideal) ((c : Thread nD τ).loc main_v32)) := by
  subst h0 h1 h2 h3 h4 h5 h6 h7 h8 h9 h10 h11 h12 h13 h14
  exact (same m h ρ c).symm
end Cert.Own
end
end
-- ==== Proof.lean ====
/- The claims of this certificate, put together.

   The frames of the kernel and of its idealization are the generated ones, and the reference's comes from its run. The
   value claim takes the kernel's result as a function of its arguments (Proof/Run.lean, Proof/Whole.lean), the
   reference's (Proof/R6.lean), and their equality for finite temperatures (Proof/Final.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_temperature_finite
public import proofs.«01_k».proof.Proof.Final
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and has no counters. -/
theorem ref_frame : Cert.quiescent_ReferenceIdeal := fun m g _ =>
  θ_run_mono (Cert.ReferenceIdeal.Value.run m g) fun r h => ⟨fun c => (h c).2, sem_eq_zero_of_no_sems (by decide) r.2⟩

/-- The kernel and the reference end with equal results. -/
theorem equal_results : Cert.algebraic_KernelIdeal_ReferenceIdeal_pre_temperature_finite := by
  intro m g m' g' hpre hagree
  refine ⟨fun c => Cert.KernelIdeal.Gen.W5 m g c (Proc.devRef .tc Cert.KernelIdeal.main_v32), ?_, ?_⟩
  · refine θ_run_mono (θ_run_and (Cert.Own.run m g) (Cert.KernelIdeal.Gen.frame m g)) fun r h => ?_
    exact fun c => ⟨h.1 c, h.2.1 c⟩
  · refine θ_run_mono (Cert.ReferenceIdeal.Value.run m' g') fun r h => ?_
    intro c
    obtain ⟨h0, h1, h2, h3, h4, h5, h6, h7, h8, h9, h10, h11, h12, h13, h14⟩ := hagree c
    refine ⟨(h c).1.trans ?_, (h c).2⟩
    refine (Cert.ReferenceIdeal.Read.val_main_v484_eq (StableHlo.launchContents m' c)).trans ?_
    exact Cert.Own.same_of m hpre g c h0 h1 h2 h3 h4 h5 h6 h7 h8 h9 h10 h11 h12 h13 h14

/-- The claims of this certificate. -/
theorem claim : Cert.Claim := ⟨Cert.Kernel.Gen.facts, Cert.KernelIdeal.Gen.facts, Cert.ReferenceIdeal.Gen.facts, Cert.Pre_temperature_finite.Gen.facts,
  fun m g _ => Cert.Kernel.Gen.frame m g, fun m g _ => Cert.KernelIdeal.Gen.frame m g, fun m g _ => Cert.KernelIdeal.Gen.frame m g,
  ref_frame, fun m g _ => ref_frame m g trivial, trivial, equal_results⟩

end Cert.Proof

end
